-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4]⟩ ⟨2, ![1024, 32]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![4, 1024, 2048]⟩ ⟨3, ![32, 1024, 2048]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 2048, 1024]⟩ ⟨3, ![32, 2048, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1024 : Shape := ⟨2, ![128, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S8x128x1024 : Shape := ⟨3, ![8, 128, 1024]⟩
abbrev S8x4x1024 : Shape := ⟨3, ![8, 4, 1024]⟩
abbrev S4x1024 : Shape := ⟨2, ![4, 1024]⟩
abbrev S8x128x32 : Shape := ⟨3, ![8, 128, 32]⟩
abbrev S2x1024x2048 : Shape := ⟨3, ![2, 1024, 2048]⟩
abbrev S2x2048x1024 : Shape := ⟨3, ![2, 2048, 1024]⟩
abbrev S2x2 : Shape := ⟨2, ![2, 2]⟩
abbrev S8 : Shape := ⟨1, ![8]⟩
abbrev S1x1 : Shape := ⟨2, ![1, 1]⟩
abbrev S_ : Shape := ⟨0, ![]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S128x32 : Shape := ⟨2, ![128, 32]⟩
abbrev S1 : Shape := ⟨1, ![1]⟩
abbrev S1x128x1024 : Shape := ⟨3, ![1, 128, 1024]⟩
abbrev S1x4x1024 : Shape := ⟨3, ![1, 4, 1024]⟩
abbrev S32x1024 : Shape := ⟨2, ![32, 1024]⟩
abbrev S128 : Shape := ⟨1, ![128]⟩
abbrev S128x1 : Shape := ⟨2, ![128, 1]⟩
abbrev S1x128x32 : Shape := ⟨3, ![1, 128, 32]⟩
abbrev S128x2048 : Shape := ⟨2, ![128, 2048]⟩

abbrev nBuf : Space → Nat
  | .hbm => 5
  | .vmem => 13
  | .smem => 0
  | _ => 0

abbrev bufTy : (tb : Table) → Fin (tcTables nBuf tb) → BufTy
  | .hbm, ⟨0, _⟩ => ⟨S128x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S128x1024, .f32⟩
  | .local _ .vmem, ⟨0, _⟩ => ⟨S128x1024, .f32⟩
  | .local _ .vmem, ⟨1, _⟩ => ⟨S1024x4, .f32⟩
  | .local _ .vmem, ⟨2, _⟩ => ⟨S128x1024, .f32⟩
  | .local _ .vmem, ⟨3, _⟩ => ⟨S128x1024, .bf16⟩
  | .local _ .vmem, ⟨4, _⟩ => ⟨S8x128x1024, .bf16⟩
  | .local _ .vmem, ⟨5, _⟩ => ⟨S8x4x1024, .f32⟩
  | .local _ .vmem, ⟨6, _⟩ => ⟨S4x1024, .f32⟩
  | .local _ .vmem, ⟨7, _⟩ => ⟨S8x128x32, .f32⟩
  | .local _ .vmem, ⟨8, _⟩ => ⟨S8x128x1024, .f32⟩
  | .local _ .vmem, ⟨9, _⟩ => ⟨S8x128x1024, .bf16⟩
  | .local _ .vmem, ⟨10, _⟩ => ⟨S8x128x1024, .bf16⟩
  | .local _ .vmem, ⟨11, _⟩ => ⟨S2x1024x2048, .f32⟩
  | .local _ .vmem, ⟨12, _⟩ => ⟨S2x2048x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v6 : BitVec 1 := Scalar.cmpi .slt arg0 c3_i32
  let v7 : BitVec 32 := Scalar.extui v6
  let c0_i32_1 : BitVec 32 := 0#32
  let v8 : BitVec 1 := Scalar.cmpi .ne v7 c0_i32_1
  v8

def k0_off1 (i : grid0.Coords) : Fin 2 → Nat :=
  let arg0 : BitVec 32 := BitVec.ofNat 32 (i 0).val
  let c1_i32_10 : BitVec 32 := 1#32
  let v24 : BitVec 32 := Scalar.addi arg0 c1_i32_10
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_16 : BitVec 32 := 0#32
  ![v34.toNat, 0]
def k0_off2 (i : grid0.Coords) : Fin 3 → Nat :=
  let arg0 : BitVec 32 := BitVec.ofNat 32 (i 0).val
  let c1_i32_10 : BitVec 32 := 1#32
  let v24 : BitVec 32 := Scalar.addi arg0 c1_i32_10
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_17 : BitVec 32 := 0#32
  let c0_i32_18 : BitVec 32 := 0#32
  ![v34.toNat, 0, 0]
def k0_off3 (i : grid0.Coords) : Fin 3 → Nat :=
  let arg0 : BitVec 32 := BitVec.ofNat 32 (i 0).val
  let c1_i32_9 : BitVec 32 := 1#32
  let v23 : BitVec 32 := Scalar.addi arg0 c1_i32_9
  let c0_i32_19 : BitVec 32 := 0#32
  let c0_i32_20 : BitVec 32 := 0#32
  ![v23.toNat, 0, 0]
def k0_off4 (i : grid0.Coords) : Fin 2 → Nat :=
  let arg0 : BitVec 32 := BitVec.ofNat 32 (i 0).val
  let c1_i32_10 : BitVec 32 := 1#32
  let v24 : BitVec 32 := Scalar.addi arg0 c1_i32_10
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c1_i32_21 : BitVec 32 := 1#32
  ![v34.toNat, 1]
def k0_off5 (i : grid0.Coords) : Fin 3 → Nat :=
  let arg0 : BitVec 32 := BitVec.ofNat 32 (i 0).val
  let c1_i32_10 : BitVec 32 := 1#32
  let v24 : BitVec 32 := Scalar.addi arg0 c1_i32_10
  let c2_i32 : BitVec 32 := 2#32
  let c0_i32_11 : BitVec 32 := 0#32
  let v25 : BitVec 1 := Scalar.cmpi .eq c2_i32 c0_i32_11
  let c1_i32_12 : BitVec 32 := 1#32
  let v26 : BitVec 32 := Scalar.select v25 c1_i32_12 c2_i32
  let v27 : BitVec 32 := Scalar.remsi v24 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c0_i32_22 : BitVec 32 := 0#32
  let c0_i32_23 : BitVec 32 := 0#32
  ![v34.toNat, 0, 0]
def k0_off6 (i : grid0.Coords) : Fin 3 → Nat :=
  let arg0 : BitVec 32 := BitVec.ofNat 32 (i 0).val
  let c1_i32_9 : BitVec 32 := 1#32
  let v23 : BitVec 32 := Scalar.addi arg0 c1_i32_9
  let c0_i32_24 : BitVec 32 := 0#32
  let c0_i32_25 : BitVec 32 := 0#32
  ![v23.toNat, 0, 0]
def k0_cond3 (i : grid0.Coords) : BitVec 1 :=
  let arg0 : BitVec 32 := BitVec.ofNat 32 (i 0).val
  let c0_i32_2 : BitVec 32 := 0#32
  let v12 : BitVec 1 := Scalar.cmpi .eq arg0 c0_i32_2
  let v13 : BitVec 32 := Scalar.extui v12
  let c0_i32_3 : BitVec 32 := 0#32
  let v14 : BitVec 1 := Scalar.cmpi .ne v13 c0_i32_3
  v14

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_9 : BitVec 32 := 1#32
  let v24 : BitVec 32 := Scalar.addi v2 c1_i32_9
  let c8_i32_10 : BitVec 32 := 8#32
  let v25 : BitVec 32 := Scalar.remsi v24 c8_i32_10
  let c1_i32_12 : BitVec 32 := 1#32
  let v26 : BitVec 32 := Scalar.muli v25 c1_i32_12
  let v27 : BitVec 32 := Scalar.addi c0_i32_13 v26
  v27.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v28 : BitVec 32 := Scalar.addi v2 c2_i32
  let c8_i32_14 : BitVec 32 := 8#32
  let v29 : BitVec 32 := Scalar.remsi v28 c8_i32_14
  let c1_i32_16 : BitVec 32 := 1#32
  let v30 : BitVec 32 := Scalar.muli v29 c1_i32_16
  let v31 : BitVec 32 := Scalar.addi c0_i32_17 v30
  v31.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_18 : BitVec 32 := 3#32
  let v32 : BitVec 32 := Scalar.addi v2 c3_i32_18
  let c8_i32_19 : BitVec 32 := 8#32
  let v33 : BitVec 32 := Scalar.remsi v32 c8_i32_19
  let c1_i32_21 : BitVec 32 := 1#32
  let v34 : BitVec 32 := Scalar.muli v33 c1_i32_21
  let v35 : BitVec 32 := Scalar.addi c0_i32_22 v34
  v35.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_23 : BitVec 32 := 4#32
  let v36 : BitVec 32 := Scalar.addi v2 c4_i32_23
  let c8_i32_24 : BitVec 32 := 8#32
  let v37 : BitVec 32 := Scalar.remsi v36 c8_i32_24
  let c1_i32_26 : BitVec 32 := 1#32
  let v38 : BitVec 32 := Scalar.muli v37 c1_i32_26
  let v39 : BitVec 32 := Scalar.addi c0_i32_27 v38
  v39.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v40 : BitVec 32 := Scalar.addi v2 c5_i32
  let c8_i32_28 : BitVec 32 := 8#32
  let v41 : BitVec 32 := Scalar.remsi v40 c8_i32_28
  let c1_i32_30 : BitVec 32 := 1#32
  let v42 : BitVec 32 := Scalar.muli v41 c1_i32_30
  let v43 : BitVec 32 := Scalar.addi c0_i32_31 v42
  v43.toNat
def k0_dev6 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v44 : BitVec 32 := Scalar.addi v2 c6_i32
  let c8_i32_32 : BitVec 32 := 8#32
  let v45 : BitVec 32 := Scalar.remsi v44 c8_i32_32
  let c1_i32_34 : BitVec 32 := 1#32
  let v46 : BitVec 32 := Scalar.muli v45 c1_i32_34
  let v47 : BitVec 32 := Scalar.addi c0_i32_35 v46
  v47.toNat
def k0_dev7 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v48 : BitVec 32 := Scalar.addi v2 c7_i32
  let c8_i32_36 : BitVec 32 := 8#32
  let v49 : BitVec 32 := Scalar.remsi v48 c8_i32_36
  let c1_i32_38 : BitVec 32 := 1#32
  let v50 : BitVec 32 := Scalar.muli v49 c1_i32_38
  let v51 : BitVec 32 := Scalar.addi c0_i32_39 v50
  v51.toNat
def k0_off7 (d0 : Dev nD) (c1_i32_44 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v58 : BitVec 32 := Scalar.addi v2 c1_i32_44
  let c8_i32_45 : BitVec 32 := 8#32
  let v59 : BitVec 32 := Scalar.remsi v58 c8_i32_45
  ![v59.toNat]
def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_50 : BitVec 32 := 0#32
  let c0_i32_51 : BitVec 32 := 0#32
  ![v2.toNat, 0, 0]
def k0_dev8 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_46 : BitVec 32 := 1#32
  let v60 : BitVec 32 := Scalar.addi v2 c1_i32_46
  let c8_i32_47 : BitVec 32 := 8#32
  let v61 : BitVec 32 := Scalar.remsi v60 c8_i32_47
  let c1_i32_48 : BitVec 32 := 1#32
  let v62 : BitVec 32 := Scalar.muli v61 c1_i32_48
  let v63 : BitVec 32 := Scalar.addi c0_i32_49 v62
  v63.toNat
def k0_dev9 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_54 : BitVec 32 := 2#32
  let v72 : BitVec 32 := Scalar.addi v2 c2_i32_54
  let c8_i32_55 : BitVec 32 := 8#32
  let v73 : BitVec 32 := Scalar.remsi v72 c8_i32_55
  let c1_i32_56 : BitVec 32 := 1#32
  let v74 : BitVec 32 := Scalar.muli v73 c1_i32_56
  let v75 : BitVec 32 := Scalar.addi c0_i32_57 v74
  v75.toNat
def k0_dev10 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_62 : BitVec 32 := 3#32
  let v84 : BitVec 32 := Scalar.addi v2 c3_i32_62
  let c8_i32_63 : BitVec 32 := 8#32
  let v85 : BitVec 32 := Scalar.remsi v84 c8_i32_63
  let c1_i32_64 : BitVec 32 := 1#32
  let v86 : BitVec 32 := Scalar.muli v85 c1_i32_64
  let v87 : BitVec 32 := Scalar.addi c0_i32_65 v86
  v87.toNat
def k0_dev11 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_70 : BitVec 32 := 4#32
  let v96 : BitVec 32 := Scalar.addi v2 c4_i32_70
  let c8_i32_71 : BitVec 32 := 8#32
  let v97 : BitVec 32 := Scalar.remsi v96 c8_i32_71
  let c1_i32_72 : BitVec 32 := 1#32
  let v98 : BitVec 32 := Scalar.muli v97 c1_i32_72
  let v99 : BitVec 32 := Scalar.addi c0_i32_73 v98
  v99.toNat
def k0_dev12 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_78 : BitVec 32 := 5#32
  let v108 : BitVec 32 := Scalar.addi v2 c5_i32_78
  let c8_i32_79 : BitVec 32 := 8#32
  let v109 : BitVec 32 := Scalar.remsi v108 c8_i32_79
  let c1_i32_80 : BitVec 32 := 1#32
  let v110 : BitVec 32 := Scalar.muli v109 c1_i32_80
  let v111 : BitVec 32 := Scalar.addi c0_i32_81 v110
  v111.toNat
def k0_dev13 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_86 : BitVec 32 := 6#32
  let v120 : BitVec 32 := Scalar.addi v2 c6_i32_86
  let c8_i32_87 : BitVec 32 := 8#32
  let v121 : BitVec 32 := Scalar.remsi v120 c8_i32_87
  let c1_i32_88 : BitVec 32 := 1#32
  let v122 : BitVec 32 := Scalar.muli v121 c1_i32_88
  let v123 : BitVec 32 := Scalar.addi c0_i32_89 v122
  v123.toNat
def k0_dev14 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_94 : BitVec 32 := 7#32
  let v132 : BitVec 32 := Scalar.addi v2 c7_i32_94
  let c8_i32_95 : BitVec 32 := 8#32
  let v133 : BitVec 32 := Scalar.remsi v132 c8_i32_95
  let c1_i32_96 : BitVec 32 := 1#32
  let v134 : BitVec 32 := Scalar.muli v133 c1_i32_96
  let v135 : BitVec 32 := Scalar.addi c0_i32_97 v134
  v135.toNat
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v143 : Index := Scalar.indexCast v2
  let c0_102 : Index := 0#32
  let c0_103 : Index := 0#32
  ![v143.toNat, 0, 0]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v154 : Index := Scalar.indexCast v2
  let c0_110 : Index := 0#32
  let c0_111 : Index := 0#32
  ![v154.toNat, 0, 0]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_118 : BitVec 32 := 0#32
  let c0_i32_119 : BitVec 32 := 0#32
  ![v2.toNat, 0, 0]
def k0_dev15 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114 : BitVec 32 := 1#32
  let v160 : BitVec 32 := Scalar.addi v2 c1_i32_114
  let c8_i32_115 : BitVec 32 := 8#32
  let v161 : BitVec 32 := Scalar.remsi v160 c8_i32_115
  let c1_i32_116 : BitVec 32 := 1#32
  let v162 : BitVec 32 := Scalar.muli v161 c1_i32_116
  let v163 : BitVec 32 := Scalar.addi c0_i32_117 v162
  v163.toNat
def k0_dev16 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_122 : BitVec 32 := 2#32
  let v172 : BitVec 32 := Scalar.addi v2 c2_i32_122
  let c8_i32_123 : BitVec 32 := 8#32
  let v173 : BitVec 32 := Scalar.remsi v172 c8_i32_123
  let c1_i32_124 : BitVec 32 := 1#32
  let v174 : BitVec 32 := Scalar.muli v173 c1_i32_124
  let v175 : BitVec 32 := Scalar.addi c0_i32_125 v174
  v175.toNat
def k0_dev17 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_130 : BitVec 32 := 3#32
  let v184 : BitVec 32 := Scalar.addi v2 c3_i32_130
  let c8_i32_131 : BitVec 32 := 8#32
  let v185 : BitVec 32 := Scalar.remsi v184 c8_i32_131
  let c1_i32_132 : BitVec 32 := 1#32
  let v186 : BitVec 32 := Scalar.muli v185 c1_i32_132
  let v187 : BitVec 32 := Scalar.addi c0_i32_133 v186
  v187.toNat
def k0_dev18 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_138 : BitVec 32 := 4#32
  let v196 : BitVec 32 := Scalar.addi v2 c4_i32_138
  let c8_i32_139 : BitVec 32 := 8#32
  let v197 : BitVec 32 := Scalar.remsi v196 c8_i32_139
  let c1_i32_140 : BitVec 32 := 1#32
  let v198 : BitVec 32 := Scalar.muli v197 c1_i32_140
  let v199 : BitVec 32 := Scalar.addi c0_i32_141 v198
  v199.toNat
def k0_dev19 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_146 : BitVec 32 := 5#32
  let v208 : BitVec 32 := Scalar.addi v2 c5_i32_146
  let c8_i32_147 : BitVec 32 := 8#32
  let v209 : BitVec 32 := Scalar.remsi v208 c8_i32_147
  let c1_i32_148 : BitVec 32 := 1#32
  let v210 : BitVec 32 := Scalar.muli v209 c1_i32_148
  let v211 : BitVec 32 := Scalar.addi c0_i32_149 v210
  v211.toNat
def k0_dev20 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_154 : BitVec 32 := 6#32
  let v220 : BitVec 32 := Scalar.addi v2 c6_i32_154
  let c8_i32_155 : BitVec 32 := 8#32
  let v221 : BitVec 32 := Scalar.remsi v220 c8_i32_155
  let c1_i32_156 : BitVec 32 := 1#32
  let v222 : BitVec 32 := Scalar.muli v221 c1_i32_156
  let v223 : BitVec 32 := Scalar.addi c0_i32_157 v222
  v223.toNat
def k0_dev21 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_162 : BitVec 32 := 7#32
  let v232 : BitVec 32 := Scalar.addi v2 c7_i32_162
  let c8_i32_163 : BitVec 32 := 8#32
  let v233 : BitVec 32 := Scalar.remsi v232 c8_i32_163
  let c1_i32_164 : BitVec 32 := 1#32
  let v234 : BitVec 32 := Scalar.muli v233 c1_i32_164
  let v235 : BitVec 32 := Scalar.addi c0_i32_165 v234
  v235.toNat
def k0_off13 (d0 : Dev nD) (c1_i32_168 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v242 : BitVec 32 := Scalar.addi v2 c1_i32_168
  let c8_i32_169 : BitVec 32 := 8#32
  let v243 : BitVec 32 := Scalar.remsi v242 c8_i32_169
  let c0_i32_172 : BitVec 32 := 0#32
  let c0_i32_173 : BitVec 32 := 0#32
  ![v243.toNat, 0, 0]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v336 : Index := Scalar.indexCast v2
  let c0_223 : Index := 0#32
  let c0_224 : Index := 0#32
  ![v336.toNat, 0, 0]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_231 : BitVec 32 := 0#32
  let c0_i32_232 : BitVec 32 := 0#32
  ![v2.toNat, 0, 0]
def k0_dev22 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_227 : BitVec 32 := 1#32
  let v342 : BitVec 32 := Scalar.addi v2 c1_i32_227
  let c8_i32_228 : BitVec 32 := 8#32
  let v343 : BitVec 32 := Scalar.remsi v342 c8_i32_228
  let c1_i32_229 : BitVec 32 := 1#32
  let v344 : BitVec 32 := Scalar.muli v343 c1_i32_229
  let v345 : BitVec 32 := Scalar.addi c0_i32_230 v344
  v345.toNat
def k0_dev23 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_237 : BitVec 32 := 2#32
  let v356 : BitVec 32 := Scalar.addi v2 c2_i32_237
  let c8_i32_238 : BitVec 32 := 8#32
  let v357 : BitVec 32 := Scalar.remsi v356 c8_i32_238
  let c1_i32_239 : BitVec 32 := 1#32
  let v358 : BitVec 32 := Scalar.muli v357 c1_i32_239
  let v359 : BitVec 32 := Scalar.addi c0_i32_240 v358
  v359.toNat
def k0_dev24 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_247 : BitVec 32 := 3#32
  let v370 : BitVec 32 := Scalar.addi v2 c3_i32_247
  let c8_i32_248 : BitVec 32 := 8#32
  let v371 : BitVec 32 := Scalar.remsi v370 c8_i32_248
  let c1_i32_249 : BitVec 32 := 1#32
  let v372 : BitVec 32 := Scalar.muli v371 c1_i32_249
  let v373 : BitVec 32 := Scalar.addi c0_i32_250 v372
  v373.toNat
def k0_dev25 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_257 : BitVec 32 := 4#32
  let v384 : BitVec 32 := Scalar.addi v2 c4_i32_257
  let c8_i32_258 : BitVec 32 := 8#32
  let v385 : BitVec 32 := Scalar.remsi v384 c8_i32_258
  let c1_i32_259 : BitVec 32 := 1#32
  let v386 : BitVec 32 := Scalar.muli v385 c1_i32_259
  let v387 : BitVec 32 := Scalar.addi c0_i32_260 v386
  v387.toNat
def k0_dev26 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_267 : BitVec 32 := 5#32
  let v398 : BitVec 32 := Scalar.addi v2 c5_i32_267
  let c8_i32_268 : BitVec 32 := 8#32
  let v399 : BitVec 32 := Scalar.remsi v398 c8_i32_268
  let c1_i32_269 : BitVec 32 := 1#32
  let v400 : BitVec 32 := Scalar.muli v399 c1_i32_269
  let v401 : BitVec 32 := Scalar.addi c0_i32_270 v400
  v401.toNat
def k0_dev27 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_277 : BitVec 32 := 6#32
  let v412 : BitVec 32 := Scalar.addi v2 c6_i32_277
  let c8_i32_278 : BitVec 32 := 8#32
  let v413 : BitVec 32 := Scalar.remsi v412 c8_i32_278
  let c1_i32_279 : BitVec 32 := 1#32
  let v414 : BitVec 32 := Scalar.muli v413 c1_i32_279
  let v415 : BitVec 32 := Scalar.addi c0_i32_280 v414
  v415.toNat
def k0_dev28 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_287 : BitVec 32 := 7#32
  let v426 : BitVec 32 := Scalar.addi v2 c7_i32_287
  let c8_i32_288 : BitVec 32 := 8#32
  let v427 : BitVec 32 := Scalar.remsi v426 c8_i32_288
  let c1_i32_289 : BitVec 32 := 1#32
  let v428 : BitVec 32 := Scalar.muli v427 c1_i32_289
  let v429 : BitVec 32 := Scalar.addi c0_i32_290 v428
  v429.toNat
def k0_off16 (i : grid0.Coords) : Fin 3 → Nat :=
  let arg0 : BitVec 32 := BitVec.ofNat 32 (i 0).val
  let c2_i32_311 : BitVec 32 := 2#32
  let c0_i32_312 : BitVec 32 := 0#32
  let v450 : BitVec 1 := Scalar.cmpi .eq c2_i32_311 c0_i32_312
  let c1_i32_313 : BitVec 32 := 1#32
  let v451 : BitVec 32 := Scalar.select v450 c1_i32_313 c2_i32_311
  let v452 : BitVec 32 := Scalar.remsi arg0 v451
  let c0_i32_315 : BitVec 32 := 0#32
  let v454 : BitVec 1 := Scalar.cmpi .slt v452 c0_i32_315
  let c0_i32_316 : BitVec 32 := 0#32
  let v455 : BitVec 1 := Scalar.cmpi .slt v451 c0_i32_316
  let v456 : BitVec 1 := Scalar.xori v454 v455
  let c0_i32_314 : BitVec 32 := 0#32
  let v453 : BitVec 1 := Scalar.cmpi .ne v452 c0_i32_314
  let v457 : BitVec 1 := Scalar.andi v456 v453
  let v458 : BitVec 32 := Scalar.addi v452 v451
  let v459 : BitVec 32 := Scalar.select v457 v458 v452
  let v460 : Index := Scalar.indexCast v459
  let c0_317 : Index := 0#32
  let c0_318 : Index := 0#32
  ![v460.toNat, 0, 0]
def k0_off17 (i : grid0.Coords) : Fin 3 → Nat :=
  let arg0 : BitVec 32 := BitVec.ofNat 32 (i 0).val
  let c2_i32_319 : BitVec 32 := 2#32
  let c0_i32_320 : BitVec 32 := 0#32
  let v464 : BitVec 1 := Scalar.cmpi .eq c2_i32_319 c0_i32_320
  let c1_i32_321 : BitVec 32 := 1#32
  let v465 : BitVec 32 := Scalar.select v464 c1_i32_321 c2_i32_319
  let v466 : BitVec 32 := Scalar.remsi arg0 v465
  let c0_i32_323 : BitVec 32 := 0#32
  let v468 : BitVec 1 := Scalar.cmpi .slt v466 c0_i32_323
  let c0_i32_324 : BitVec 32 := 0#32
  let v469 : BitVec 1 := Scalar.cmpi .slt v465 c0_i32_324
  let v470 : BitVec 1 := Scalar.xori v468 v469
  let c0_i32_322 : BitVec 32 := 0#32
  let v467 : BitVec 1 := Scalar.cmpi .ne v466 c0_i32_322
  let v471 : BitVec 1 := Scalar.andi v470 v467
  let v472 : BitVec 32 := Scalar.addi v466 v465
  let v473 : BitVec 32 := Scalar.select v471 v472 v466
  let v474 : Index := Scalar.indexCast v473
  let c0_325 : Index := 0#32
  let c0_326 : Index := 0#32
  ![v474.toNat, 0, 0]
def k0_off18 (d0 : Dev nD) (c1_i32_338 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v501 : BitVec 32 := Scalar.addi v2 c1_i32_338
  let c8_i32_339 : BitVec 32 := 8#32
  let v502 : BitVec 32 := Scalar.remsi v501 c8_i32_339
  let c0_i32_342 : BitVec 32 := 0#32
  let c0_i32_343 : BitVec 32 := 0#32
  ![v502.toNat, 0, 0]
def k0_off19 (d0 : Dev nD) (c1_i32_338 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v501 : BitVec 32 := Scalar.addi v2 c1_i32_338
  let c8_i32_339 : BitVec 32 := 8#32
  let v502 : BitVec 32 := Scalar.remsi v501 c8_i32_339
  let c0_i32_346 : BitVec 32 := 0#32
  let c0_i32_347 : BitVec 32 := 0#32
  ![v502.toNat, 0, 0]
def k0_off20 (d0 : Dev nD) (c1_i32_338 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v501 : BitVec 32 := Scalar.addi v2 c1_i32_338
  let c8_i32_339 : BitVec 32 := 8#32
  let v502 : BitVec 32 := Scalar.remsi v501 c8_i32_339
  let v517 : Index := Scalar.indexCast v502
  let c0_350 : Index := 0#32
  let c0_351 : Index := 0#32
  ![v517.toNat, 0, 0]
def k0_off21 (d0 : Dev nD) (c1_i32_338 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v501 : BitVec 32 := Scalar.addi v2 c1_i32_338
  let c8_i32_339 : BitVec 32 := 8#32
  let v502 : BitVec 32 := Scalar.remsi v501 c8_i32_339
  let v520 : Index := Scalar.indexCast v502
  let c0_352 : Index := 0#32
  let c0_353 : Index := 0#32
  ![v520.toNat, 0, 0]
def k0_cond4 (i : grid0.Coords) : BitVec 1 :=
  let arg0 : BitVec 32 := BitVec.ofNat 32 (i 0).val
  let c0_i32_4 : BitVec 32 := 0#32
  let v15 : BitVec 1 := Scalar.cmpi .sgt arg0 c0_i32_4
  let c3_i32_5 : BitVec 32 := 3#32
  let v16 : BitVec 1 := Scalar.cmpi .slt arg0 c3_i32_5
  let v17 : BitVec 1 := Scalar.andi v15 v16
  let v18 : BitVec 32 := Scalar.extui v17
  let c0_i32_6 : BitVec 32 := 0#32
  let v19 : BitVec 1 := Scalar.cmpi .ne v18 c0_i32_6
  v19

def k0_off22 (i : grid0.Coords) : Fin 2 → Nat :=
  let arg0 : BitVec 32 := BitVec.ofNat 32 (i 0).val
  let c2_i32 : BitVec 32 := 2#32
  let c0_i32_9 : BitVec 32 := 0#32
  let v23 : BitVec 1 := Scalar.cmpi .eq c2_i32 c0_i32_9
  let c1_i32_10 : BitVec 32 := 1#32
  let v24 : BitVec 32 := Scalar.select v23 c1_i32_10 c2_i32
  let v25 : BitVec 32 := Scalar.remsi arg0 v24
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let c0_i32_11 : BitVec 32 := 0#32
  let v26 : BitVec 1 := Scalar.cmpi .ne v25 c0_i32_11
  let v30 : BitVec 1 := Scalar.andi v29 v26
  let v31 : BitVec 32 := Scalar.addi v25 v24
  let v32 : BitVec 32 := Scalar.select v30 v31 v25
  let c0_i32_15 : BitVec 32 := 0#32
  ![v32.toNat, 0]
def k0_off23 (i : grid0.Coords) : Fin 3 → Nat :=
  let arg0 : BitVec 32 := BitVec.ofNat 32 (i 0).val
  let c2_i32 : BitVec 32 := 2#32
  let c0_i32_9 : BitVec 32 := 0#32
  let v23 : BitVec 1 := Scalar.cmpi .eq c2_i32 c0_i32_9
  let c1_i32_10 : BitVec 32 := 1#32
  let v24 : BitVec 32 := Scalar.select v23 c1_i32_10 c2_i32
  let v25 : BitVec 32 := Scalar.remsi arg0 v24
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let c0_i32_11 : BitVec 32 := 0#32
  let v26 : BitVec 1 := Scalar.cmpi .ne v25 c0_i32_11
  let v30 : BitVec 1 := Scalar.andi v29 v26
  let v31 : BitVec 32 := Scalar.addi v25 v24
  let v32 : BitVec 32 := Scalar.select v30 v31 v25
  let c0_i32_16 : BitVec 32 := 0#32
  let c0_i32_17 : BitVec 32 := 0#32
  ![v32.toNat, 0, 0]
def k0_off24 (i : grid0.Coords) : Fin 2 → Nat :=
  let arg0 : BitVec 32 := BitVec.ofNat 32 (i 0).val
  let c2_i32 : BitVec 32 := 2#32
  let c0_i32_9 : BitVec 32 := 0#32
  let v23 : BitVec 1 := Scalar.cmpi .eq c2_i32 c0_i32_9
  let c1_i32_10 : BitVec 32 := 1#32
  let v24 : BitVec 32 := Scalar.select v23 c1_i32_10 c2_i32
  let v25 : BitVec 32 := Scalar.remsi arg0 v24
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let c0_i32_11 : BitVec 32 := 0#32
  let v26 : BitVec 1 := Scalar.cmpi .ne v25 c0_i32_11
  let v30 : BitVec 1 := Scalar.andi v29 v26
  let v31 : BitVec 32 := Scalar.addi v25 v24
  let v32 : BitVec 32 := Scalar.select v30 v31 v25
  let c1_i32_21 : BitVec 32 := 1#32
  ![v32.toNat, 1]
def k0_off25 (i : grid0.Coords) : Fin 3 → Nat :=
  let arg0 : BitVec 32 := BitVec.ofNat 32 (i 0).val
  let c2_i32 : BitVec 32 := 2#32
  let c0_i32_9 : BitVec 32 := 0#32
  let v23 : BitVec 1 := Scalar.cmpi .eq c2_i32 c0_i32_9
  let c1_i32_10 : BitVec 32 := 1#32
  let v24 : BitVec 32 := Scalar.select v23 c1_i32_10 c2_i32
  let v25 : BitVec 32 := Scalar.remsi arg0 v24
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let c0_i32_11 : BitVec 32 := 0#32
  let v26 : BitVec 1 := Scalar.cmpi .ne v25 c0_i32_11
  let v30 : BitVec 1 := Scalar.andi v29 v26
  let v31 : BitVec 32 := Scalar.addi v25 v24
  let v32 : BitVec 32 := Scalar.select v30 v31 v25
  let c0_i32_22 : BitVec 32 := 0#32
  let c0_i32_23 : BitVec 32 := 0#32
  ![v32.toNat, 0, 0]
def k0_off26 (i : grid0.Coords) : Fin 3 → Nat :=
  let arg0 : BitVec 32 := BitVec.ofNat 32 (i 0).val
  let c2_i32_26 : BitVec 32 := 2#32
  let c0_i32_27 : BitVec 32 := 0#32
  let v45 : BitVec 1 := Scalar.cmpi .eq c2_i32_26 c0_i32_27
  let c1_i32_28 : BitVec 32 := 1#32
  let v46 : BitVec 32 := Scalar.select v45 c1_i32_28 c2_i32_26
  let v47 : BitVec 32 := Scalar.remsi arg0 v46
  let c0_i32_30 : BitVec 32 := 0#32
  let v49 : BitVec 1 := Scalar.cmpi .slt v47 c0_i32_30
  let c0_i32_31 : BitVec 32 := 0#32
  let v50 : BitVec 1 := Scalar.cmpi .slt v46 c0_i32_31
  let v51 : BitVec 1 := Scalar.xori v49 v50
  let c0_i32_29 : BitVec 32 := 0#32
  let v48 : BitVec 1 := Scalar.cmpi .ne v47 c0_i32_29
  let v52 : BitVec 1 := Scalar.andi v51 v48
  let v53 : BitVec 32 := Scalar.addi v47 v46
  let v54 : BitVec 32 := Scalar.select v52 v53 v47
  let v55 : Index := Scalar.indexCast v54
  let c0 : Index := 0#32
  let c0_32 : Index := 0#32
  ![v55.toNat, 0, 0]
def k0_off27 (i : grid0.Coords) : Fin 3 → Nat :=
  let arg0 : BitVec 32 := BitVec.ofNat 32 (i 0).val
  let c2_i32_33 : BitVec 32 := 2#32
  let c0_i32_34 : BitVec 32 := 0#32
  let v59 : BitVec 1 := Scalar.cmpi .eq c2_i32_33 c0_i32_34
  let c1_i32_35 : BitVec 32 := 1#32
  let v60 : BitVec 32 := Scalar.select v59 c1_i32_35 c2_i32_33
  let v61 : BitVec 32 := Scalar.remsi arg0 v60
  let c0_i32_37 : BitVec 32 := 0#32
  let v63 : BitVec 1 := Scalar.cmpi .slt v61 c0_i32_37
  let c0_i32_38 : BitVec 32 := 0#32
  let v64 : BitVec 1 := Scalar.cmpi .slt v60 c0_i32_38
  let v65 : BitVec 1 := Scalar.xori v63 v64
  let c0_i32_36 : BitVec 32 := 0#32
  let v62 : BitVec 1 := Scalar.cmpi .ne v61 c0_i32_36
  let v66 : BitVec 1 := Scalar.andi v65 v62
  let v67 : BitVec 32 := Scalar.addi v61 v60
  let v68 : BitVec 32 := Scalar.select v66 v67 v61
  let v69 : Index := Scalar.indexCast v68
  let c0_39 : Index := 0#32
  let c0_40 : Index := 0#32
  ![v69.toNat, 0, 0]
def k0_cond5 (i : grid0.Coords) : BitVec 1 :=
  let arg0 : BitVec 32 := BitVec.ofNat 32 (i 0).val
  let c3_i32_7 : BitVec 32 := 3#32
  let v20 : BitVec 1 := Scalar.cmpi .eq arg0 c3_i32_7
  let v21 : BitVec 32 := Scalar.extui v20
  let c0_i32_8 : BitVec 32 := 0#32
  let v22 : BitVec 1 := Scalar.cmpi .ne v21 c0_i32_8
  v22

def k0_off28 (i : grid0.Coords) : Fin 3 → Nat :=
  let arg0 : BitVec 32 := BitVec.ofNat 32 (i 0).val
  let c2_i32 : BitVec 32 := 2#32
  let c0_i32_25 : BitVec 32 := 0#32
  let v35 : BitVec 1 := Scalar.cmpi .eq c2_i32 c0_i32_25
  let c1_i32_26 : BitVec 32 := 1#32
  let v36 : BitVec 32 := Scalar.select v35 c1_i32_26 c2_i32
  let v37 : BitVec 32 := Scalar.remsi arg0 v36
  let c0_i32_28 : BitVec 32 := 0#32
  let v39 : BitVec 1 := Scalar.cmpi .slt v37 c0_i32_28
  let c0_i32_29 : BitVec 32 := 0#32
  let v40 : BitVec 1 := Scalar.cmpi .slt v36 c0_i32_29
  let v41 : BitVec 1 := Scalar.xori v39 v40
  let c0_i32_27 : BitVec 32 := 0#32
  let v38 : BitVec 1 := Scalar.cmpi .ne v37 c0_i32_27
  let v42 : BitVec 1 := Scalar.andi v41 v38
  let v43 : BitVec 32 := Scalar.addi v37 v36
  let v44 : BitVec 32 := Scalar.select v42 v43 v37
  let v45 : Index := Scalar.indexCast v44
  let c0 : Index := 0#32
  let c0_30 : Index := 0#32
  ![v45.toNat, 0, 0]
def k0_off29 (i : grid0.Coords) : Fin 3 → Nat :=
  let arg0 : BitVec 32 := BitVec.ofNat 32 (i 0).val
  let c2_i32_31 : BitVec 32 := 2#32
  let c0_i32_32 : BitVec 32 := 0#32
  let v49 : BitVec 1 := Scalar.cmpi .eq c2_i32_31 c0_i32_32
  let c1_i32_33 : BitVec 32 := 1#32
  let v50 : BitVec 32 := Scalar.select v49 c1_i32_33 c2_i32_31
  let v51 : BitVec 32 := Scalar.remsi arg0 v50
  let c0_i32_35 : BitVec 32 := 0#32
  let v53 : BitVec 1 := Scalar.cmpi .slt v51 c0_i32_35
  let c0_i32_36 : BitVec 32 := 0#32
  let v54 : BitVec 1 := Scalar.cmpi .slt v50 c0_i32_36
  let v55 : BitVec 1 := Scalar.xori v53 v54
  let c0_i32_34 : BitVec 32 := 0#32
  let v52 : BitVec 1 := Scalar.cmpi .ne v51 c0_i32_34
  let v56 : BitVec 1 := Scalar.andi v55 v52
  let v57 : BitVec 32 := Scalar.addi v51 v50
  let v58 : BitVec 32 := Scalar.select v56 v57 v51
  let v59 : Index := Scalar.indexCast v58
  let c0_37 : Index := 0#32
  let c0_38 : Index := 0#32
  ![v59.toNat, 0, 0]
def k0_off30 (d0 : Dev nD) (c1_i32_39 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v63 : BitVec 32 := Scalar.addi v2 c1_i32_39
  let c8_i32_40 : BitVec 32 := 8#32
  let v64 : BitVec 32 := Scalar.remsi v63 c8_i32_40
  let v65 : Index := Scalar.indexCast v64
  let c0_41 : Index := 0#32
  let c0_42 : Index := 0#32
  ![v65.toNat, 0, 0]
def k0_off31 (d0 : Dev nD) (c1_i32_39 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v63 : BitVec 32 := Scalar.addi v2 c1_i32_39
  let c8_i32_40 : BitVec 32 := 8#32
  let v64 : BitVec 32 := Scalar.remsi v63 c8_i32_40
  let v71 : Index := Scalar.indexCast v64
  let c0_45 : Index := 0#32
  let c0_46 : Index := 0#32
  ![v71.toNat, 0, 0]
def k0_off32 (d0 : Dev nD) (c1_i32_39 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v63 : BitVec 32 := Scalar.addi v2 c1_i32_39
  let c8_i32_40 : BitVec 32 := 8#32
  let v64 : BitVec 32 := Scalar.remsi v63 c8_i32_40
  ![v64.toNat]
def k0_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_55 : BitVec 32 := 0#32
  let c0_i32_56 : BitVec 32 := 0#32
  ![v2.toNat, 0, 0]
def k0_off35 (d0 : Dev nD) (c1_i32_39 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v63 : BitVec 32 := Scalar.addi v2 c1_i32_39
  let c8_i32_40 : BitVec 32 := 8#32
  let v64 : BitVec 32 := Scalar.remsi v63 c8_i32_40
  let c0_i32_57 : BitVec 32 := 0#32
  let c0_i32_58 : BitVec 32 := 0#32
  ![v64.toNat, 0, 0]
def k0_dev29 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_39 : BitVec 32 := 1#32
  let v63 : BitVec 32 := Scalar.addi v2 c1_i32_39
  let c8_i32_40 : BitVec 32 := 8#32
  let v64 : BitVec 32 := Scalar.remsi v63 c8_i32_40
  let c1_i32_53 : BitVec 32 := 1#32
  let v93 : BitVec 32 := Scalar.muli v64 c1_i32_53
  let v94 : BitVec 32 := Scalar.addi c0_i32_54 v93
  v94.toNat
def k0_dev30 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_59 : BitVec 32 := 2#32
  let v103 : BitVec 32 := Scalar.addi v2 c2_i32_59
  let c8_i32_60 : BitVec 32 := 8#32
  let v104 : BitVec 32 := Scalar.remsi v103 c8_i32_60
  let c1_i32_74 : BitVec 32 := 1#32
  let v133 : BitVec 32 := Scalar.muli v104 c1_i32_74
  let v134 : BitVec 32 := Scalar.addi c0_i32_75 v133
  v134.toNat
def k0_dev31 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_80 : BitVec 32 := 3#32
  let v143 : BitVec 32 := Scalar.addi v2 c3_i32_80
  let c8_i32_81 : BitVec 32 := 8#32
  let v144 : BitVec 32 := Scalar.remsi v143 c8_i32_81
  let c1_i32_95 : BitVec 32 := 1#32
  let v173 : BitVec 32 := Scalar.muli v144 c1_i32_95
  let v174 : BitVec 32 := Scalar.addi c0_i32_96 v173
  v174.toNat
def k0_dev32 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_101 : BitVec 32 := 4#32
  let v183 : BitVec 32 := Scalar.addi v2 c4_i32_101
  let c8_i32_102 : BitVec 32 := 8#32
  let v184 : BitVec 32 := Scalar.remsi v183 c8_i32_102
  let c1_i32_116 : BitVec 32 := 1#32
  let v213 : BitVec 32 := Scalar.muli v184 c1_i32_116
  let v214 : BitVec 32 := Scalar.addi c0_i32_117 v213
  v214.toNat
def k0_dev33 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v223 : BitVec 32 := Scalar.addi v2 c5_i32
  let c8_i32_122 : BitVec 32 := 8#32
  let v224 : BitVec 32 := Scalar.remsi v223 c8_i32_122
  let c1_i32_136 : BitVec 32 := 1#32
  let v253 : BitVec 32 := Scalar.muli v224 c1_i32_136
  let v254 : BitVec 32 := Scalar.addi c0_i32_137 v253
  v254.toNat
def k0_dev34 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v263 : BitVec 32 := Scalar.addi v2 c6_i32
  let c8_i32_142 : BitVec 32 := 8#32
  let v264 : BitVec 32 := Scalar.remsi v263 c8_i32_142
  let c1_i32_156 : BitVec 32 := 1#32
  let v293 : BitVec 32 := Scalar.muli v264 c1_i32_156
  let v294 : BitVec 32 := Scalar.addi c0_i32_157 v293
  v294.toNat
def k0_dev35 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v303 : BitVec 32 := Scalar.addi v2 c7_i32
  let c8_i32_162 : BitVec 32 := 8#32
  let v304 : BitVec 32 := Scalar.remsi v303 c8_i32_162
  let c1_i32_176 : BitVec 32 := 1#32
  let v333 : BitVec 32 := Scalar.muli v304 c1_i32_176
  let v334 : BitVec 32 := Scalar.addi c0_i32_177 v333
  v334.toNat
def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v343 : Index := Scalar.indexCast v2
  let c0_182 : Index := 0#32
  let c0_183 : Index := 0#32
  ![v343.toNat, 0, 0]
def k0_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v349 : Index := Scalar.indexCast v2
  let c0_186 : Index := 0#32
  let c0_187 : Index := 0#32
  ![v349.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1024x1024 : Shape := ⟨2, ![1024, 1024]⟩
abbrev S1024x32 : Shape := ⟨2, ![1024, 32]⟩
abbrev S32x1024x2048 : Shape := ⟨3, ![32, 1024, 2048]⟩
abbrev S32x2048x1024 : Shape := ⟨3, ![32, 2048, 1024]⟩
abbrev S_ : Shape := ⟨0, ![]⟩
abbrev S1024 : Shape := ⟨1, ![1024]⟩
abbrev S1024x1 : Shape := ⟨2, ![1024, 1]⟩
abbrev S32x1024x1024 : Shape := ⟨3, ![32, 1024, 1024]⟩
abbrev S32x1024 : Shape := ⟨2, ![32, 1024]⟩
abbrev S32x1024x1 : Shape := ⟨3, ![32, 1024, 1]⟩

abbrev nBuf : Space → Nat
  | .hbm => 51
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x32, .f32⟩
  | .hbm, ⟨2, _⟩ => ⟨S32x1024x2048, .f32⟩
  | .hbm, ⟨3, _⟩ => ⟨S32x2048x1024, .f32⟩
  | .hbm, ⟨4, _⟩ => ⟨S1024x32, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x32, .f32⟩
  | .hbm, ⟨9, _⟩ => ⟨S1024x32, .i1⟩
  | .hbm, ⟨10, _⟩ => ⟨S_, .f32⟩
  | .hbm, ⟨11, _⟩ => ⟨S_, .f32⟩
  | .hbm, ⟨12, _⟩ => ⟨S1024x32, .f32⟩
  | .hbm, ⟨13, _⟩ => ⟨S1024x32, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x1, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x32, .f32⟩
  | .hbm, ⟨23, _⟩ => ⟨S1024x32, .i1⟩
  | .hbm, ⟨24, _⟩ => ⟨S_, .f32⟩
  | .hbm, ⟨25, _⟩ => ⟨S1024x1, .f32⟩
  | .hbm, ⟨26, _⟩ => ⟨S1024x1, .f32⟩
  | .hbm, ⟨27, _⟩ => ⟨S1024x32, .f32⟩
  | .hbm, ⟨28, _⟩ => ⟨S1024x32, .i1⟩
  | .hbm, ⟨29, _⟩ => ⟨S1024x1, .f32⟩
  | .hbm, ⟨30, _⟩ => ⟨S1024x1, .f32⟩
  | .hbm, ⟨31, _⟩ => ⟨S1024x1, .f32⟩
  | .hbm, ⟨32, _⟩ => ⟨S_, .f32⟩
  | .hbm, ⟨33, _⟩ => ⟨S_, .f32⟩
  | .hbm, ⟨34, _⟩ => ⟨S1024x32, .f32⟩
  | .hbm, ⟨35, _⟩ => ⟨S1024x32, .f32⟩
  | .hbm, ⟨36, _⟩ => ⟨S1024x32, .f32⟩
  | .hbm, ⟨37, _⟩ => ⟨S1024x32, .f32⟩
  | .hbm, ⟨38, _⟩ => ⟨S1024x32, .f32⟩
  | .hbm, ⟨39, _⟩ => ⟨S32x2048x1024, .f32⟩
  | .hbm, ⟨40, _⟩ => ⟨S32x1024x2048, .f32⟩
  | .hbm, ⟨41, _⟩ => ⟨S_, .f32⟩
  | .hbm, ⟨42, _⟩ => ⟨S32x1024x2048, .f32⟩
  | .hbm, ⟨43, _⟩ => ⟨S32x1024x2048, .f32⟩
  | .hbm, ⟨44, _⟩ => ⟨S32x1024x1024, .f32⟩
  | .hbm, ⟨45, _⟩ => ⟨S32x1024, .f32⟩
  | .hbm, ⟨46, _⟩ => ⟨S32x1024x1, .f32⟩
  | .hbm, ⟨47, _⟩ => ⟨S32x1024x1024, .f32⟩
  | .hbm, ⟨48, _⟩ => ⟨S32x1024x1024, .f32⟩
  | .hbm, ⟨49, _⟩ => ⟨S_, .f32⟩
  | .hbm, ⟨50, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v21 : Ref sig .tc := ⟨.hbm, 36, rfl⟩
abbrev main_call2_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Proof.Slots.lean ====
/- Slots of a stacked buffer: reading, writing and dividing one. -/
module

public import Idealize.ShloMosaic.Lib.Ring
public import Idealize.ShloMosaic.Lib.ShareLeaves
public import Idealize.ShloMosaic.Lib.ValueIdxCore
public import Idealize.ShloMosaic.Lib.Tactic

@[expose] public section

noncomputable section

namespace Cert.Moe

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

/-! ## Stacks -/

section Stack
variable {α : Type} {n a b : ℕ}

/-- The buffer whose slot `p` holds `V p`. -/
def stack (V : Fin n → (⟨3, ![1, a, b]⟩ : Shape).Idx → α) : (⟨3, ![n, a, b]⟩ : Shape).Idx → α :=
  fun i => V (i 0) (ix3 (0 : Fin 1) (i 1) (i 2))

theorem slot_inb (p : Fin n) : ∀ d, (![p.val, 0, 0] : Fin 3 → ℕ) d + (⟨3, ![1, a, b]⟩ : Shape).size d ≤ (⟨3, ![n, a, b]⟩ : Shape).size d := by
  intro d; have := p.isLt; fin_cases d <;> simp <;> omega

/-- Slot `p` of a stack of `n`. -/
abbrev slotR (n a b : ℕ) (p : Fin n) : Rect (⟨3, ![n, a, b]⟩ : Shape) :=
  Rect.unit (s := ⟨3, ![n, a, b]⟩) ![p.val, 0, 0] (⟨3, ![1, a, b]⟩ : Shape).size (slot_inb p)

/-- A stack read at slot `p` is that slot's contents. -/
theorem stack_emb (V : Fin n → (⟨3, ![1, a, b]⟩ : Shape).Idx → α) (p : Fin n) (k : (⟨3, ![1, a, b]⟩ : Shape).Idx) :
    stack V ((slotR n a b p).emb k) = V p k := by
  have h0 : ((slotR n a b p).emb k) 0 = p := by
    apply Fin.ext; rw [Rect.emb_apply]; have := (k 0).isLt; simp [slotR] at *; omega
  have h1 : ((slotR n a b p).emb k) 1 = k 1 := by
    apply Fin.ext; rw [Rect.emb_apply]; simp [slotR]
  have h2 : ((slotR n a b p).emb k) 2 = k 2 := by
    apply Fin.ext; rw [Rect.emb_apply]; simp [slotR]
  unfold stack
  rw [h0, h1, h2]
  congr 1
  conv_rhs => rw [eq_ix3 k]
  congr 1
  exact Subsingleton.elim _ _

theorem slot_disj (p p' : Fin n) (h : p ≠ p') : Disjoint (slotR n a b p).set (slotR n a b p').set :=
  Ring.lead_disjoint (s := ⟨3, ![n, a, b]⟩) (0 : Fin 3) 1 (fun p => ![p.val, 0, 0]) _ (fun p => slot_inb p)
    (fun p => by simp) rfl p p' h

theorem slot_cover : Finset.univ.biUnion (fun p : Fin n => (slotR n a b p).set) = Finset.univ :=
  Ring.lead_cover (s := ⟨3, ![n, a, b]⟩) (0 : Fin 3) 1 (fun p : Fin n => ![p.val, 0, 0]) _ (fun p => slot_inb p)
    (fun p => by simp) (fun p d hd => by fin_cases d <;> simp at hd ⊢) rfl (fun d hd => by fin_cases d <;> simp at hd ⊢) (by simp)

end Stack

/-! ## Phases: a family of resources consumed one at a time -/

section Fam
variable {M : Type} [URA M] {n : ℕ}

/-- After `k` steps of a phase: the first `k` members have become `Q`, the rest are still `P`. -/
def fam (P Q : Fin n → sProp M) (k : ℕ) : sProp M := bigSep Finset.univ fun j => if j.val < k then Q j else P j

theorem fam_zero (P Q : Fin n → sProp M) : fam P Q 0 = bigSep Finset.univ P :=
  bigSep_congr fun j _ => if_neg (Nat.not_lt_zero _)

theorem fam_all (P Q : Fin n → sProp M) : fam P Q n = bigSep Finset.univ Q :=
  bigSep_congr fun j _ => if_pos j.isLt

theorem step_frame (A B R : sProp M) : iprop(A ∗ R) ⊢ iprop(A ∗ (B -∗ (B ∗ R))) := by
  iintro ⟨HP, HR⟩
  isplitl [HP]
  · iexact HP
  iintro HQ
  isplitl [HQ]
  · iexact HQ
  iexact HR

/-- One step of a phase takes the next member and puts back what it has become. -/
theorem fam_step (P Q : Fin n → sProp M) (k : ℕ) (h : k < n) :
    fam P Q k ⊢ iprop(P ⟨k, h⟩ ∗ (Q ⟨k, h⟩ -∗ fam P Q (k + 1))) := by
  have e : bigSep (Finset.univ.erase (⟨k, h⟩ : Fin n)) (fun j : Fin n => if j.val < k then Q j else P j)
      = bigSep (Finset.univ.erase (⟨k, h⟩ : Fin n)) (fun j : Fin n => if j.val < k + 1 then Q j else P j) := by
    refine bigSep_congr fun j hj => ?_
    have hne : j.val ≠ k := fun hh => (Finset.mem_erase.mp hj).1 (Fin.ext hh)
    by_cases hlt : j.val < k
    · rw [if_pos hlt, if_pos (by omega)]
    · rw [if_neg hlt, if_neg (by omega)]
  unfold fam
  rw [bigSep_univ_split (⟨k, h⟩ : Fin n), bigSep_univ_split (⟨k, h⟩ : Fin n) (Φ := fun j : Fin n => if j.val < k + 1 then Q j else P j), e,
    if_neg (Nat.lt_irrefl _), if_pos (Nat.lt_succ_self _)]
  exact step_frame _ _ _

end Fam

/-! ## The eight devices seen from one of them -/

/-- The device `j + 1` places after `c`. -/
def peer (c : Fin 8) (j : Fin 7) : Fin 8 := ⟨(c.val + j.val + 1) % 8, Nat.mod_lt _ (by decide)⟩

theorem peer_ne (c : Fin 8) (j : Fin 7) : peer c j ≠ c := by revert c j; decide
theorem peer_inj (c : Fin 8) : Function.Injective (peer c) := by revert c; decide
theorem peer_surj (c d : Fin 8) (h : d ≠ c) : ∃ j, peer c j = d := by revert c d; decide

theorem erase_eq_peers (c : Fin 8) : Finset.univ.erase c = Finset.univ.map ⟨peer c, peer_inj c⟩ := by
  ext d
  simp only [Finset.mem_erase, Finset.mem_univ, and_true, Finset.mem_map, true_and, Function.Embedding.coeFn_mk]
  exact ⟨fun h => peer_surj c d h, fun ⟨j, h⟩ => h ▸ peer_ne c j⟩

section Peers
variable {M : Type} [URA M]

/-- A family over the other devices, in the order the kernel visits them. -/
theorem bigSep_others (c : Fin 8) (Φ : Fin 8 → sProp M) :
    bigSep (Finset.univ.erase c) Φ = bigSep Finset.univ fun j => Φ (peer c j) := by
  rw [erase_eq_peers, bigSep_map]; rfl

/-- A family over the devices: the device's own member and the others'. -/
theorem bigSep_peers (c : Fin 8) (Φ : Fin 8 → sProp M) :
    bigSep Finset.univ Φ = iprop(Φ c ∗ bigSep Finset.univ fun j => Φ (peer c j)) := by
  rw [bigSep_univ_split c, bigSep_others]; rfl

end Peers

/-! ## What a buffer holds after a landing -/

section Land
variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- Elements written through a view are those of any buffer that reads the same through it. -/
theorem pointsTo_write (c : Thread nD τ) {sp : Space} {s : Shape} {e : EltTy} (v : View sig c.2.kind sp s e) (q : PosShare TreeShare)
    (f g : Buf Val (v.loc c)) (w : s.Idx → Val e) (h : v.read Val g = w) :
    (v.loc c ↦[v.set]{q} v.write Val f w Finset.univ : sProp 𝕄) = (v.loc c ↦[v.set]{q} g) := by
  refine pointsTo_congr fun i hi => ?_
  obtain ⟨k, -, rfl⟩ := Finset.mem_map.mp hi
  rw [View.write_emb_of_mem _ _ (Finset.mem_univ k), ← h, View.read_apply]
  simp
end Land

end Cert.Moe
end
-- ==== Proof.Sched.lean ====
/-
The protocol of the kernel's eight devices, as a schedule of the rounds library.

Who waits, who signals or copies, how much, in what order and with what contents. `c` is the waiting device.

* The barrier cell of `c` (level 1). Every other device `d` signals one unit at its first grid point, before any transfer; `c` waits
  for the seven units once. `d`'s unit hands over the four places on `d` that `c` will write: slot `c` of `d`'s gathered rows, router
  columns, gates and returned rows, whatever they hold.
* The receive cell `(h, p)` of `c`, channels `h` = 0 rows, 1 router, 2 gates, 3 returned rows (levels 2, 2, 3, 4). Device `p` copies
  once; `c` waits once for the slot's credit. The landing hands over slot `p` of `c`'s buffer with its contents: `p`'s rounded rows,
  `p`'s transposed router columns, `p`'s gates, and the rows of `c` as `p`'s experts computed them.
* The send cell `(h, p)` of `c` (level 0). `c`'s own transfer towards `p` credits it; `c` waits once. It hands back the share of the
  source that the transfer read.
* The four weight cells of `c` (level 0), one for each matrix and parity. `c`'s own copy of expert `e = 2 r + parity` credits it in
  round `r`; `c` waits twice. It hands back the buffer slot holding the expert's matrix and the expert's slice of the argument.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Slots
public import Idealize.ShloMosaic.Lib.Pipeline.Launch
public import Idealize.ShloMosaic.Lib.Pipeline.Kit
public import Idealize.ShloMosaic.Lib.Tactic

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores -/

theorem inb8 (p : Dev nD) : ∀ d, (![p.val] : Fin 1 → ℕ) d + S1.size d ≤ S8.size d := by revert p; decide
theorem inb22 (a b : Fin 2) : ∀ d, (![a.val, b.val] : Fin 2 → ℕ) d + S1x1.size d ≤ S2x2.size d := by revert a b; decide

/-- The semaphores of a channel, sending (`r = 0`) or receiving (`r = 1`). -/
def semArr : Fin 4 → Fin 2 → DmaSems sig S8
  | 0, 0 => cc0_scratch11 | 0, 1 => cc0_scratch12
  | 1, 0 => cc0_scratch13 | 1, 1 => cc0_scratch14
  | 2, 0 => cc0_scratch15 | 2, 1 => cc0_scratch16
  | 3, 0 => cc0_scratch17 | 3, 1 => cc0_scratch18

/-- Element `p` of an array of eight semaphores. -/
abbrev sem8 (A : DmaSems sig S8) (p : Dev nD) : DmaSem sig :=
  ((A.slice (Rect.unit (s := S8) ![p.val] S1.size (inb8 p))).squeeze S_ squeezes_S1_S_).sem

/-- The weight semaphore of a parity and a matrix. -/
abbrev semW (a b : Fin 2) : DmaSem sig :=
  (((cc0_scratch10 : DmaSems sig S2x2).slice (Rect.unit (s := S2x2) ![a.val, b.val] S1x1.size (inb22 a b))).squeeze S_ squeezes_S1x1_S_).sem

abbrev barS : Sem sig := (SemArray.scalar (sig.barrier 0 rfl) : Sems sig S_).sem

/-- The protocol's cells on one device: the barrier, the weight cells by parity and matrix, the channels' by channel, direction and peer. -/
abbrev Key : Type := Unit ⊕ (Fin 2 × Fin 2) ⊕ (Fin 4 × Fin 2 × Dev nD)

abbrev kBar : Key := .inl ()
abbrev kW (a b : Fin 2) : Key := .inr (.inl (a, b))
abbrev kCh (h : Fin 4) (r : Fin 2) (p : Dev nD) : Key := .inr (.inr (h, r, p))

def semOf : Key → SemLoc sig
  | .inl _ => .reg barS
  | .inr (.inl (a, b)) => .dma (semW a b)
  | .inr (.inr (h, r, p)) => .dma (sem8 (semArr h r) p)

/-- The number of each DMA semaphore the protocol uses. -/
def semNum : (Fin 2 × Fin 2) ⊕ (Fin 4 × Fin 2 × Dev nD) → ℕ
  | .inl (a, b) => 3 + 2 * a.val + b.val
  | .inr (h, r, p) => 7 + 16 * h.val + 8 * r.val + p.val

theorem semW_val : ∀ a b : Fin 2, (semW a b).val = 3 + 2 * a.val + b.val := by decide +kernel
theorem sem8_val : ∀ (h : Fin 4) (r : Fin 2) (p : Dev nD), (sem8 (semArr h r) p).val = 7 + 16 * h.val + 8 * r.val + p.val := by decide +kernel

theorem semOf_inj : Function.Injective semOf := by
  rintro (_ | ⟨a, b⟩ | ⟨h, r, p⟩) (_ | ⟨a', b'⟩ | ⟨h', r', p'⟩) hh <;> simp only [semOf] at hh
  · rfl
  · cases hh
  · cases hh
  · cases hh
  · have hv := congrArg Fin.val (SemLoc.dma.inj hh)
    rw [semW_val, semW_val] at hv
    have : a = a' ∧ b = b' := by constructor <;> apply Fin.ext <;> omega
    rw [this.1, this.2]
  · have hv := congrArg Fin.val (SemLoc.dma.inj hh)
    rw [semW_val, sem8_val] at hv
    omega
  · cases hh
  · have hv := congrArg Fin.val (SemLoc.dma.inj hh)
    rw [sem8_val, semW_val] at hv
    omega
  · have hv := congrArg Fin.val (SemLoc.dma.inj hh)
    rw [sem8_val, sem8_val] at hv
    have hp : p.val < 8 := p.isLt
    have hp' : p'.val < 8 := p'.isLt
    have : h = h' ∧ r = r' ∧ p = p' := by refine ⟨?_, ?_, ?_⟩ <;> apply Fin.ext <;> omega
    rw [this.1, this.2.1, this.2.2]

/-- A cell of the protocol. -/
abbrev cell (c : Dev nD) (k : Key) : GSem nD τ sig := ((c : Thread nD τ), semOf k)

theorem cell_inj {c c' : Dev nD} {k k' : Key} (h : cell c k = cell c' k') : c = c' ∧ k = k' := by
  have h1 := congrArg (fun g : GSem nD τ sig => g.1.1) h
  have h2 := congrArg (fun g : GSem nD τ sig => g.2) h
  exact ⟨h1, semOf_inj h2⟩

open Classical in
/-- Which of the protocol's cells a semaphore is. -/
def keyOf (g : GSem nD τ sig) : Option Key := if h : g.1.2 = .tc ∧ ∃ k, semOf k = g.2 then some h.2.choose else none

theorem keyOf_cell (c : Dev nD) (k : Key) : keyOf (cell c k) = some k := by
  have h : (cell c k).1.2 = .tc ∧ ∃ k', semOf k' = (cell c k).2 := ⟨rfl, k, rfl⟩
  unfold keyOf
  rw [dif_pos h, semOf_inj h.2.choose_spec]

/-! ## Contents -/

/-- Device `c`'s rows and router columns, as staged. -/
def xin (c : Dev nD) : Vec F S128x1024 .f32 := (win0_0.blk (0 : Fin 4)).view.read (Elt F) (m ((c : Thread nD τ).loc main_arg0))
def rin (c : Dev nD) : Vec F S1024x4 .f32 := (win0_1.blk (0 : Fin 4)).view.read (Elt F) (m ((c : Thread nD τ).loc main_arg1))

/-- Expert `e`'s two matrices on device `c`. -/
def w1 (c : Dev nD) (e : Fin 4) : Vec F S1x1024x2048 .f32 :=
  fun k => (m ((c : Thread nD τ).loc main_arg2) : S4x1024x2048.Idx → F .f32) ((slotR 4 1024 2048 e).emb k)
def w2 (c : Dev nD) (e : Fin 4) : Vec F S1x2048x1024 .f32 :=
  fun k => (m ((c : Thread nD τ).loc main_arg3) : S4x2048x1024.Idx → F .f32) ((slotR 4 2048 1024 e).emb k)

/-- What a device broadcasts: its rounded rows, its router columns transposed, its gates. -/
def xbf (c : Dev nD) : Vec F S128x1024 .bf16 := k0_pay1 (xin m c)
def rst (c : Dev nD) : Vec F S4x1024 .f32 := k0_pay3 (rin m c)
def Vx (c : Dev nD) : Vec F S1x128x1024 .bf16 := k0_pay2 (xbf m c)
def Vr (c : Dev nD) : Vec F S1x4x1024 .f32 := k0_pay4 (rst m c)
def XF : Vec F S8x128x1024 .bf16 := stack (n := 8) (a := 128) (b := 1024) (Vx m)
def RF : Vec F S8x4x1024 .f32 := stack (n := 8) (a := 4) (b := 1024) (Vr m)
def Vw (c : Dev nD) : Vec F S1x128x32 .f32 :=
  k0_pay9 (k0_pay5 (RF m) (xin m c)) (k0_pay6 (RF m) (xin m c)) (k0_pay7 (RF m) (xin m c)) (k0_pay8 (RF m) (xin m c)) (Scalar.ofBits .f32 0x3F800000#32)
def WB : Vec F S8x128x32 .f32 := stack (n := 8) (a := 128) (b := 32) (Vw m)

/-- The numbers of the gate columns, and the global number of device `c`'s expert `e`, as the kernel computes them. -/
def lanes : IVec S128x32 32 := iota .tc S128x32 32 [1] iota_S128x32_d1_w32
def ge (c : Dev nD) (e : ℕ) : BitVec 32 :=
  Scalar.addi (Scalar.muli (Scalar.remsi (Scalar.divsi (Dev.word c) 1#32) 8#32) 4#32) (BitVec.ofNat 32 e)

/-- Device `c`'s accumulated rows of source `p` after experts `0 … e`. -/
def acc (c : Dev nD) : ℕ → Dev nD → Vec F S1x128x1024 .f32
  | 0, p => k0_pay14 (k0_pay10 (w1 m c 0)) (k0_pay11 (w2 m c 0)) (k0_pay12 (Vx m p)) (k0_pay13 lanes (ge c 0) (Vw m p))
  | e + 1, p => k0_pay29 (k0_pay28 lanes (ge c (e + 1)) (w1 m c (Fin.ofNat 4 (e + 1))) (w2 m c (Fin.ofNat 4 (e + 1))) (acc c e p) (Vx m p) (Vw m p))

/-- What device `c` returns to device `p`. -/
def ret (c p : Dev nD) : Vec F S1x128x1024 .bf16 :=
  k0_pay48 lanes (ge c 3) (k0_pay46 (w1 m c 3)) (w2 m c 3) (acc m c 2 p) (Vx m p) (Vw m p)

/-! ## Places -/

section Places
variable (c : Dev nD)

/-- Slot `p` of the gathered rows, router columns, gates, accumulators, outgoing and returned rows of device `c`. -/
def xfP (p : Dev nD) (q : PosShare TreeShare) (f : Vec F S8x128x1024 .bf16) : sProp 𝕄 := (c : Thread nD τ).loc cc0_scratch1 ↦[(slotR 8 128 1024 p).set]{q} f
def rfP (p : Dev nD) (q : PosShare TreeShare) (f : Vec F S8x4x1024 .f32) : sProp 𝕄 := (c : Thread nD τ).loc cc0_scratch2 ↦[(slotR 8 4 1024 p).set]{q} f
def wbP (p : Dev nD) (q : PosShare TreeShare) (f : Vec F S8x128x32 .f32) : sProp 𝕄 := (c : Thread nD τ).loc cc0_scratch4 ↦[(slotR 8 128 32 p).set]{q} f
def acP (p : Dev nD) (q : PosShare TreeShare) (f : Vec F S8x128x1024 .f32) : sProp 𝕄 := (c : Thread nD τ).loc cc0_scratch5 ↦[(slotR 8 128 1024 p).set]{q} f
def abP (p : Dev nD) (q : PosShare TreeShare) (f : Vec F S8x128x1024 .bf16) : sProp 𝕄 := (c : Thread nD τ).loc cc0_scratch6 ↦[(slotR 8 128 1024 p).set]{q} f
def rbP (p : Dev nD) (q : PosShare TreeShare) (f : Vec F S8x128x1024 .bf16) : sProp 𝕄 := (c : Thread nD τ).loc cc0_scratch7 ↦[(slotR 8 128 1024 p).set]{q} f
/-- The rounded rows and the transposed router columns of device `c`. -/
def xbP (q : PosShare TreeShare) (f : Vec F S128x1024 .bf16) : sProp 𝕄 := (c : Thread nD τ).loc cc0_scratch0 ↦{q} f
def rsP (q : PosShare TreeShare) (f : Vec F S4x1024 .f32) : sProp 𝕄 := (c : Thread nD τ).loc cc0_scratch3 ↦{q} f
/-- Slot `a` of the two weight buffers, and expert `e`'s slice of the two weight arguments. -/
def b1P (a : Fin 2) (f : Vec F S2x1024x2048 .f32) : sProp 𝕄 := (c : Thread nD τ).loc cc0_scratch8 ↦[(slotR 2 1024 2048 a).set]{fullShare} f
def b2P (a : Fin 2) (f : Vec F S2x2048x1024 .f32) : sProp 𝕄 := (c : Thread nD τ).loc cc0_scratch9 ↦[(slotR 2 2048 1024 a).set]{fullShare} f
def a1P (e : Fin 4) : sProp 𝕄 := (c : Thread nD τ).loc main_arg2 ↦[(slotR 4 1024 2048 e).set]{fullShare} m ((c : Thread nD τ).loc main_arg2)
def a2P (e : Fin 4) : sProp 𝕄 := (c : Thread nD τ).loc main_arg3 ↦[(slotR 4 2048 1024 e).set]{fullShare} m ((c : Thread nD τ).loc main_arg3)

/-- The place of channel `h` that device `p` writes on device `c`, whatever it holds. -/
def landAny (h : Fin 4) (p : Dev nD) : sProp 𝕄 :=
  match h with
  | 0 => iprop(∃ f, xfP c p fullShare f)
  | 1 => iprop(∃ f, rfP c p fullShare f)
  | 2 => iprop(∃ f, wbP c p fullShare f)
  | 3 => iprop(∃ f, rbP c p fullShare f)

/-- What device `p`'s transfer on channel `h` leaves on device `c`. -/
def recvPay (h : Fin 4) (p : Dev nD) : sProp 𝕄 :=
  match h with
  | 0 => xfP c p fullShare (XF m)
  | 1 => rfP c p fullShare (RF m)
  | 2 => wbP c p fullShare (WB m)
  | 3 => rbP c p fullShare (stack (n := 8) (a := 128) (b := 1024) fun p => ret m p c)

/-- The share of the source that device `c`'s transfer towards `p` on channel `h` reads. -/
def sendPay (h : Fin 4) (p : Dev nD) : sProp 𝕄 :=
  match h with
  | 0 => xbP c (leaf 3 fullShare p) (xbf m c)
  | 1 => rsP c (leaf 3 fullShare p) (rst m c)
  | 2 => wbP c c (leaf 3 fullShare p) (WB m)
  | 3 => abP c p fullShare (stack (n := 8) (a := 128) (b := 1024) fun p => ret m c p)

/-- What the copy of expert `e`'s matrix `b` hands back. -/
def wPay (a : Fin 2) (b : Fin 2) (e : Fin 4) : sProp 𝕄 :=
  match b with
  | 0 => iprop(b1P c a (stack (n := 2) (a := 1024) (b := 2048) fun _ => w1 m c e) ∗ a1P m c e)
  | 1 => iprop(b2P c a (stack (n := 2) (a := 2048) (b := 1024) fun _ => w2 m c e) ∗ a2P m c e)

/-- What device `d`'s signal hands device `c`: the places on `d` that `c` writes. -/
def barPay (d : Dev nD) : sProp 𝕄 := bigSep Finset.univ fun h => landAny d h c

end Places

/-! ## Credits -/

abbrev xfS (p : Dev nD) : Memref sig .tc .vmem S128x1024 .bf16 :=
  ((Memref.whole cc0_scratch1).slice (Rect.unit (s := S8x128x1024) ![p.val, 0, 0] S1x128x1024.size (slot_inb p)) (fun _ => rfl)).squeeze S128x1024 squeezes_S1x128x1024_S128x1024
abbrev rfS (p : Dev nD) : Memref sig .tc .vmem S4x1024 .f32 :=
  ((Memref.whole cc0_scratch2).slice (Rect.unit (s := S8x4x1024) ![p.val, 0, 0] S1x4x1024.size (slot_inb p)) (fun _ => rfl)).squeeze S4x1024 squeezes_S1x4x1024_S4x1024
abbrev wbS (p : Dev nD) : Memref sig .tc .vmem S128x32 .f32 :=
  ((Memref.whole cc0_scratch4).slice (Rect.unit (s := S8x128x32) ![p.val, 0, 0] S1x128x32.size (slot_inb p)) (fun _ => rfl)).squeeze S128x32 squeezes_S1x128x32_S128x32
abbrev abS (p : Dev nD) : Memref sig .tc .vmem S128x1024 .bf16 :=
  ((Memref.whole cc0_scratch6).slice (Rect.unit (s := S8x128x1024) ![p.val, 0, 0] S1x128x1024.size (slot_inb p)) (fun _ => rfl)).squeeze S128x1024 squeezes_S1x128x1024_S128x1024
abbrev rbS (p : Dev nD) : Memref sig .tc .vmem S128x1024 .bf16 :=
  ((Memref.whole cc0_scratch7).slice (Rect.unit (s := S8x128x1024) ![p.val, 0, 0] S1x128x1024.size (slot_inb p)) (fun _ => rfl)).squeeze S128x1024 squeezes_S1x128x1024_S128x1024
abbrev b1S (a : Fin 2) : Memref sig .tc .vmem S1024x2048 .f32 :=
  ((Memref.whole cc0_scratch8).slice (Rect.unit (s := S2x1024x2048) ![a.val, 0, 0] S1x1024x2048.size (slot_inb a)) (fun _ => rfl)).squeeze S1024x2048 squeezes_S1x1024x2048_S1024x2048
abbrev b2S (a : Fin 2) : Memref sig .tc .vmem S2048x1024 .f32 :=
  ((Memref.whole cc0_scratch9).slice (Rect.unit (s := S2x2048x1024) ![a.val, 0, 0] S1x2048x1024.size (slot_inb a)) (fun _ => rfl)).squeeze S2048x1024 squeezes_S1x2048x1024_S2048x1024
abbrev a1S (e : Fin 4) : Memref sig .tc .hbm S1024x2048 .f32 :=
  ((Memref.whole main_arg2).slice (Rect.unit (s := S4x1024x2048) ![e.val, 0, 0] S1x1024x2048.size (slot_inb e)) (fun _ => rfl)).squeeze S1024x2048 squeezes_S1x1024x2048_S1024x2048
abbrev a2S (e : Fin 4) : Memref sig .tc .hbm S2048x1024 .f32 :=
  ((Memref.whole main_arg3).slice (Rect.unit (s := S4x2048x1024) ![e.val, 0, 0] S1x2048x1024.size (slot_inb e)) (fun _ => rfl)).squeeze S2048x1024 squeezes_S1x2048x1024_S2048x1024

/-- The credit of one transfer of a channel, and of a weight copy. -/
def NC : Fin 4 → ℕ
  | 0 => (xfS 0).view.dmaCredit
  | 1 => (rfS 0).view.dmaCredit
  | 2 => (wbS 0).view.dmaCredit
  | 3 => (rbS 0).view.dmaCredit
def NW : Fin 2 → ℕ
  | 0 => (b1S 0).view.dmaCredit
  | 1 => (b2S 0).view.dmaCredit

theorem NC_pos : ∀ h, 0 < NC h
  | 0 => View.dmaCredit_pos _ (by decide)
  | 1 => View.dmaCredit_pos _ (by decide)
  | 2 => View.dmaCredit_pos _ (by decide)
  | 3 => View.dmaCredit_pos _ (by decide)
theorem NW_pos : ∀ b, 0 < NW b
  | 0 => View.dmaCredit_pos _ (by decide)
  | 1 => View.dmaCredit_pos _ (by decide)

/-! ## The schedule -/

/-- The duties of a cell's round, by who pays. -/
def kDuties (c : Dev nD) (k : Key) (r : ℕ) : Finset (Dev nD) :=
  match k with
  | .inl _ => if r = 0 then Finset.univ.erase c else ∅
  | .inr (.inl _) => if r < 2 then {c} else ∅
  | .inr (.inr (_, i, p)) => if r = 0 ∧ p ≠ c then (if i = 0 then {c} else {p}) else ∅

def kAmount : Key → ℕ
  | .inl _ => 1
  | .inr (.inl (_, b)) => NW b
  | .inr (.inr (h, _, _)) => NC h

def kPay (c : Dev nD) (k : Key) (r : ℕ) (d : Dev nD) : sProp 𝕄 :=
  match k with
  | .inl _ => barPay c d
  | .inr (.inl (a, b)) => wPay m c a b (Fin.ofNat 4 (2 * r + a.val))
  | .inr (.inr (h, i, p)) => if i = 0 then sendPay m c h p else recvPay m c h p

def Rd : Rounds.Schedule (GSem nD τ sig) (Dev nD) 𝕄 where
  duties g r := (keyOf g).elim ∅ fun k => kDuties g.1.1 k r
  unitless _ := False
  amount g _ _ := (keyOf g).elim 1 kAmount
  payload g r d := (keyOf g).elim iprop(emp) fun k => kPay m g.1.1 k r d
  amount_pos g _ _ _ := by
    rcases keyOf g with _ | (_ | ⟨a, b⟩ | ⟨h, i, p⟩)
    · exact Nat.one_pos
    · exact Nat.one_pos
    · exact NW_pos b
    · exact NC_pos h

instance kPay_storable (c : Dev nD) (k : Key) (r : ℕ) (d : Dev nD) : BI.Storable (upEmb : UEmb _ 𝕄) (kPay (F := F) m c k r d) := by
  rcases k with _ | ⟨a, b⟩ | ⟨h, i, p⟩
  · show BI.Storable upEmb (bigSep Finset.univ fun h => landAny d h c)
    haveI : ∀ h, BI.Storable (upEmb : UEmb _ 𝕄) (landAny (F := F) d h c) := fun h => by
      fin_cases h <;> simp only [landAny, xfP, rfP, wbP, rbP] <;> infer_instance
    infer_instance
  · show BI.Storable upEmb (wPay m c a b _)
    fin_cases b <;> simp only [wPay, b1P, b2P, a1P, a2P] <;> infer_instance
  · show BI.Storable upEmb (if i = 0 then sendPay m c h p else recvPay m c h p)
    fin_cases h <;> simp only [sendPay, recvPay, xfP, rfP, wbP, rbP, xbP, rsP, abP] <;> split <;> infer_instance

instance Rd_storable (g : GSem nD τ sig) (r : ℕ) (d : Dev nD) : BI.Storable (upEmb : UEmb _ 𝕄) ((Rd (F := F) m).payload g r d) := by
  show BI.Storable upEmb ((keyOf g).elim iprop(emp) fun k => kPay m g.1.1 k r d)
  rcases keyOf g with _ | k
  · show BI.Storable upEmb iprop(emp); infer_instance
  · show BI.Storable upEmb (kPay m g.1.1 k r d); infer_instance

section Sched
variable (c : Dev nD) (k : Key) (r : ℕ)

theorem Rd_duties : (Rd (F := F) m).duties (cell c k) r = kDuties c k r := by show (keyOf (cell c k)).elim ∅ _ = _; rw [keyOf_cell]; rfl
theorem Rd_amount (d : Dev nD) : (Rd (F := F) m).amount (cell c k) r d = kAmount k := by show (keyOf (cell c k)).elim 1 _ = _; rw [keyOf_cell]; rfl
theorem Rd_payload (d : Dev nD) : (Rd (F := F) m).payload (cell c k) r d = kPay m c k r d := by
  show (keyOf (cell c k)).elim iprop(emp) _ = _; rw [keyOf_cell]; rfl
theorem Rd_expect : (Rd (F := F) m).expect (cell c k) r = (kDuties c k r).card * kAmount k := by
  unfold Schedule.expect Schedule.amountOf
  rw [Rd_duties, Finset.sum_congr rfl fun d _ => Rd_amount m c k r d, Finset.sum_const, smul_eq_mul]
theorem Rd_rest : bigSep ((Rd (F := F) m).duties (cell c k) r \ ∅) (fun d => (Rd (F := F) m).payload (cell c k) r d)
    = bigSep (kDuties c k r) fun d => kPay m c k r d := by
  rw [Finset.sdiff_empty, Rd_duties]; exact bigSep_congr fun d _ => Rd_payload m c k r d

/-- After a cell's last round no duty is left. -/
theorem Rd_later (h : (match k with | .inr (.inl _) => 2 | _ => 1) ≤ r) : (Rd (F := F) m).duties (cell c k) r = ∅ := by
  rw [Rd_duties]
  rcases k with _ | ⟨a, b⟩ | ⟨x, i, p⟩
  · exact if_neg (by simp at h; omega)
  · exact if_neg (by simp at h; omega)
  · exact if_neg (by simp at h; omega)

end Sched

/-! ## What is owed; the levels -/

/-- Device `c` still owes the barrier units of its peers from the `b`-th on and, on channel `h`, the credits of the peers from the `n h`-th on. -/
def Ow (c : Dev nD) (b : ℕ) (n : Fin 4 → ℕ) : CellTallies nD τ sig Unit :=
  (∑ j ∈ Finset.univ.filter fun j : Fin 7 => b ≤ j.val, tallyAt (cell (peer c j) kBar) () 1)
    + ∑ h : Fin 4, ∑ j ∈ Finset.univ.filter fun j : Fin 7 => n h ≤ j.val, tallyAt (cell (peer c j) (kCh h 1 c)) () (NC h)

theorem filter_le_step (b : ℕ) (hb : b < 7) :
    (Finset.univ.filter fun j : Fin 7 => b ≤ j.val) = insert (⟨b, hb⟩ : Fin 7) (Finset.univ.filter fun j : Fin 7 => b + 1 ≤ j.val) := by
  ext j; simp only [Finset.mem_filter, Finset.mem_univ, true_and, Finset.mem_insert, Fin.ext_iff]; omega

theorem sum_le_step {α : Type} [AddCommMonoid α] (f : Fin 7 → α) (b : ℕ) (hb : b < 7) :
    (∑ j ∈ Finset.univ.filter fun j : Fin 7 => b ≤ j.val, f j) = f ⟨b, hb⟩ + ∑ j ∈ Finset.univ.filter fun j : Fin 7 => b + 1 ≤ j.val, f j := by
  rw [filter_le_step b hb, Finset.sum_insert (by simp)]

theorem Ow_bar (c : Dev nD) (b : ℕ) (hb : b < 7) (n : Fin 4 → ℕ) :
    Ow c b n = Ow c (b + 1) n + tallyAt (cell (peer c ⟨b, hb⟩) kBar) () 1 := by
  unfold Ow; rw [sum_le_step _ b hb]; ac_rfl

theorem Ow_ch (c : Dev nD) (b : ℕ) (n n' : Fin 4 → ℕ) (h : Fin 4) (k : ℕ) (hk : k < 7) (hn : n h = k) (hn' : n' = Function.update n h (k + 1)) :
    Ow c b n = Ow c b n' + tallyAt (cell (peer c ⟨k, hk⟩) (kCh h 1 c)) () (NC h) := by
  have hk' : n h < 7 := by omega
  subst hn hn'
  have e : ∀ f : Fin 4 → ℕ → CellTallies nD τ sig Unit, (∑ h' ∈ Finset.univ.erase h, f h' (Function.update n h (n h + 1) h')) = ∑ h' ∈ Finset.univ.erase h, f h' (n h') :=
    fun f => Finset.sum_congr rfl fun h' hh' => by rw [Function.update_of_ne (Finset.mem_erase.mp hh').1]
  have e' := e fun h' k => ∑ j ∈ Finset.univ.filter fun j : Fin 7 => k ≤ j.val, tallyAt (cell (peer c j) (kCh h' 1 c)) () (NC h')
  unfold Ow
  rw [← Finset.add_sum_erase _ _ (Finset.mem_univ h), sum_le_step _ (n h) hk',
    ← Finset.add_sum_erase (Finset.univ : Finset (Fin 4)) (fun h' => ∑ j ∈ Finset.univ.filter fun j : Fin 7 => Function.update n h (n h + 1) h' ≤ j.val, tallyAt (cell (peer c j) (kCh h' 1 c)) () (NC h')) (Finset.mem_univ h),
    Function.update_self, e']
  ac_rfl

theorem Ow_done (c : Dev nD) : Ow c 7 (fun _ => 7) = 0 := by
  have : (Finset.univ.filter fun j : Fin 7 => 7 ≤ j.val) = ∅ := by decide
  unfold Ow; simp [this]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a cell: barrier 1, receive cells 2, 2, 3, 4 by channel, the rest 0. -/
def kLev : Key → ℕ
  | .inl _ => 1
  | .inr (.inl _) => 0
  | .inr (.inr (h, i, _)) => if i = 0 then 0 else ![2, 2, 3, 4] h
def lv (g : GSem nD τ sig) (_ : Unit) : ℕ := (keyOf g).elim 0 kLev
theorem lv_cell (c : Dev nD) (k : Key) (u : Unit) : lv (cell c k) u = kLev k := by unfold lv; rw [keyOf_cell]; rfl

theorem Ow_pos {c : Dev nD} {b : ℕ} {n : Fin 4 → ℕ} {g : GSem nD τ sig} {u : Unit} (h : 0 < Ow c b n g u) :
    (∃ j : Fin 7, b ≤ j.val ∧ g = cell (peer c j) kBar) ∨ ∃ (x : Fin 4) (j : Fin 7), n x ≤ j.val ∧ g = cell (peer c j) (kCh x 1 c) := by
  unfold Ow at h
  rw [Pi.add_apply, Finsupp.add_apply] at h
  by_contra hn
  rw [not_or] at hn
  refine absurd h (Nat.not_lt.mpr (le_of_eq ?_))
  have h1 : (∑ j ∈ Finset.univ.filter fun j : Fin 7 => b ≤ j.val, tallyAt (cell (peer c j) kBar) () 1 : CellTallies nD τ sig Unit) g u = 0 := by
    rw [Finset.sum_apply, Finsupp.finset_sum_apply]
    refine Finset.sum_eq_zero fun j hj => ?_
    rw [tallyAt_apply, if_neg fun hg => hn.1 ⟨j, (Finset.mem_filter.mp hj).2, hg.1⟩]
  have h2 : (∑ x : Fin 4, ∑ j ∈ Finset.univ.filter fun j : Fin 7 => n x ≤ j.val, tallyAt (cell (peer c j) (kCh x 1 c)) () (NC x) : CellTallies nD τ sig Unit) g u = 0 := by
    rw [Finset.sum_apply, Finsupp.finset_sum_apply]
    refine Finset.sum_eq_zero fun x _ => ?_
    rw [Finset.sum_apply, Finsupp.finset_sum_apply]
    refine Finset.sum_eq_zero fun j hj => ?_
    rw [tallyAt_apply, if_neg fun hg => hn.2 ⟨x, j, (Finset.mem_filter.mp hj).2, hg.1⟩]
  rw [h1, h2]

/-- A device may wait on a cell below everything it still owes. -/
theorem mayWait (c : Dev nD) (sm : SemLoc sig) (b : ℕ) (n : Fin 4 → ℕ) (l : ℕ) (hl : lv ((c : Thread nD τ), sm) () ≤ l) (hb : ∀ j : Fin 7, b ≤ j.val → l < 1)
    (hn : ∀ (x : Fin 4) (j : Fin 7), n x ≤ j.val → l < (![2, 2, 3, 4] : Fin 4 → ℕ) x) :
    (levAts L lv : sProp 𝕄) ⊢ MayWait (c : Thread nD τ) sm () (Ow c b n) :=
  MayOwe.of_cut (L := L) (lev := lv) l (fun p hp => by rw [Finset.mem_singleton.mp hp, L_tc]; exact Finset.mem_singleton_self _)
    (fun g u hg => by rcases Ow_pos hg with ⟨j, -, rfl⟩ | ⟨x, j, -, rfl⟩ <;> exact Finset.mem_singleton_self _)
    (fun p hp => by rw [Finset.mem_singleton.mp hp]; exact hl)
    (fun g u hg => by
      rcases Ow_pos hg with ⟨j, hj, rfl⟩ | ⟨x, j, hj, rfl⟩
      · rw [lv_cell]; exact hb j hj
      · rw [lv_cell]; exact hn x j hj)

end Cert.KernelIdeal.Moe
-- ==== Proof.Steps.lean ====
/- One step of the kernel at a symbolic device: each memory operation as a rule over the protocol's resources. -/
module

public import proofs.«01_k».proof.Proof.Sched

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`'s kernel. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- All the cells' invariants at the names they were allocated at, that each cell has reached its first round, and the levels. -/
def records (K : Dev nD × Key → ℕ) : sProp 𝕄 :=
  iprop((bigSep Finset.univ fun x : Dev nD × Key => iprop(cellInv ER (Rd m) (K x) (cell x.1 x.2) ∗ reached ER (cell x.1 x.2) 0)) ∗ levAts L lv)

instance records_persistent (K : Dev nD × Key → ℕ) : BI.Persistent (records m K) := by unfold records; infer_instance

section Records
variable (K : Dev nD × Key → ℕ)

theorem sep_first (A B C D : sProp 𝕄) : iprop(((A ∗ B) ∗ C) ∗ D) ⊢ A := by iintro ⟨⟨⟨H, -⟩, -⟩, -⟩; iexact H
theorem sep_second (A B C D : sProp 𝕄) : iprop(((A ∗ B) ∗ C) ∗ D) ⊢ B := by iintro ⟨⟨⟨-, H⟩, -⟩, -⟩; iexact H

theorem rec_inv (c : Dev nD) (k : Key) : records m K ⊢ cellInv ER (Rd m) (K (c, k)) (cell c k) := by
  unfold records; rw [bigSep_univ_split (c, k)]; exact sep_first _ _ _ _

theorem rec_reached (c : Dev nD) (k : Key) : records m K ⊢ reached ER (cell c k) 0 := by
  unfold records; rw [bigSep_univ_split (c, k)]; exact sep_second _ _ _ _

theorem rec_lev : records m K ⊢ levAts L lv := by unfold records; iintro ⟨-, H⟩; iexact H
end Records

/-- What device `c` owes, whatever it has waited for. -/
def ow (c : Dev nD) (b : ℕ) (n : Fin 4 → ℕ) : sProp 𝕄 := iprop(∃ W, owes (c : Thread nD τ) (Ow c b n) W)

/-! ## Waits -/

/-- A wait for a whole round of one of the device's own cells: the round's payloads come back. -/
theorem wait_core (K : Dev nD × Key → ℕ) (c : Dev nD) (k : Key) (r N : ℕ) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (semOf k) N Kt)
    (hN : N = (kDuties c k r).card * kAmount k) (b : ℕ) (n : Fin 4 → ℕ)
    (hb : ∀ j : Fin 7, b ≤ j.val → kLev k < 1) (hn : ∀ (x : Fin 4) (j : Fin 7), n x ≤ j.val → kLev k < (![2, 2, 3, 4] : Fin 4 → ℕ) x)
    {α : Type} {Q : α → sProp 𝕄} {p : PUnit → Prog (TpuEff nD τ sig (Elt F) Λ₀ .tc) α} :
    records m K ⊢ iprop(cred (tallyAt (cell c k) () N) -∗ atPos ER (cell c k) r ∅ 0 -∗ ow c b n
      -∗ (ow c b n -∗ atPos ER (cell c k) (r + 1) ∅ 0 -∗ reached ER (cell c k) (r + 1) -∗ bigSep (kDuties c k r) (fun d => kPay m c k r d) -∗ WP c (p ⟨⟩) Q)
      -∗ WP c (.op w p) Q) := by
  iintro #HR Hc Hp Ho Hk
  unfold ow
  icases Ho with ⟨%W, HO⟩
  iapply (Rounds.wp_wait_rest_token 𝒱₀ ER (Rd m) (c : Thread nD τ) none (κ := K (c, k)) (sm := semOf k)
    hw (Set.mem_univ _) () (O := Ow c b n) (W := W) (R := r) (m := 0) (T := ∅) (by rw [Nat.zero_add, hN]; exact (Rd_expect m c k r).symm)) $$ [Hc HO Hp]
  · isplitr; · iapply (rec_inv m K c k); iexact HR
    isplitl [Hc]; · iexact Hc
    isplitl [HO]; · iexact HO
    isplitr
    · iapply (mayWait c (semOf k) b n (kLev k) (le_of_eq (lv_cell c k ())) hb hn)
      iapply (rec_lev m K); iexact HR
    iexact Hp
  iintro ⟨HO, Hp, Hr, Hpay⟩
  iapply Hk $$ [HO] Hp Hr [Hpay]
  · iexists _; iexact HO
  · iapply (Entails.of_eq (Rd_rest m c k r)); iexact Hpay

/-- Before and after the wait for peer `j`'s landing on channel `h`. -/
def RP (c : Dev nD) (h : Fin 4) (j : Fin 7) : sProp 𝕄 :=
  iprop(cred (tallyAt (cell c (kCh h 1 (peer c j))) () (NC h)) ∗ atPos ER (cell c (kCh h 1 (peer c j))) 0 ∅ 0)
def RQ (c : Dev nD) (h : Fin 4) (j : Fin 7) : sProp 𝕄 :=
  iprop(atPos ER (cell c (kCh h 1 (peer c j))) 1 ∅ 0 ∗ recvPay m c h (peer c j))
/-- Before and after the wait for the device's own transfer towards peer `j` on channel `h`. -/
def SP (c : Dev nD) (h : Fin 4) (j : Fin 7) : sProp 𝕄 :=
  iprop(cred (tallyAt (cell c (kCh h 0 (peer c j))) () (NC h)) ∗ atPos ER (cell c (kCh h 0 (peer c j))) 0 ∅ 0)
def SQ (c : Dev nD) (h : Fin 4) (j : Fin 7) : sProp 𝕄 :=
  iprop(atPos ER (cell c (kCh h 0 (peer c j))) 1 ∅ 0 ∗ sendPay m c h (peer c j))

theorem kDuties_recv (c : Dev nD) (h : Fin 4) (j : Fin 7) : kDuties c (kCh h 1 (peer c j)) 0 = {peer c j} := by
  show (if 0 = 0 ∧ peer c j ≠ c then (if (1 : Fin 2) = 0 then {c} else {peer c j}) else ∅ : Finset (Dev nD)) = _
  rw [if_pos ⟨rfl, peer_ne c j⟩, if_neg (by decide)]
theorem kDuties_send (c : Dev nD) (h : Fin 4) (j : Fin 7) : kDuties c (kCh h 0 (peer c j)) 0 = {c} := by
  show (if 0 = 0 ∧ peer c j ≠ c then (if (0 : Fin 2) = 0 then {c} else {peer c j}) else ∅ : Finset (Dev nD)) = _
  rw [if_pos ⟨rfl, peer_ne c j⟩, if_pos rfl]

theorem kDuties_bar (c : Dev nD) : kDuties c kBar 0 = Finset.univ.erase c := by
  show (if 0 = 0 then Finset.univ.erase c else ∅ : Finset (Dev nD)) = _
  rw [if_pos rfl]
theorem kPay_send (c : Dev nD) (h : Fin 4) (p : Dev nD) (r : ℕ) (d : Dev nD) : kPay m c (kCh h 0 p) r d = sendPay m c h p := by
  show (if (0 : Fin 2) = 0 then sendPay m c h p else recvPay m c h p) = _
  rw [if_pos rfl]
theorem kPay_recv (c : Dev nD) (h : Fin 4) (p : Dev nD) (r : ℕ) (d : Dev nD) : kPay m c (kCh h 1 p) r d = recvPay m c h p := by
  show (if (1 : Fin 2) = 0 then sendPay m c h p else recvPay m c h p) = _
  rw [if_neg (by decide)]

theorem kLev_recv (h : Fin 4) (p : Dev nD) : kLev (kCh h 1 p) = (![2, 2, 3, 4] : Fin 4 → ℕ) h := by
  show (if (1 : Fin 2) = 0 then 0 else (![2, 2, 3, 4] : Fin 4 → ℕ) h) = _
  rw [if_neg (by decide)]
theorem kLev_send (h : Fin 4) (p : Dev nD) : kLev (kCh h 0 p) = 0 := by
  show (if (0 : Fin 2) = 0 then 0 else (![2, 2, 3, 4] : Fin 4 → ℕ) h) = _
  rw [if_pos rfl]

section WaitCh
variable (K : Dev nD × Key → ℕ) (c : Dev nD) (h : Fin 4) (k : ℕ) (hk : k < 7) (b : ℕ) (n : Fin 4 → ℕ)
variable {A : DmaSems sig S8} {o : Fin 1 → ℕ} {hin : ∀ d, o d + S1.size d ≤ S8.size d}
variable {sp sp' : Space} {s s' : Shape} {e e' : EltTy} {src : Memref sig .tc sp' s' e'} {dst : Memref sig .tc sp s e}
variable {hsrc : src.view.WordExact} {hdst : dst.view.WordExact}

/-- The wait for peer `k`'s landing. -/
theorem wait_recv {α : Type} {Q : α → sProp 𝕄} {p : PUnit → Prog (TpuEff nD τ sig (Elt F) Λ₀ .tc) α} (hA : A = semArr h 1) (ho : o = ![(c.val + k + 1) % 8]) (hN : dst.view.dmaCredit = NC h)
    (hb : ∀ j : Fin 7, b ≤ j.val → (![2, 2, 3, 4] : Fin 4 → ℕ) h < 1)
    (hn : ∀ (x : Fin 4) (j : Fin 7), n x ≤ j.val → (![2, 2, 3, 4] : Fin 4 → ℕ) h < (![2, 2, 3, 4] : Fin 4 → ℕ) x) :
    records m K ⊢ iprop(RP c h ⟨k, hk⟩ -∗ ow c b n -∗ (RQ m c h ⟨k, hk⟩ -∗ ow c b n -∗ WP c (p ⟨⟩) Q)
      -∗ WP c (.op (.waitDma2 ((A.slice (Rect.unit (s := S8) o S1.size hin)).squeeze S_ squeezes_S1_S_).sem src dst hsrc hdst) p) Q) := by
  subst hA ho
  iintro #HR Hf Ho Hk
  unfold RP
  icases Hf with ⟨Hc, Hp⟩
  have hw : ∀ Kt : PUnit → sProp 𝕄, wpE (defs₀ (F := F)) 𝒱₀ (c : Thread nD τ) none Set.univ
      (.waitDma2 (((semArr h 1).slice (Rect.unit (s := S8) ![(c.val + k + 1) % 8] S1.size hin)).squeeze S_ squeezes_S1_S_).sem src dst hsrc hdst) Kt
      = waitSpec (c : Thread nD τ) Set.univ (semOf (kCh h 1 (peer c ⟨k, hk⟩))) (NC h) Kt := fun Kt => by
    rw [← hN]; exact wpE_waitDma2_eq 𝒱₀ (c : Thread nD τ) none Set.univ Kt
  have h1 : NC h = (kDuties c (kCh h 1 (peer c ⟨k, hk⟩)) 0).card * kAmount (kCh h 1 (peer c ⟨k, hk⟩)) := by
    rw [kDuties_recv]; exact (Nat.one_mul _).symm
  have h2 : ∀ j : Fin 7, b ≤ j.val → kLev (kCh h 1 (peer c ⟨k, hk⟩)) < 1 := by rw [kLev_recv]; exact hb
  have h3 : ∀ (x : Fin 4) (j : Fin 7), n x ≤ j.val → kLev (kCh h 1 (peer c ⟨k, hk⟩)) < (![2, 2, 3, 4] : Fin 4 → ℕ) x := by rw [kLev_recv]; exact hn
  have h4 : bigSep (kDuties c (kCh h 1 (peer c ⟨k, hk⟩)) 0) (fun d => kPay m c (kCh h 1 (peer c ⟨k, hk⟩)) 0 d) = recvPay m c h (peer c ⟨k, hk⟩) := by
    rw [kDuties_recv, bigSep_singleton, kPay_recv]
  iapply (wait_core m K c (kCh h 1 (peer c ⟨k, hk⟩)) 0 (NC h) hw
    h1 b n h2 h3) $$ HR Hc Hp Ho
  iintro Ho Hp - Hpay
  iapply Hk $$ [Hp Hpay] Ho
  unfold RQ
  isplitl [Hp]; · iexact Hp
  iapply (Entails.of_eq h4)
  iexact Hpay

/-- The wait for the device's own transfer towards peer `k`. -/
theorem wait_send {α : Type} {Q : α → sProp 𝕄} {p : PUnit → Prog (TpuEff nD τ sig (Elt F) Λ₀ .tc) α} (hA : A = semArr h 0) (ho : o = ![(c.val + k + 1) % 8]) (hN : dst.view.dmaCredit = NC h)
    (hb : ∀ j : Fin 7, b ≤ j.val → 0 < 1)
    (hn : ∀ (x : Fin 4) (j : Fin 7), n x ≤ j.val → 0 < (![2, 2, 3, 4] : Fin 4 → ℕ) x) :
    records m K ⊢ iprop(SP c h ⟨k, hk⟩ -∗ ow c b n -∗ (SQ m c h ⟨k, hk⟩ -∗ ow c b n -∗ WP c (p ⟨⟩) Q)
      -∗ WP c (.op (.waitDma2 ((A.slice (Rect.unit (s := S8) o S1.size hin)).squeeze S_ squeezes_S1_S_).sem src dst hsrc hdst) p) Q) := by
  subst hA ho
  iintro #HR Hf Ho Hk
  unfold SP
  icases Hf with ⟨Hc, Hp⟩
  have hw : ∀ Kt : PUnit → sProp 𝕄, wpE (defs₀ (F := F)) 𝒱₀ (c : Thread nD τ) none Set.univ
      (.waitDma2 (((semArr h 0).slice (Rect.unit (s := S8) ![(c.val + k + 1) % 8] S1.size hin)).squeeze S_ squeezes_S1_S_).sem src dst hsrc hdst) Kt
      = waitSpec (c : Thread nD τ) Set.univ (semOf (kCh h 0 (peer c ⟨k, hk⟩))) (NC h) Kt := fun Kt => by
    rw [← hN]; exact wpE_waitDma2_eq 𝒱₀ (c : Thread nD τ) none Set.univ Kt
  have h1 : NC h = (kDuties c (kCh h 0 (peer c ⟨k, hk⟩)) 0).card * kAmount (kCh h 0 (peer c ⟨k, hk⟩)) := by
    rw [kDuties_send]; exact (Nat.one_mul _).symm
  have h2 : ∀ j : Fin 7, b ≤ j.val → kLev (kCh h 0 (peer c ⟨k, hk⟩)) < 1 := by rw [kLev_send]; exact hb
  have h3 : ∀ (x : Fin 4) (j : Fin 7), n x ≤ j.val → kLev (kCh h 0 (peer c ⟨k, hk⟩)) < (![2, 2, 3, 4] : Fin 4 → ℕ) x := by rw [kLev_send]; exact hn
  have h4 : bigSep (kDuties c (kCh h 0 (peer c ⟨k, hk⟩)) 0) (fun d => kPay m c (kCh h 0 (peer c ⟨k, hk⟩)) 0 d) = sendPay m c h (peer c ⟨k, hk⟩) := by
    rw [kDuties_send, bigSep_singleton, kPay_send]
  iapply (wait_core m K c (kCh h 0 (peer c ⟨k, hk⟩)) 0 (NC h) hw
    h1 b n h2 h3) $$ HR Hc Hp Ho
  iintro Ho Hp - Hpay
  iapply Hk $$ [Hp Hpay] Ho
  unfold SQ
  isplitl [Hp]; · iexact Hp
  iapply (Entails.of_eq h4)
  iexact Hpay
end WaitCh

/-- The wait for the copy of expert `2 r + a`'s matrix `b'`. -/
theorem wait_w (K : Dev nD × Key → ℕ) (c : Dev nD) (a b' : Fin 2) (r : ℕ) (hr : r < 2) (e' : Fin 4) (he : e'.val = 2 * r + a.val) (b : ℕ) (n : Fin 4 → ℕ)
    {o : Fin 2 → ℕ} {hin : ∀ d, o d + S1x1.size d ≤ S2x2.size d} (ho : o = ![a.val, b'.val])
    {sp sp' : Space} {s s' : Shape} {e e'' : EltTy} {src : Memref sig .tc sp' s' e''} {dst : Memref sig .tc sp s e}
    {hsrc : src.view.WordExact} {hdst : dst.view.WordExact} (hN : dst.view.dmaCredit = NW b')
    (hn : ∀ (x : Fin 4) (j : Fin 7), n x ≤ j.val → 0 < (![2, 2, 3, 4] : Fin 4 → ℕ) x)
    {α : Type} {Q : α → sProp 𝕄} {p : PUnit → Prog (TpuEff nD τ sig (Elt F) Λ₀ .tc) α} :
    records m K ⊢ iprop(cred (tallyAt (cell c (kW a b')) () (NW b')) -∗ atPos ER (cell c (kW a b')) r ∅ 0 -∗ ow c b n
      -∗ (ow c b n -∗ atPos ER (cell c (kW a b')) (r + 1) ∅ 0 -∗ reached ER (cell c (kW a b')) (r + 1) -∗ wPay m c a b' e' -∗ WP c (p ⟨⟩) Q)
      -∗ WP c (.op (.waitDma2 (((cc0_scratch10 : DmaSems sig S2x2).slice (Rect.unit (s := S2x2) o S1x1.size hin)).squeeze S_ squeezes_S1x1_S_).sem src dst hsrc hdst) p) Q) := by
  subst ho
  have hd : kDuties c (kW a b') r = {c} := if_pos hr
  iintro #HR Hc Hp Ho Hk
  iapply (wait_core m K c (kW a b') r (NW b') (fun Kt => by rw [← hN]; exact wpE_waitDma2_eq 𝒱₀ (c : Thread nD τ) none Set.univ Kt)
    (by rw [hd]; exact (Nat.one_mul _).symm) b n (fun _ _ => Nat.one_pos) hn) $$ HR Hc Hp Ho
  iintro Ho Hp Hr Hpay
  iapply Hk $$ Ho Hp Hr [Hpay]
  iapply (Entails.of_eq (show bigSep (kDuties c (kW a b') r) (fun d => kPay m c (kW a b') r d) = wPay m c a b' e' by
    rw [hd, bigSep_singleton]
    show wPay m c a b' (Fin.ofNat 4 (2 * r + a.val)) = _
    congr 1
    apply Fin.ext
    rw [he]; exact Nat.mod_eq_of_lt (he ▸ e'.isLt)))
  iexact Hpay

/-! ## The barrier -/

/-- What the device hands peer `k` with its signal, before and after. -/
def BP (c : Dev nD) (j : Fin 7) : sProp 𝕄 := iprop(dutyTok ER (cell (peer c j) kBar) 0 c ∗ barPay (peer c j) c)
def BQ (_ : Fin 7) : sProp 𝕄 := iprop(emp)

theorem signal_bar (K : Dev nD × Key → ℕ) (c : Dev nD) (k : ℕ) (hk : k < 7) (n : Fin 4 → ℕ) {d : Dev nD} (hd : d.val = (c.val + k + 1) % 8)
    {α : Type} {Q : α → sProp 𝕄} {p : PUnit → Prog (TpuEff nD τ sig (Elt F) Λ₀ .tc) α} {k' : ℕ} (hk' : k' = 1) :
    records m K ⊢ iprop(fam (BP c) BQ k -∗ ow c k n -∗ (fam (BP c) BQ (k + 1) -∗ ow c (k + 1) n -∗ WP c (p ⟨⟩) Q)
      -∗ WP c (.op (.semSignal (d : Thread nD τ) barS k') p) Q) := by
  have hd' : d = peer c ⟨k, hk⟩ := Fin.ext hd
  subst hd' hk'
  iintro #HR Hf Ho Hk
  ihave Hf' := (fam_step (BP c) BQ k hk) $$ Hf
  unfold BP ow
  icases Hf' with ⟨⟨Ht, Hp⟩, Hcl⟩
  icases Ho with ⟨%W, HO⟩
  iapply (Rounds.wp_signal 𝒱₀ ER (Rd m) (c : Thread nD τ) none (dst := (peer c ⟨k, hk⟩ : Thread nD τ)) (κ := K (peer c ⟨k, hk⟩, kBar)) (r := 0)
    (d := c) (by
      show c ∈ (Rd m).duties (cell (peer c ⟨k, hk⟩) kBar) 0
      rw [Rd_duties, kDuties_bar]
      exact Finset.mem_erase.mpr ⟨(peer_ne c ⟨k, hk⟩).symm, Finset.mem_univ _⟩)
    (Rd_amount m (peer c ⟨k, hk⟩) kBar 0 c) () (Ow c (k + 1) n) (Ow_bar c k hk n)) $$ [HO Ht Hp]
  · isplitr; · iapply (rec_inv m K (peer c ⟨k, hk⟩) kBar); iexact HR
    isplitl [HO]; · iexact HO
    isplitl [Ht]; · iexact Ht
    isplitl [Hp]
    · iapply (Entails.of_eq (show barPay (peer c ⟨k, hk⟩) c = (Rd m).payload ((peer c ⟨k, hk⟩ : Thread nD τ), .reg barS) 0 c from (Rd_payload m (peer c ⟨k, hk⟩) kBar 0 c).symm)); iexact Hp
    iapply (rec_reached m K (peer c ⟨k, hk⟩) kBar); iexact HR
  iintro HO
  iapply Hk $$ [Hcl] [HO]
  · iapply Hcl; unfold BQ; iempintro
  · iexists W; iexact HO

/-- The wait for the seven peers' signals: every place the device writes on a peer. -/
theorem wait_bar (K : Dev nD × Key → ℕ) (c : Dev nD) (n : Fin 4 → ℕ)
    {α : Type} {Q : α → sProp 𝕄} {p : PUnit → Prog (TpuEff nD τ sig (Elt F) Λ₀ .tc) α} {k' : ℕ} (hk' : k' = 7) :
    records m K ⊢ iprop(cred (tallyAt (cell c kBar) () 7) -∗ atPos ER (cell c kBar) 0 ∅ 0 -∗ ow c 7 n
      -∗ (ow c 7 n -∗ atPos ER (cell c kBar) 1 ∅ 0 -∗ bigSep Finset.univ (fun j => barPay c (peer c j)) -∗ WP c (p ⟨⟩) Q)
      -∗ WP c (.op (.semWait barS k') p) Q) := by
  subst hk'
  have hd : kDuties c kBar 0 = Finset.univ.erase c := kDuties_bar c
  iintro #HR Hc Hp Ho Hk
  iapply (wait_core m K c kBar 0 7 (fun Kt => wpE_semWait_eq 𝒱₀ (c : Thread nD τ) none Set.univ Kt)
    (by rw [hd, Finset.card_erase_of_mem (Finset.mem_univ _), Finset.card_univ]; rfl) 7 n (fun j hj => absurd j.isLt (Nat.not_lt.mpr hj))
    (fun x _ _ => by show 1 < _; fin_cases x <;> decide)) $$ HR Hc Hp Ho
  iintro Ho Hp - Hpay
  iapply Hk $$ Ho Hp [Hpay]
  iapply (Entails.of_eq (show bigSep (kDuties c kBar 0) (fun d => kPay m c kBar 0 d) = bigSep Finset.univ (fun j => barPay c (peer c j)) by
    rw [hd, bigSep_others]; rfl))
  iexact Hpay

/-! ## Transfers to a peer -/

/-- Before and after the transfer towards peer `j` on channel `h`: the source's share, the place on the peer, the two duties; the credit. -/
def DP (c : Dev nD) (h : Fin 4) (j : Fin 7) : sProp 𝕄 :=
  iprop(landAny (peer c j) h c ∗ dutyTok ER (cell c (kCh h 0 (peer c j))) 0 c ∗ dutyTok ER (cell (peer c j) (kCh h 1 c)) 0 c)
def DQ (c : Dev nD) (h : Fin 4) (j : Fin 7) : sProp 𝕄 := cred (tallyAt (cell c (kCh h 0 (peer c j))) () (NC h))

section Send
variable (K : Dev nD × Key → ℕ) (c : Dev nD) (k : ℕ) (hk : k < 7)

theorem kDuties_recv' (h : Fin 4) (j : Fin 7) : kDuties (peer c j) (kCh h 1 c) 0 = {c} := by
  show (if 0 = 0 ∧ c ≠ peer c j then (if (1 : Fin 2) = 0 then {peer c j} else {c}) else ∅ : Finset (Dev nD)) = _
  rw [if_pos ⟨rfl, (peer_ne c j).symm⟩, if_neg (by decide)]

/-- The transfer of `src` into `dst` on peer `k`, on channel `h`. -/
theorem send_core (h : Fin 4) {d : Dev nD} (hd : d = peer c ⟨k, hk⟩) (b : ℕ) (n n' : Fin 4 → ℕ) (hn : n h = k) (hn' : n' = Function.update n h (k + 1))
    {sp sp' : Space} {s : Shape} {e : EltTy} {src : Memref sig .tc sp s e} {dst : Memref sig .tc sp' s e}
    {hsc : dst.view.ref.isScScratch = false}
    {hsrc : src.view.WordExact} {hdst : dst.view.WordExact}
    {hsem : DmaTarget.Typed sp (.dma (sem8 (semArr h 1) c)) (.remote (Dev.tc d : Thread nD τ) dst (.dma (sem8 (semArr h 0) (peer c ⟨k, hk⟩))) hsc)}
    {q : PosShare TreeShare} {fs : Buf (Elt F) (src.view.loc (c : Thread nD τ))} {fd : Buf (Elt F) (dst.view.loc (d : Thread nD τ))}
    (hN : dst.view.dmaCredit = NC h)
    (hpay₁ : (src.view.loc (c : Thread nD τ) ↦[src.view.set]{q} fs : sProp 𝕄) ⊢ sendPay m c h (peer c ⟨k, hk⟩))
    (hpay₂ : (dst.view.loc (d : Thread nD τ) ↦[dst.view.set]{fullShare} (dst.view.write (Elt F) fd (src.view.read (Elt F) fs) Finset.univ) : sProp 𝕄) ⊢ recvPay m d h c)
    {α : Type} {Q : α → sProp 𝕄} {p : PUnit → Prog (TpuEff nD τ sig (Elt F) Λ₀ .tc) α} :
    records m K ⊢ iprop((src.view.loc (c : Thread nD τ) ↦[src.view.set]{q} fs) -∗ (dst.view.loc (d : Thread nD τ) ↦[dst.view.set]{fullShare} fd)
      -∗ dutyTok ER (cell c (kCh h 0 (peer c ⟨k, hk⟩))) 0 c -∗ dutyTok ER (cell (peer c ⟨k, hk⟩) (kCh h 1 c)) 0 c -∗ ow c b n
      -∗ (DQ c h ⟨k, hk⟩ -∗ ow c b n' -∗ WP c (p ⟨⟩) Q)
      -∗ WP c (.op (.enqueueDma src (.remote (Dev.tc d : Thread nD τ) dst (.dma (sem8 (semArr h 0) (peer c ⟨k, hk⟩))) hsc) (.dma (sem8 (semArr h 1) c)) hsrc hdst hsem) p) Q) := by
  subst hd
  iintro #HR Hs Hd Ht₁ Ht₂ Ho Hk
  unfold ow DQ
  icases Ho with ⟨%W, HO⟩
  iapply (Rounds.wp_send_pointsTo 𝒱₀ ER (Rd m) (c : Thread nD τ) none (κ₁ := K (c, kCh h 0 (peer c ⟨k, hk⟩))) (κ₂ := K (peer c ⟨k, hk⟩, kCh h 1 c))
    (sem := .dma (sem8 (semArr h 1) c)) (sS := .dma (sem8 (semArr h 0) (peer c ⟨k, hk⟩))) (r₁ := 0) (r₂ := 0) (d₁ := c) (d₂ := c) (fd := fd)
    (by
      show c ∈ (Rd m).duties (cell c (kCh h 0 (peer c ⟨k, hk⟩))) 0
      rw [Rd_duties, kDuties_send]; exact Finset.mem_singleton_self _)
    (by
      show c ∈ (Rd m).duties (cell (peer c ⟨k, hk⟩) (kCh h 1 c)) 0
      rw [Rd_duties, kDuties_recv']; exact Finset.mem_singleton_self _)
    () () (NC h) hN (Rd_amount m c (kCh h 0 (peer c ⟨k, hk⟩)) 0 c) (Rd_amount m (peer c ⟨k, hk⟩) (kCh h 1 c) 0 c) (Ow c b n') (Ow_ch c b n n' h k hk hn hn') (W := W)
    (hpay₁.trans (Entails.of_eq ((Rd_payload m c (kCh h 0 (peer c ⟨k, hk⟩)) 0 c).trans (kPay_send m _ _ _ _ _)).symm))
    (hpay₂.trans (Entails.of_eq ((Rd_payload m (peer c ⟨k, hk⟩) (kCh h 1 c) 0 c).trans (kPay_recv m _ _ _ _ _)).symm))) $$ [Hs Hd HO Ht₁ Ht₂]
  · isplitr; · iapply (rec_inv m K c (kCh h 0 (peer c ⟨k, hk⟩))); iexact HR
    isplitr; · iapply (rec_inv m K (peer c ⟨k, hk⟩) (kCh h 1 c)); iexact HR
    isplitl [Hs]; · iexact Hs
    isplitl [Hd]; · iexact Hd
    isplitl [HO]; · iexact HO
    isplitl [Ht₁]; · iexact Ht₁
    isplitr; · iapply (rec_reached m K c (kCh h 0 (peer c ⟨k, hk⟩))); iexact HR
    isplitl [Ht₂]; · iexact Ht₂
    iapply (rec_reached m K (peer c ⟨k, hk⟩) (kCh h 1 c)); iexact HR
  iintro ⟨Hc, HO⟩
  iapply Hk $$ [Hc] [HO]
  · iapply (Entails.of_eq (show (cred (tallyAt ((c : Thread nD τ), SemLoc.dma (sem8 (semArr h 0) (peer c ⟨k, hk⟩))) () (NC h)) : sProp 𝕄) = cred (tallyAt (cell c (kCh h 0 (peer c ⟨k, hk⟩))) () (NC h)) from rfl)); iexact Hc
  · iexists W; iexact HO
end Send

end Cert.KernelIdeal.Moe
-- ==== Proof.Mem.lean ====
/- Loads, stores and transfers of the kernel, each as a rule over the slot it touches. -/
module

public import proofs.«01_k».proof.Proof.Steps

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

/-! ## Combining a rule with a phase -/

section Fam
variable {M : Type} [URA M]

/-- A rule for the next member of a phase is a rule for the phase. -/
theorem fam_rule {n : ℕ} (P Q : Fin n → sProp M) (k : ℕ) (hk : k < n) {D O O' R W : sProp M} [BI.Persistent D]
    (h : D ⊢ iprop(P ⟨k, hk⟩ -∗ O -∗ (Q ⟨k, hk⟩ -∗ O' -∗ R) -∗ W)) :
    D ⊢ iprop(fam P Q k -∗ O -∗ (fam P Q (k + 1) -∗ O' -∗ R) -∗ W) := by
  iintro #HD Hf HO Hk
  ihave Hf' := (fam_step P Q k hk) $$ Hf
  icases Hf' with ⟨Hp, Hcl⟩
  iapply h $$ HD Hp HO
  iintro Hq HO
  iapply Hk $$ [Hcl Hq] HO
  iapply Hcl; iexact Hq

/-- The same for a rule that owes nothing and needs no records. -/
theorem fam_rule' {n : ℕ} (P Q : Fin n → sProp M) (k : ℕ) (hk : k < n) {O R W : sProp M}
    (h : iprop(P ⟨k, hk⟩ ∗ O) ⊢ iprop(((Q ⟨k, hk⟩ ∗ O) -∗ R) -∗ W)) :
    iprop(fam P Q k ∗ O) ⊢ iprop(((fam P Q (k + 1) ∗ O) -∗ R) -∗ W) := by
  iintro ⟨Hf, HO⟩ Hk
  ihave Hf' := (fam_step P Q k hk) $$ Hf
  icases Hf' with ⟨Hp, Hcl⟩
  iapply h $$ [Hp HO]
  · isplitl [Hp]; · iexact Hp
    iexact HO
  iintro ⟨Hq, HO⟩
  iapply Hk
  isplitl [Hcl Hq]
  · iapply Hcl; iexact Hq
  iexact HO
end Fam

/-! ## Reading and writing one slot of a stacked buffer -/

section Slot
variable {sp : CoreSpace} {n a b : ℕ} {e : EltTy} (mr : Memref sig .tc sp ⟨3, ![n, a, b]⟩ e) (c : Dev nD) (p : Fin n)

/-- A load of slot `p`, the slot held at any share. -/
theorem ld3 {q : PosShare TreeShare} {f : Buf (Elt F) ((mr.access (slotR n a b p)).loc (c : Thread nD τ))} (w : (⟨3, ![1, a, b]⟩ : Shape).Idx → Elt F e)
    {P : sProp 𝕄} (hP : P = ((mr.access (slotR n a b p)).loc (c : Thread nD τ) ↦[(mr.access (slotR n a b p)).set]{q} f))
    (hw : (mr.access (slotR n a b p)).read (Elt F) f = w)
    {o : Fin 3 → ℕ} {hin : ∀ d, o d + (⟨3, ![1, a, b]⟩ : Shape).size d ≤ (⟨3, ![n, a, b]⟩ : Shape).size d} (ho : o = ![p.val, 0, 0])
    {hl : mr.view.LoadsAt (Rect.unit (s := ⟨3, ![n, a, b]⟩) o (⟨3, ![1, a, b]⟩ : Shape).size hin).toLoadRect}
    {α : Type} {Q : α → sProp 𝕄} {k : ((⟨3, ![1, a, b]⟩ : Shape).Idx → Elt F e) → Prog (TpuEff nD τ sig (Elt F) Λ₀ .tc) α} :
    P ⊢ iprop((P -∗ WP c (k w) Q)
      -∗ WP c (.op (.load mr (Rect.unit (s := ⟨3, ![n, a, b]⟩) o (⟨3, ![1, a, b]⟩ : Shape).size hin).toLoadRect hl) k) Q) := by
  subst ho hP hw
  exact wp_load_rect 𝒱₀ (c : Thread nD τ) none Set.univ (m := mr) (r := slotR n a b p) subset_rfl

/-- A load of slot `p`, whatever it holds. -/
theorem ld3_any {f : Buf (Elt F) ((mr.access (slotR n a b p)).loc (c : Thread nD τ))}
    {P : sProp 𝕄} (hP : P = ((mr.access (slotR n a b p)).loc (c : Thread nD τ) ↦[(mr.access (slotR n a b p)).set]{fullShare} f))
    {o : Fin 3 → ℕ} {hin : ∀ d, o d + (⟨3, ![1, a, b]⟩ : Shape).size d ≤ (⟨3, ![n, a, b]⟩ : Shape).size d} (ho : o = ![p.val, 0, 0])
    {hl : mr.view.LoadsAt (Rect.unit (s := ⟨3, ![n, a, b]⟩) o (⟨3, ![1, a, b]⟩ : Shape).size hin).toLoadRect}
    {α : Type} {Q : α → sProp 𝕄} {k : Prog (TpuEff nD τ sig (Elt F) Λ₀ .tc) α} :
    P ⊢ iprop((P -∗ WP c k Q)
      -∗ WP c (.op (.load mr (Rect.unit (s := ⟨3, ![n, a, b]⟩) o (⟨3, ![1, a, b]⟩ : Shape).size hin).toLoadRect hl) fun _ => k) Q) := by
  exact ld3 mr c p _ hP rfl ho (k := fun _ => k)

/-- A store into slot `p` leaves any contents that read there as what was stored. -/
theorem st3 {f : Buf (Elt F) ((mr.access (slotR n a b p)).loc (c : Thread nD τ))} (g : Buf (Elt F) ((mr.access (slotR n a b p)).loc (c : Thread nD τ)))
    {w : (⟨3, ![1, a, b]⟩ : Shape).Idx → Elt F e} {P P' : sProp 𝕄}
    (hP : P = ((mr.access (slotR n a b p)).loc (c : Thread nD τ) ↦[(mr.access (slotR n a b p)).set]{fullShare} f))
    (hP' : P' = ((mr.access (slotR n a b p)).loc (c : Thread nD τ) ↦[(mr.access (slotR n a b p)).set]{fullShare} g))
    (hw : (mr.access (slotR n a b p)).read (Elt F) g = w)
    {o : Fin 3 → ℕ} {hin : ∀ d, o d + (⟨3, ![1, a, b]⟩ : Shape).size d ≤ (⟨3, ![n, a, b]⟩ : Shape).size d} (ho : o = ![p.val, 0, 0])
    {hx : (mr.access (Rect.unit (s := ⟨3, ![n, a, b]⟩) o (⟨3, ![1, a, b]⟩ : Shape).size hin)).Stores Finset.univ}
    {hm : (Finset.univ : Finset (Rect.unit (s := ⟨3, ![n, a, b]⟩) o (⟨3, ![1, a, b]⟩ : Shape).size hin).shape.Idx) = Finset.univ ∨ ∀ d, (Rect.unit (s := ⟨3, ![n, a, b]⟩) o (⟨3, ![1, a, b]⟩ : Shape).size hin).stride d = 1}
    {α : Type} {Q : α → sProp 𝕄} {k : PUnit → Prog (TpuEff nD τ sig (Elt F) Λ₀ .tc) α} :
    P ⊢ iprop((P' -∗ WP c (k ⟨⟩) Q)
      -∗ WP c (.op (.store mr (Rect.unit (s := ⟨3, ![n, a, b]⟩) o (⟨3, ![1, a, b]⟩ : Shape).size hin) w Finset.univ hx hm) k) Q) := by
  subst ho hP hP'
  rw [← pointsTo_write (c : Thread nD τ) (mr.access (slotR n a b p)) fullShare f g w hw]
  exact wp_store 𝒱₀ (c : Thread nD τ) none Set.univ (m := mr) (r := slotR n a b p) subset_rfl
end Slot

section Bufs
variable (c : Dev nD)

theorem xfP_eq (p : Dev nD) (q : PosShare TreeShare) (f : Vec F S8x128x1024 .bf16) : xfP c p q f = ((((Memref.whole cc0_scratch1).access (slotR 8 128 1024 p)).loc (c : Thread nD τ)
    ↦[((Memref.whole cc0_scratch1).access (slotR 8 128 1024 p)).set]{q} f) : sProp 𝕄) := by
  unfold xfP; rw [show ((Memref.whole cc0_scratch1).access (slotR 8 128 1024 p)).set = (slotR 8 128 1024 p).set from View.set_slice_whole _ _]
theorem rfP_eq (p : Dev nD) (q : PosShare TreeShare) (f : Vec F S8x4x1024 .f32) : rfP c p q f = ((((Memref.whole cc0_scratch2).access (slotR 8 4 1024 p)).loc (c : Thread nD τ)
    ↦[((Memref.whole cc0_scratch2).access (slotR 8 4 1024 p)).set]{q} f) : sProp 𝕄) := by
  unfold rfP; rw [show ((Memref.whole cc0_scratch2).access (slotR 8 4 1024 p)).set = (slotR 8 4 1024 p).set from View.set_slice_whole _ _]
theorem wbP_eq (p : Dev nD) (q : PosShare TreeShare) (f : Vec F S8x128x32 .f32) : wbP c p q f = ((((Memref.whole cc0_scratch4).access (slotR 8 128 32 p)).loc (c : Thread nD τ)
    ↦[((Memref.whole cc0_scratch4).access (slotR 8 128 32 p)).set]{q} f) : sProp 𝕄) := by
  unfold wbP; rw [show ((Memref.whole cc0_scratch4).access (slotR 8 128 32 p)).set = (slotR 8 128 32 p).set from View.set_slice_whole _ _]
theorem acP_eq (p : Dev nD) (q : PosShare TreeShare) (f : Vec F S8x128x1024 .f32) : acP c p q f = ((((Memref.whole cc0_scratch5).access (slotR 8 128 1024 p)).loc (c : Thread nD τ)
    ↦[((Memref.whole cc0_scratch5).access (slotR 8 128 1024 p)).set]{q} f) : sProp 𝕄) := by
  unfold acP; rw [show ((Memref.whole cc0_scratch5).access (slotR 8 128 1024 p)).set = (slotR 8 128 1024 p).set from View.set_slice_whole _ _]
theorem abP_eq (p : Dev nD) (q : PosShare TreeShare) (f : Vec F S8x128x1024 .bf16) : abP c p q f = ((((Memref.whole cc0_scratch6).access (slotR 8 128 1024 p)).loc (c : Thread nD τ)
    ↦[((Memref.whole cc0_scratch6).access (slotR 8 128 1024 p)).set]{q} f) : sProp 𝕄) := by
  unfold abP; rw [show ((Memref.whole cc0_scratch6).access (slotR 8 128 1024 p)).set = (slotR 8 128 1024 p).set from View.set_slice_whole _ _]
theorem rbP_eq (p : Dev nD) (q : PosShare TreeShare) (f : Vec F S8x128x1024 .bf16) : rbP c p q f = ((((Memref.whole cc0_scratch7).access (slotR 8 128 1024 p)).loc (c : Thread nD τ)
    ↦[((Memref.whole cc0_scratch7).access (slotR 8 128 1024 p)).set]{q} f) : sProp 𝕄) := by
  unfold rbP; rw [show ((Memref.whole cc0_scratch7).access (slotR 8 128 1024 p)).set = (slotR 8 128 1024 p).set from View.set_slice_whole _ _]
theorem b1P_eq (a : Fin 2) (f : Vec F S2x1024x2048 .f32) : b1P c a f = ((((Memref.whole cc0_scratch8).access (slotR 2 1024 2048 a)).loc (c : Thread nD τ)
    ↦[((Memref.whole cc0_scratch8).access (slotR 2 1024 2048 a)).set]{fullShare} f) : sProp 𝕄) := by
  unfold b1P; rw [show ((Memref.whole cc0_scratch8).access (slotR 2 1024 2048 a)).set = (slotR 2 1024 2048 a).set from View.set_slice_whole _ _]
theorem b2P_eq (a : Fin 2) (f : Vec F S2x2048x1024 .f32) : b2P c a f = ((((Memref.whole cc0_scratch9).access (slotR 2 2048 1024 a)).loc (c : Thread nD τ)
    ↦[((Memref.whole cc0_scratch9).access (slotR 2 2048 1024 a)).set]{fullShare} f) : sProp 𝕄) := by
  unfold b2P; rw [show ((Memref.whole cc0_scratch9).access (slotR 2 2048 1024 a)).set = (slotR 2 2048 1024 a).set from View.set_slice_whole _ _]

/-- A stack read through the view of slot `p`. -/
theorem rd_xf (V : Dev nD → Vec F S1x128x1024 .bf16) (p : Dev nD) : ((Memref.whole cc0_scratch1).access (slotR 8 128 1024 p)).read (Elt F) (stack (n := 8) (a := 128) (b := 1024) V) = V p :=
  funext fun i => stack_emb (n := 8) (a := 128) (b := 1024) V p i
theorem rd_rf (V : Dev nD → Vec F S1x4x1024 .f32) (p : Dev nD) : ((Memref.whole cc0_scratch2).access (slotR 8 4 1024 p)).read (Elt F) (stack (n := 8) (a := 4) (b := 1024) V) = V p :=
  funext fun i => stack_emb (n := 8) (a := 4) (b := 1024) V p i
theorem rd_wb (V : Dev nD → Vec F S1x128x32 .f32) (p : Dev nD) : ((Memref.whole cc0_scratch4).access (slotR 8 128 32 p)).read (Elt F) (stack (n := 8) (a := 128) (b := 32) V) = V p :=
  funext fun i => stack_emb (n := 8) (a := 128) (b := 32) V p i
theorem rd_ac (V : Dev nD → Vec F S1x128x1024 .f32) (p : Dev nD) : ((Memref.whole cc0_scratch5).access (slotR 8 128 1024 p)).read (Elt F) (stack (n := 8) (a := 128) (b := 1024) V) = V p :=
  funext fun i => stack_emb (n := 8) (a := 128) (b := 1024) V p i
theorem rd_ab (V : Dev nD → Vec F S1x128x1024 .bf16) (p : Dev nD) : ((Memref.whole cc0_scratch6).access (slotR 8 128 1024 p)).read (Elt F) (stack (n := 8) (a := 128) (b := 1024) V) = V p :=
  funext fun i => stack_emb (n := 8) (a := 128) (b := 1024) V p i
theorem rd_rb (V : Dev nD → Vec F S1x128x1024 .bf16) (p : Dev nD) : ((Memref.whole cc0_scratch7).access (slotR 8 128 1024 p)).read (Elt F) (stack (n := 8) (a := 128) (b := 1024) V) = V p :=
  funext fun i => stack_emb (n := 8) (a := 128) (b := 1024) V p i
theorem rd_b1 (V : Fin 2 → Vec F S1x1024x2048 .f32) (p : Fin 2) : ((Memref.whole cc0_scratch8).access (slotR 2 1024 2048 p)).read (Elt F) (stack (n := 2) (a := 1024) (b := 2048) V) = V p :=
  funext fun i => stack_emb (n := 2) (a := 1024) (b := 2048) V p i
theorem rd_b2 (V : Fin 2 → Vec F S1x2048x1024 .f32) (p : Fin 2) : ((Memref.whole cc0_scratch9).access (slotR 2 2048 1024 p)).read (Elt F) (stack (n := 2) (a := 2048) (b := 1024) V) = V p :=
  funext fun i => stack_emb (n := 2) (a := 2048) (b := 1024) V p i

end Bufs

/-! ## Transfers to a peer, channel by channel -/

section Send
variable (K : Dev nD × Key → ℕ) (c : Dev nD) (k : ℕ) (hk : k < 7)

theorem xf_view (d p : Dev nD) (q : PosShare TreeShare) (f : Vec F S8x128x1024 .bf16) : xfP d p q f = (((xfS p).view.loc (d : Thread nD τ) ↦[(xfS p).view.set]{q} f) : sProp 𝕄) := by
  unfold xfP; rw [show (xfS p).view.set = (slotR 8 128 1024 p).set from (View.set_reshape _ _).trans (View.set_slice_whole _ _)]
theorem rf_view (d p : Dev nD) (q : PosShare TreeShare) (f : Vec F S8x4x1024 .f32) : rfP d p q f = (((rfS p).view.loc (d : Thread nD τ) ↦[(rfS p).view.set]{q} f) : sProp 𝕄) := by
  unfold rfP; rw [show (rfS p).view.set = (slotR 8 4 1024 p).set from (View.set_reshape _ _).trans (View.set_slice_whole _ _)]
theorem wb_view (d p : Dev nD) (q : PosShare TreeShare) (f : Vec F S8x128x32 .f32) : wbP d p q f = (((wbS p).view.loc (d : Thread nD τ) ↦[(wbS p).view.set]{q} f) : sProp 𝕄) := by
  unfold wbP; rw [show (wbS p).view.set = (slotR 8 128 32 p).set from (View.set_reshape _ _).trans (View.set_slice_whole _ _)]
theorem ab_view (d p : Dev nD) (q : PosShare TreeShare) (f : Vec F S8x128x1024 .bf16) : abP d p q f = (((abS p).view.loc (d : Thread nD τ) ↦[(abS p).view.set]{q} f) : sProp 𝕄) := by
  unfold abP; rw [show (abS p).view.set = (slotR 8 128 1024 p).set from (View.set_reshape _ _).trans (View.set_slice_whole _ _)]
theorem rb_view (d p : Dev nD) (q : PosShare TreeShare) (f : Vec F S8x128x1024 .bf16) : rbP d p q f = (((rbS p).view.loc (d : Thread nD τ) ↦[(rbS p).view.set]{q} f) : sProp 𝕄) := by
  unfold rbP; rw [show (rbS p).view.set = (slotR 8 128 1024 p).set from (View.set_reshape _ _).trans (View.set_slice_whole _ _)]
theorem xb_view (d : Dev nD) (q : PosShare TreeShare) (f : Vec F S128x1024 .bf16) : xbP d q f = (((Memref.whole cc0_scratch0).view.loc (d : Thread nD τ) ↦[(Memref.whole cc0_scratch0).view.set]{q} f) : sProp 𝕄) := by
  unfold xbP; rw [show (Memref.whole cc0_scratch0).view.set = Finset.univ from View.set_whole _]
theorem rs_view (d : Dev nD) (q : PosShare TreeShare) (f : Vec F S4x1024 .f32) : rsP d q f = (((Memref.whole cc0_scratch3).view.loc (d : Thread nD τ) ↦[(Memref.whole cc0_scratch3).view.set]{q} f) : sProp 𝕄) := by
  unfold rsP; rw [show (Memref.whole cc0_scratch3).view.set = Finset.univ from View.set_whole _]

/-- The rounded rows as a slot, read without the slot's leading axis, are the rows. -/
theorem Vx_row : (xfS c).view.read (Elt F) (XF m) = (Memref.whole cc0_scratch0).view.read (Elt F) (xbf m c) := by
  refine Eq.trans (b := fun i => Vx m c (Shape.reshapeEquiv (by decide) i)) (funext fun i => stack_emb (n := 8) (a := 128) (b := 1024) (Vx m) c _) (funext fun i => ?_)
  unfold Vx k0_pay2 shapeCast
  show xbf m c (Shape.reshapeEquiv _ (Shape.reshapeEquiv _ i)) = xbf m c i
  rw [Shape.reshapeEquiv_reshapeEquiv, Shape.reshapeEquiv_self]
theorem Vr_row : (rfS c).view.read (Elt F) (RF m) = (Memref.whole cc0_scratch3).view.read (Elt F) (rst m c) := by
  refine Eq.trans (b := fun i => Vr m c (Shape.reshapeEquiv (by decide) i)) (funext fun i => stack_emb (n := 8) (a := 4) (b := 1024) (Vr m) c _) (funext fun i => ?_)
  unfold Vr k0_pay4 shapeCast
  show rst m c (Shape.reshapeEquiv _ (Shape.reshapeEquiv _ i)) = rst m c i
  rw [Shape.reshapeEquiv_reshapeEquiv, Shape.reshapeEquiv_self]
theorem ret_row (p : Dev nD) : (rbS c).view.read (Elt F) (stack (n := 8) (a := 128) (b := 1024) fun q => ret m q p)
    = (abS p).view.read (Elt F) (stack (n := 8) (a := 128) (b := 1024) fun q => ret m c q) :=
  funext fun i => (stack_emb (n := 8) (a := 128) (b := 1024) (fun q => ret m q p) c _).trans (stack_emb (n := 8) (a := 128) (b := 1024) (fun q => ret m c q) p _).symm

/-- Before a transfer: the share of the source it reads, and what it needs. -/
def TP (h : Fin 4) (j : Fin 7) : sProp 𝕄 := iprop(sendPay m c h (peer c j) ∗ DP c h j)

section
variable (b : ℕ) (n n' : Fin 4 → ℕ) {d : Dev nD} (hd : d.val = (c.val + k + 1) % 8)
variable {o₁ o₂ : Fin 1 → ℕ} {h₁ : ∀ d, o₁ d + S1.size d ≤ S8.size d} {h₂ : ∀ d, o₂ d + S1.size d ≤ S8.size d}
variable (ho₁ : o₁ = ![(c.val + k + 1) % 8]) (ho₂ : o₂ = ![c.val])
variable {o₃ o₄ : Fin 3 → ℕ} (ho₃ : o₃ = ![c.val, 0, 0])

include hk hd ho₁ ho₂ ho₃

/-- The rows to peer `k`. -/
theorem send_x {α : Type} {Q : α → sProp 𝕄} {p : PUnit → Prog (TpuEff nD τ sig (Elt F) Λ₀ .tc) α}
    (hn : n 0 = k) (hn' : n' = Function.update n 0 (k + 1))
    {h₃ : ∀ d, o₃ d + S1x128x1024.size d ≤ S8x128x1024.size d} {hsc hsrc hdst hsem} :
    records m K ⊢ iprop(TP m c 0 ⟨k, hk⟩ -∗ ow c b n -∗ (DQ c 0 ⟨k, hk⟩ -∗ ow c b n' -∗ WP c (p ⟨⟩) Q)
      -∗ WP c (.op (.enqueueDma (Memref.whole cc0_scratch0) (.remote (Dev.tc d : Thread nD τ)
        (((Memref.whole cc0_scratch1).slice (Rect.unit (s := S8x128x1024) o₃ S1x128x1024.size h₃) (fun _ => rfl)).squeeze S128x1024 squeezes_S1x128x1024_S128x1024)
          (.dma (((cc0_scratch11 : DmaSems sig S8).slice (Rect.unit (s := S8) o₁ S1.size h₁)).squeeze S_ squeezes_S1_S_).sem) hsc)
          (.dma (((cc0_scratch12 : DmaSems sig S8).slice (Rect.unit (s := S8) o₂ S1.size h₂)).squeeze S_ squeezes_S1_S_).sem) hsrc hdst hsem) p) Q) := by
  have hd' : d = peer c ⟨k, hk⟩ := Fin.ext hd
  subst hd' ho₁ ho₂ ho₃
  iintro #HR HT Ho Hk
  unfold TP DP landAny sendPay
  icases HT with ⟨Hs, ⟨%f, Hd⟩, Ht₁, Ht₂⟩
  have e1 := xb_view (F := F) c (leaf 3 fullShare (peer c ⟨k, hk⟩)) (xbf m c)
  have e2 := xf_view (F := F) (peer c ⟨k, hk⟩) c fullShare f
  have e3 := xf_view (F := F) (peer c ⟨k, hk⟩) c fullShare (XF m)
  ihave Hs' := (Entails.of_eq e1) $$ Hs
  ihave Hd' := (Entails.of_eq e2) $$ Hd
  iapply (send_core m K c k hk 0 rfl b n n' hn hn' (src := Memref.whole cc0_scratch0) (dst := xfS c) rfl
    (Entails.of_eq e1.symm)
    (Entails.of_eq ((pointsTo_write (peer c ⟨k, hk⟩ : Thread nD τ) (xfS c).view fullShare f (XF m) _ (Vx_row m c)).trans e3.symm))) $$ HR Hs' Hd' Ht₁ Ht₂ Ho Hk

/-- The router columns to peer `k`. -/
theorem send_r {α : Type} {Q : α → sProp 𝕄} {p : PUnit → Prog (TpuEff nD τ sig (Elt F) Λ₀ .tc) α}
    (hn : n 1 = k) (hn' : n' = Function.update n 1 (k + 1))
    {h₃ : ∀ d, o₃ d + S1x4x1024.size d ≤ S8x4x1024.size d} {hsc hsrc hdst hsem} :
    records m K ⊢ iprop(TP m c 1 ⟨k, hk⟩ -∗ ow c b n -∗ (DQ c 1 ⟨k, hk⟩ -∗ ow c b n' -∗ WP c (p ⟨⟩) Q)
      -∗ WP c (.op (.enqueueDma (Memref.whole cc0_scratch3) (.remote (Dev.tc d : Thread nD τ)
        (((Memref.whole cc0_scratch2).slice (Rect.unit (s := S8x4x1024) o₃ S1x4x1024.size h₃) (fun _ => rfl)).squeeze S4x1024 squeezes_S1x4x1024_S4x1024)
          (.dma (((cc0_scratch13 : DmaSems sig S8).slice (Rect.unit (s := S8) o₁ S1.size h₁)).squeeze S_ squeezes_S1_S_).sem) hsc)
          (.dma (((cc0_scratch14 : DmaSems sig S8).slice (Rect.unit (s := S8) o₂ S1.size h₂)).squeeze S_ squeezes_S1_S_).sem) hsrc hdst hsem) p) Q) := by
  have hd' : d = peer c ⟨k, hk⟩ := Fin.ext hd
  subst hd' ho₁ ho₂ ho₃
  iintro #HR HT Ho Hk
  unfold TP DP landAny sendPay
  icases HT with ⟨Hs, ⟨%f, Hd⟩, Ht₁, Ht₂⟩
  have e1 := rs_view (F := F) c (leaf 3 fullShare (peer c ⟨k, hk⟩)) (rst m c)
  have e2 := rf_view (F := F) (peer c ⟨k, hk⟩) c fullShare f
  have e3 := rf_view (F := F) (peer c ⟨k, hk⟩) c fullShare (RF m)
  ihave Hs' := (Entails.of_eq e1) $$ Hs
  ihave Hd' := (Entails.of_eq e2) $$ Hd
  iapply (send_core m K c k hk 1 rfl b n n' hn hn' (src := Memref.whole cc0_scratch3) (dst := rfS c) rfl
    (Entails.of_eq e1.symm)
    (Entails.of_eq ((pointsTo_write (peer c ⟨k, hk⟩ : Thread nD τ) (rfS c).view fullShare f (RF m) _ (Vr_row m c)).trans e3.symm))) $$ HR Hs' Hd' Ht₁ Ht₂ Ho Hk

/-- The gates to peer `k`. -/
theorem send_w {α : Type} {Q : α → sProp 𝕄} {p : PUnit → Prog (TpuEff nD τ sig (Elt F) Λ₀ .tc) α}
    (hn : n 2 = k) (hn' : n' = Function.update n 2 (k + 1)) (ho₄ : o₄ = ![c.val, 0, 0])
    {h₃ : ∀ d, o₃ d + S1x128x32.size d ≤ S8x128x32.size d} {h₄ : ∀ d, o₄ d + S1x128x32.size d ≤ S8x128x32.size d} {hsc hsrc hdst hsem} :
    records m K ⊢ iprop(TP m c 2 ⟨k, hk⟩ -∗ ow c b n -∗ (DQ c 2 ⟨k, hk⟩ -∗ ow c b n' -∗ WP c (p ⟨⟩) Q)
      -∗ WP c (.op (.enqueueDma (((Memref.whole cc0_scratch4).slice (Rect.unit (s := S8x128x32) o₄ S1x128x32.size h₄) (fun _ => rfl)).squeeze S128x32 squeezes_S1x128x32_S128x32)
        (.remote (Dev.tc d : Thread nD τ)
        (((Memref.whole cc0_scratch4).slice (Rect.unit (s := S8x128x32) o₃ S1x128x32.size h₃) (fun _ => rfl)).squeeze S128x32 squeezes_S1x128x32_S128x32)
          (.dma (((cc0_scratch15 : DmaSems sig S8).slice (Rect.unit (s := S8) o₁ S1.size h₁)).squeeze S_ squeezes_S1_S_).sem) hsc)
          (.dma (((cc0_scratch16 : DmaSems sig S8).slice (Rect.unit (s := S8) o₂ S1.size h₂)).squeeze S_ squeezes_S1_S_).sem) hsrc hdst hsem) p) Q) := by
  have hd' : d = peer c ⟨k, hk⟩ := Fin.ext hd
  subst hd' ho₁ ho₂ ho₃ ho₄
  iintro #HR HT Ho Hk
  unfold TP DP landAny sendPay
  icases HT with ⟨Hs, ⟨%f, Hd⟩, Ht₁, Ht₂⟩
  have e1 := wb_view (F := F) c c (leaf 3 fullShare (peer c ⟨k, hk⟩)) (WB m)
  have e2 := wb_view (F := F) (peer c ⟨k, hk⟩) c fullShare f
  have e3 := wb_view (F := F) (peer c ⟨k, hk⟩) c fullShare (WB m)
  ihave Hs' := (Entails.of_eq e1) $$ Hs
  ihave Hd' := (Entails.of_eq e2) $$ Hd
  iapply (send_core m K c k hk 2 rfl b n n' hn hn' (src := wbS c) (dst := wbS c) rfl
    (Entails.of_eq e1.symm)
    (Entails.of_eq ((pointsTo_write (peer c ⟨k, hk⟩ : Thread nD τ) (wbS c).view fullShare f (WB m) _ rfl).trans e3.symm))) $$ HR Hs' Hd' Ht₁ Ht₂ Ho Hk

/-- Its rows back to peer `k`. -/
theorem send_s {α : Type} {Q : α → sProp 𝕄} {p : PUnit → Prog (TpuEff nD τ sig (Elt F) Λ₀ .tc) α}
    (hn : n 3 = k) (hn' : n' = Function.update n 3 (k + 1)) (ho₄ : o₄ = ![(c.val + k + 1) % 8, 0, 0])
    {h₃ : ∀ d, o₃ d + S1x128x1024.size d ≤ S8x128x1024.size d} {h₄ : ∀ d, o₄ d + S1x128x1024.size d ≤ S8x128x1024.size d} {hsc hsrc hdst hsem} :
    records m K ⊢ iprop(TP m c 3 ⟨k, hk⟩ -∗ ow c b n -∗ (DQ c 3 ⟨k, hk⟩ -∗ ow c b n' -∗ WP c (p ⟨⟩) Q)
      -∗ WP c (.op (.enqueueDma (((Memref.whole cc0_scratch6).slice (Rect.unit (s := S8x128x1024) o₄ S1x128x1024.size h₄) (fun _ => rfl)).squeeze S128x1024 squeezes_S1x128x1024_S128x1024)
        (.remote (Dev.tc d : Thread nD τ)
        (((Memref.whole cc0_scratch7).slice (Rect.unit (s := S8x128x1024) o₃ S1x128x1024.size h₃) (fun _ => rfl)).squeeze S128x1024 squeezes_S1x128x1024_S128x1024)
          (.dma (((cc0_scratch17 : DmaSems sig S8).slice (Rect.unit (s := S8) o₁ S1.size h₁)).squeeze S_ squeezes_S1_S_).sem) hsc)
          (.dma (((cc0_scratch18 : DmaSems sig S8).slice (Rect.unit (s := S8) o₂ S1.size h₂)).squeeze S_ squeezes_S1_S_).sem) hsrc hdst hsem) p) Q) := by
  have hd' : d = peer c ⟨k, hk⟩ := Fin.ext hd
  subst hd' ho₁ ho₂ ho₃ ho₄
  iintro #HR HT Ho Hk
  unfold TP DP landAny sendPay
  icases HT with ⟨Hs, ⟨%f, Hd⟩, Ht₁, Ht₂⟩
  have e1 := ab_view (F := F) c (peer c ⟨k, hk⟩) fullShare (stack (n := 8) (a := 128) (b := 1024) fun p => ret m c p)
  have e2 := rb_view (F := F) (peer c ⟨k, hk⟩) c fullShare f
  have e3 := rb_view (F := F) (peer c ⟨k, hk⟩) c fullShare (stack (n := 8) (a := 128) (b := 1024) fun q => ret m q (peer c ⟨k, hk⟩))
  ihave Hs' := (Entails.of_eq e1) $$ Hs
  ihave Hd' := (Entails.of_eq e2) $$ Hd
  iapply (send_core m K c k hk 3 rfl b n n' hn hn' (src := abS (peer c ⟨k, hk⟩)) (dst := rbS c) rfl
    (Entails.of_eq e1.symm)
    (Entails.of_eq ((pointsTo_write (peer c ⟨k, hk⟩ : Thread nD τ) (rbS c).view fullShare f _ _ (ret_row m c (peer c ⟨k, hk⟩))).trans e3.symm))) $$ HR Hs' Hd' Ht₁ Ht₂ Ho Hk
end
end Send

end Cert.KernelIdeal.Moe
-- ==== Proof.Weights.lean ====
/- The weight copies: an expert's two matrices are copied one grid point ahead, into the buffer the expert before last used. -/
module

public import proofs.«01_k».proof.Proof.Mem

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

/-! ## The weights: two buffers, copied an expert ahead -/

section Weights
variable (K : Dev nD × Key → ℕ) (c : Dev nD)

/-- Expert `e`'s buffer and number. -/
abbrev par (e : ℕ) : Fin 2 := Fin.ofNat 2 e
abbrev exC (e : ℕ) : Fin 4 := Fin.ofNat 4 e

/-- Buffer `a`, whatever it holds. -/
def free (a : Fin 2) : sProp 𝕄 := iprop((∃ f, b1P c a f) ∗ ∃ f, b2P c a f)
/-- The duties of expert `e`'s two copies. -/
def wtok (e : ℕ) : sProp 𝕄 := iprop(dutyTok ER (cell c (kW (par e) 0)) (e / 2) c ∗ dutyTok ER (cell c (kW (par e) 1)) (e / 2) c)
/-- Expert `e`'s slices of the two weight arguments. -/
def sl (e : ℕ) : sProp 𝕄 := iprop(a1P m c (exC e) ∗ a2P m c (exC e))
/-- Where the device stands in the rounds of the two cells that expert `e` uses. -/
def wpos (e r : ℕ) : sProp 𝕄 := iprop(atPos ER (cell c (kW (par e) 0)) r ∅ 0 ∗ atPos ER (cell c (kW (par e) 1)) r ∅ 0)
def wrch (e r : ℕ) : sProp 𝕄 := iprop(reached ER (cell c (kW (par e) 0)) r ∗ reached ER (cell c (kW (par e) 1)) r)
/-- Expert `e`'s buffer free for its copy, its copies under way, and its copies landed. -/
def idle (e : ℕ) : sProp 𝕄 := iprop(wpos c e (e / 2) ∗ wrch c e (e / 2) ∗ free c (par e))
def flight (e : ℕ) : sProp 𝕄 :=
  iprop((cred (tallyAt (cell c (kW (par e) 0)) () (NW 0)) ∗ cred (tallyAt (cell c (kW (par e) 1)) () (NW 1))) ∗ wpos c e (e / 2))
def ready (e : ℕ) : sProp 𝕄 :=
  iprop((wpos c e (e / 2 + 1) ∗ wrch c e (e / 2 + 1)) ∗ (b1P c (par e) (stack (n := 2) (a := 1024) (b := 2048) fun _ => w1 m c (exC e))
    ∗ b2P c (par e) (stack (n := 2) (a := 2048) (b := 1024) fun _ => w2 m c (exC e))) ∗ sl m c e)

theorem par_add_two (e : ℕ) : par (e + 2) = par e := Fin.ext (by show (e + 2) % 2 = e % 2; omega)

/-- A buffer that has been read is free for the expert after next. -/
theorem ready_idle (e : ℕ) : ready m c e ⊢ iprop(idle c (e + 2) ∗ sl m c e) := by
  have h : (e + 2) / 2 = e / 2 + 1 := by omega
  unfold ready idle free wpos wrch
  rw [par_add_two, h]
  iintro ⟨⟨Hp, Hr⟩, ⟨H1, H2⟩, Hs⟩
  isplitr [Hs]
  · isplitl [Hp]; · iexact Hp
    isplitl [Hr]; · iexact Hr
    isplitl [H1]; · iexists _; iexact H1
    iexists _; iexact H2
  iexact Hs

theorem a1_view (e : Fin 4) : a1P m c e = (((a1S e).view.loc (c : Thread nD τ) ↦[(a1S e).view.set]{fullShare} m ((c : Thread nD τ).loc main_arg2)) : sProp 𝕄) := by
  unfold a1P; rw [show (a1S e).view.set = (slotR 4 1024 2048 e).set from (View.set_reshape _ _).trans (View.set_slice_whole _ _)]
theorem a2_view (e : Fin 4) : a2P m c e = (((a2S e).view.loc (c : Thread nD τ) ↦[(a2S e).view.set]{fullShare} m ((c : Thread nD τ).loc main_arg3)) : sProp 𝕄) := by
  unfold a2P; rw [show (a2S e).view.set = (slotR 4 2048 1024 e).set from (View.set_reshape _ _).trans (View.set_slice_whole _ _)]
theorem b1_view (a : Fin 2) (f : Vec F S2x1024x2048 .f32) : b1P c a f = (((b1S a).view.loc (c : Thread nD τ) ↦[(b1S a).view.set]{fullShare} f) : sProp 𝕄) := by
  unfold b1P; rw [show (b1S a).view.set = (slotR 2 1024 2048 a).set from (View.set_reshape _ _).trans (View.set_slice_whole _ _)]
theorem b2_view (a : Fin 2) (f : Vec F S2x2048x1024 .f32) : b2P c a f = (((b2S a).view.loc (c : Thread nD τ) ↦[(b2S a).view.set]{fullShare} f) : sProp 𝕄) := by
  unfold b2P; rw [show (b2S a).view.set = (slotR 2 2048 1024 a).set from (View.set_reshape _ _).trans (View.set_slice_whole _ _)]

theorem w1_row (a : Fin 2) (e : Fin 4) : (b1S a).view.read (Elt F) (stack (n := 2) (a := 1024) (b := 2048) fun _ => w1 m c e)
    = (a1S e).view.read (Elt F) (m ((c : Thread nD τ).loc main_arg2)) :=
  funext fun i => stack_emb (n := 2) (a := 1024) (b := 2048) (fun _ => w1 m c e) a _
theorem w2_row (a : Fin 2) (e : Fin 4) : (b2S a).view.read (Elt F) (stack (n := 2) (a := 2048) (b := 1024) fun _ => w2 m c e)
    = (a2S e).view.read (Elt F) (m ((c : Thread nD τ).loc main_arg3)) :=
  funext fun i => stack_emb (n := 2) (a := 2048) (b := 1024) (fun _ => w2 m c e) a _

theorem kPay_w (e : ℕ) (he : e < 4) (b : Fin 2) : kPay m c (kW (par e) b) (e / 2) c = wPay m c (par e) b (exC e) := by
  have h : 2 * (e / 2) + (par e).val = e := by show 2 * (e / 2) + e % 2 = e; omega
  show wPay m c (par e) b (Fin.ofNat 4 (2 * (e / 2) + (par e).val)) = _
  rw [h]

/-- The two copies of expert `e`. -/
theorem issue (e : ℕ) (he : e < 4)
    {o₁ o₄ : Fin 2 → ℕ} {o₂ o₃ o₅ o₆ : Fin 3 → ℕ}
    (ho₁ : o₁ = ![(par e).val, 0]) (ho₂ : o₂ = ![(par e).val, 0, 0]) (ho₃ : o₃ = ![(exC e).val, 0, 0])
    (ho₄ : o₄ = ![(par e).val, 1]) (ho₅ : o₅ = ![(par e).val, 0, 0]) (ho₆ : o₆ = ![(exC e).val, 0, 0])
    {h₁ : ∀ d, o₁ d + S1x1.size d ≤ S2x2.size d} {h₄ : ∀ d, o₄ d + S1x1.size d ≤ S2x2.size d}
    {h₂ : ∀ d, o₂ d + S1x1024x2048.size d ≤ S2x1024x2048.size d} {h₃ : ∀ d, o₃ d + S1x1024x2048.size d ≤ S4x1024x2048.size d}
    {h₅ : ∀ d, o₅ d + S1x2048x1024.size d ≤ S2x2048x1024.size d} {h₆ : ∀ d, o₆ d + S1x2048x1024.size d ≤ S4x2048x1024.size d}
    {hs₁ hd₁ ht₁ hs₂ hd₂ ht₂} {α : Type} {Q : α → sProp 𝕄} {p : PUnit → Prog (TpuEff nD τ sig (Elt F) Λ₀ .tc) α} :
    records m K ⊢ iprop(idle c e -∗ wtok c e -∗ sl m c e -∗ (flight c e -∗ WP c (p ⟨⟩) Q)
      -∗ WP c (.op (.enqueueDma (((Memref.whole main_arg2).slice (Rect.unit (s := S4x1024x2048) o₃ S1x1024x2048.size h₃) (fun _ => rfl)).squeeze S1024x2048 squeezes_S1x1024x2048_S1024x2048)
            (.here (((Memref.whole cc0_scratch8).slice (Rect.unit (s := S2x1024x2048) o₂ S1x1024x2048.size h₂) (fun _ => rfl)).squeeze S1024x2048 squeezes_S1x1024x2048_S1024x2048))
            (.dma (((cc0_scratch10 : DmaSems sig S2x2).slice (Rect.unit (s := S2x2) o₁ S1x1.size h₁)).squeeze S_ squeezes_S1x1_S_).sem) hs₁ hd₁ ht₁)
          fun _ => .op (.enqueueDma (((Memref.whole main_arg3).slice (Rect.unit (s := S4x2048x1024) o₆ S1x2048x1024.size h₆) (fun _ => rfl)).squeeze S2048x1024 squeezes_S1x2048x1024_S2048x1024)
            (.here (((Memref.whole cc0_scratch9).slice (Rect.unit (s := S2x2048x1024) o₅ S1x2048x1024.size h₅) (fun _ => rfl)).squeeze S2048x1024 squeezes_S1x2048x1024_S2048x1024))
            (.dma (((cc0_scratch10 : DmaSems sig S2x2).slice (Rect.unit (s := S2x2) o₄ S1x1.size h₄)).squeeze S_ squeezes_S1x1_S_).sem) hs₂ hd₂ ht₂) p) Q) := by
  subst ho₁ ho₂ ho₃ ho₄ ho₅ ho₆
  have hd : ∀ b, c ∈ (Rd (F := F) m).duties (cell c (kW (par e) b)) (e / 2) := fun b => by
    rw [Rd_duties]
    show c ∈ (if e / 2 < 2 then {c} else ∅ : Finset (Dev nD))
    rw [if_pos (by omega)]; exact Finset.mem_singleton_self _
  unfold idle wtok sl free wrch flight
  iintro #HR ⟨Hp, ⟨Hr₁, Hr₂⟩, ⟨%f₁, Hb₁⟩, ⟨%f₂, Hb₂⟩⟩ ⟨Ht₁, Ht₂⟩ ⟨Ha₁, Ha₂⟩ Hk
  have ea₁ := a1_view (F := F) m c (exC e)
  have ea₂ := a2_view (F := F) m c (exC e)
  have eb₁ := b1_view (F := F) c (par e) f₁
  have eb₂ := b2_view (F := F) c (par e) f₂
  have ew₁ := (pointsTo_write (Ix := Unit) (Name := ℕ) (U := UU) (Lvl := ℕ) (c : Thread nD τ) (b1S (par e)).view fullShare f₁ _ _ (w1_row m c (par e) (exC e))).trans
    (b1_view (F := F) c (par e) _).symm
  have ew₂ := (pointsTo_write (Ix := Unit) (Name := ℕ) (U := UU) (Lvl := ℕ) (c : Thread nD τ) (b2S (par e)).view fullShare f₂ _ _ (w2_row m c (par e) (exC e))).trans
    (b2_view (F := F) c (par e) _).symm
  have ep : ∀ b, (Rd (F := F) m).payload (cell c (kW (par e) b)) (e / 2) c = wPay m c (par e) b (exC e) :=
    fun b => (Rd_payload m c _ _ c).trans (kPay_w m c e he b)
  have hp₁ : iprop(b1P c (par e) (stack (n := 2) (a := 1024) (b := 2048) fun _ => w1 m c (exC e)) ∗ a1P m c (exC e)) ⊢ (Rd (F := F) m).payload (cell c (kW (par e) 0)) (e / 2) c :=
    Entails.of_eq (ep 0).symm
  have hp₂ : iprop(b2P c (par e) (stack (n := 2) (a := 2048) (b := 1024) fun _ => w2 m c (exC e)) ∗ a2P m c (exC e)) ⊢ (Rd (F := F) m).payload (cell c (kW (par e) 1)) (e / 2) c :=
    Entails.of_eq (ep 1).symm
  rw [← ew₁, ea₁] at hp₁
  rw [← ew₂, ea₂] at hp₂
  ihave Ha₁' := (Entails.of_eq ea₁) $$ Ha₁
  ihave Ha₂' := (Entails.of_eq ea₂) $$ Ha₂
  ihave Hb₁' := (Entails.of_eq eb₁) $$ Hb₁
  ihave Hb₂' := (Entails.of_eq eb₂) $$ Hb₂
  iapply (Rounds.wp_copy_pointsTo 𝒱₀ ER (Rd m) (c : Thread nD τ) none (κ := K (c, kW (par e) 0)) (src := a1S (exC e)) (dst := b1S (par e)) (sem := .dma (semW (par e) 0))
    (r := e / 2) (d := c) (hd 0) () (NW 0) rfl (Rd_amount m c (kW (par e) 0) (e / 2) c) hp₁) $$ [Ha₁' Hb₁' Ht₁ Hr₁]
  · isplitr; · iapply (rec_inv m K c (kW (par e) 0)); iexact HR
    isplitl [Ha₁']; · iexact Ha₁'
    isplitl [Hb₁']; · iexact Hb₁'
    isplitl [Ht₁]; · iexact Ht₁
    iexact Hr₁
  iintro Hc₁
  iapply (Rounds.wp_copy_pointsTo 𝒱₀ ER (Rd m) (c : Thread nD τ) none (κ := K (c, kW (par e) 1)) (src := a2S (exC e)) (dst := b2S (par e)) (sem := .dma (semW (par e) 1))
    (r := e / 2) (d := c) (hd 1) () (NW 1) rfl (Rd_amount m c (kW (par e) 1) (e / 2) c) hp₂) $$ [Ha₂' Hb₂' Ht₂ Hr₂]
  · isplitr; · iapply (rec_inv m K c (kW (par e) 1)); iexact HR
    isplitl [Ha₂']; · iexact Ha₂'
    isplitl [Hb₂']; · iexact Hb₂'
    isplitl [Ht₂]; · iexact Ht₂
    iexact Hr₂
  iintro Hc₂
  iapply Hk
  isplitr [Hp]
  · isplitl [Hc₁]
    · iapply (Entails.of_eq (show (cred (tallyAt ((c : Thread nD τ), SemLoc.dma (semW (par e) 0)) () (NW 0)) : sProp 𝕄) = cred (tallyAt (cell c (kW (par e) 0)) () (NW 0)) from rfl)); iexact Hc₁
    iapply (Entails.of_eq (show (cred (tallyAt ((c : Thread nD τ), SemLoc.dma (semW (par e) 1)) () (NW 1)) : sProp 𝕄) = cred (tallyAt (cell c (kW (par e) 1)) () (NW 1)) from rfl)); iexact Hc₂
  iexact Hp

/-- The two waits for expert `e`'s copies. -/
theorem await (e : ℕ) (he : e < 4) (b : ℕ) (n : Fin 4 → ℕ) {o₁ o₄ : Fin 2 → ℕ} (ho₁ : o₁ = ![(par e).val, 0]) (ho₄ : o₄ = ![(par e).val, 1])
    {h₁ : ∀ d, o₁ d + S1x1.size d ≤ S2x2.size d} {h₄ : ∀ d, o₄ d + S1x1.size d ≤ S2x2.size d}
    {sp sp' sq sq' : Space} {s s' t t' : Shape} {ty ty' tz tz' : EltTy} {src : Memref sig .tc sp' s' ty'} {dst : Memref sig .tc sp s ty}
    {src' : Memref sig .tc sq' t' tz'} {dst' : Memref sig .tc sq t tz}
    {hs hd hs' hd'} (hN : dst.view.dmaCredit = NW 0) (hN' : dst'.view.dmaCredit = NW 1)
    {α : Type} {Q : α → sProp 𝕄} {p : PUnit → Prog (TpuEff nD τ sig (Elt F) Λ₀ .tc) α} :
    records m K ⊢ iprop(flight c e -∗ ow c b n -∗ (ow c b n -∗ ready m c e -∗ WP c (p ⟨⟩) Q)
      -∗ WP c (.op (.waitDma2 (((cc0_scratch10 : DmaSems sig S2x2).slice (Rect.unit (s := S2x2) o₁ S1x1.size h₁)).squeeze S_ squeezes_S1x1_S_).sem src dst hs hd)
        fun _ => .op (.waitDma2 (((cc0_scratch10 : DmaSems sig S2x2).slice (Rect.unit (s := S2x2) o₄ S1x1.size h₄)).squeeze S_ squeezes_S1x1_S_).sem src' dst' hs' hd') p) Q) := by
  have hr : e / 2 < 2 := by omega
  have he' : (exC e).val = 2 * (e / 2) + (par e).val := by show e % 4 = 2 * (e / 2) + e % 2; omega
  have hn : ∀ (x : Fin 4) (j : Fin 7), n x ≤ j.val → 0 < (![2, 2, 3, 4] : Fin 4 → ℕ) x := fun x _ _ => by fin_cases x <;> decide
  unfold flight ready wpos wrch sl
  iintro #HR ⟨⟨Hc₁, Hc₂⟩, Hp₁, Hp₂⟩ Ho Hk
  iapply (wait_w m K c (par e) 0 (e / 2) hr (exC e) he' b n ho₁ hN hn) $$ HR Hc₁ Hp₁ Ho
  iintro Ho Hp₁ Hr₁ Hw₁
  iapply (wait_w m K c (par e) 1 (e / 2) hr (exC e) he' b n ho₄ hN' hn) $$ HR Hc₂ Hp₂ Ho
  iintro Ho Hp₂ Hr₂ Hw₂
  unfold wPay
  icases Hw₁ with ⟨Hb₁, Ha₁⟩
  icases Hw₂ with ⟨Hb₂, Ha₂⟩
  iapply Hk $$ Ho
  isplitl [Hp₁ Hp₂ Hr₁ Hr₂]
  · isplitl [Hp₁ Hp₂]
    · isplitl [Hp₁] <;> iassumption
    isplitl [Hr₁] <;> iassumption
  isplitl [Hb₁ Hb₂]
  · isplitl [Hb₁] <;> iassumption
  isplitl [Ha₁] <;> iassumption

/-- The loads of expert `e`'s two matrices. -/
theorem loadw (e : ℕ) {o₁ o₂ : Fin 3 → ℕ} (ho₁ : o₁ = ![(par e).val, 0, 0]) (ho₂ : o₂ = ![(par e).val, 0, 0])
    {h₁ : ∀ d, o₁ d + S1x1024x2048.size d ≤ S2x1024x2048.size d} {h₂ : ∀ d, o₂ d + S1x2048x1024.size d ≤ S2x2048x1024.size d}
    {hl : (Memref.whole cc0_scratch8).view.LoadsAt (Rect.unit (s := S2x1024x2048) o₁ S1x1024x2048.size h₁).toLoadRect}
    {hl' : (Memref.whole cc0_scratch9).view.LoadsAt (Rect.unit (s := S2x2048x1024) o₂ S1x2048x1024.size h₂).toLoadRect}
    {α : Type} {Q : α → sProp 𝕄} {k : Vec F S1x1024x2048 .f32 → Vec F S1x2048x1024 .f32 → Prog (TpuEff nD τ sig (Elt F) Λ₀ .tc) α} :
    ready m c e ⊢ iprop((ready m c e -∗ WP c (k (w1 m c (exC e)) (w2 m c (exC e))) Q)
      -∗ WP c (.op (.load (Memref.whole cc0_scratch8) (Rect.unit (s := S2x1024x2048) o₁ S1x1024x2048.size h₁).toLoadRect hl)
        fun x => .op (.load (Memref.whole cc0_scratch9) (Rect.unit (s := S2x2048x1024) o₂ S1x2048x1024.size h₂).toLoadRect hl') (k x)) Q) := by
  unfold ready
  iintro ⟨Hp, ⟨Hb₁, Hb₂⟩, Hs⟩ Hk
  iapply (ld3 (Memref.whole cc0_scratch8) c (par e) (w1 m c (exC e)) (b1P_eq c (par e) _) (rd_b1 _ (par e)) ho₁) $$ Hb₁
  iintro Hb₁
  iapply (ld3 (Memref.whole cc0_scratch9) c (par e) (w2 m c (exC e)) (b2P_eq c (par e) _) (rd_b2 _ (par e)) ho₂) $$ Hb₂
  iintro Hb₂
  iapply Hk
  isplitl [Hp]; · iexact Hp
  isplitl [Hb₁ Hb₂]
  · isplitl [Hb₁] <;> iassumption
  iexact Hs

end Weights

end Cert.KernelIdeal.Moe
-- ==== Proof.Phases.lean ====
/- One source's share of a grid point: the operations the kernel repeats for every source, as one rule. -/
module

public import proofs.«01_k».proof.Proof.Weights

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

section
variable (K : Dev nD × Key → ℕ) (c : Dev nD)

/-- A program that has returned. -/
theorem wp_done {α : Type} {Q : α → sProp 𝕄} {a : α} : Q a ⊢ WP c (Prog.ret a : Prog (TpuEff nD τ sig (Elt F) Λ₀ .tc) α) Q := by
  unfold WP; rw [wp_ret]; iintro H; imodintro; iexact H

/-- The gathered rows and gates of source `p`, and its accumulated rows after experts `0 … e`. -/
def XW (p : Dev nD) : sProp 𝕄 := iprop(xfP c p fullShare (XF m) ∗ wbP c p fullShare (WB m))
def acS (e : ℕ) (p : Dev nD) : sProp 𝕄 := acP c p fullShare (stack (n := 8) (a := 128) (b := 1024) (acc m c e))
def MP (e : ℕ) (p : Dev nD) : sProp 𝕄 := iprop(XW m c p ∗ acS m c e p)

/-- A later expert's work on source `⟨k', hk⟩`: its rows, gates and accumulated rows are read and the expert's part is added. -/
theorem mid_step (e : ℕ) (k' : ℕ) (hk : k' < 8)
    {o₁ o₂ o₃ o₄ o₅ : Fin 3 → ℕ} (ho₁ : o₁ = ![k', 0, 0]) (ho₂ : o₂ = ![k', 0, 0]) (ho₃ : o₃ = ![k', 0, 0]) (ho₄ : o₄ = ![k', 0, 0]) (ho₅ : o₅ = ![k', 0, 0])
    {h₁ : ∀ d, o₁ d + S1x128x1024.size d ≤ S8x128x1024.size d} {h₂ : ∀ d, o₂ d + S1x128x1024.size d ≤ S8x128x1024.size d} {h₃ : ∀ d, o₃ d + S1x128x32.size d ≤ S8x128x32.size d} {h₄ : ∀ d, o₄ d + S1x128x1024.size d ≤ S8x128x1024.size d} {h₅ : ∀ d, o₅ d + S1x128x1024.size d ≤ S8x128x1024.size d}
    {hl₁ : (Memref.whole cc0_scratch5).view.LoadsAt (Rect.unit (s := S8x128x1024) o₁ S1x128x1024.size h₁).toLoadRect} {hl₂ : (Memref.whole cc0_scratch1).view.LoadsAt (Rect.unit (s := S8x128x1024) o₂ S1x128x1024.size h₂).toLoadRect} {hl₃ : (Memref.whole cc0_scratch4).view.LoadsAt (Rect.unit (s := S8x128x32) o₃ S1x128x32.size h₃).toLoadRect} {hl₄ : (Memref.whole cc0_scratch5).view.LoadsAt (Rect.unit (s := S8x128x1024) o₄ S1x128x1024.size h₄).toLoadRect}
    {hx : ((Memref.whole cc0_scratch5).access (Rect.unit (s := S8x128x1024) o₅ S1x128x1024.size h₅)).Stores Finset.univ} {hm : (Finset.univ : Finset (Rect.unit (s := S8x128x1024) o₅ S1x128x1024.size h₅).shape.Idx) = Finset.univ ∨ ∀ d, (Rect.unit (s := S8x128x1024) o₅ S1x128x1024.size h₅).stride d = 1}
    {α : Type} {Q : α → sProp 𝕄} {k : PUnit → Prog (TpuEff nD τ sig (Elt F) Λ₀ .tc) α} {g : Vec F S1x128x1024 .f32 → Vec F S1x128x1024 .bf16 → Vec F S1x128x32 .f32 → Vec F S1x128x1024 .f32} :
    fam (MP m c e) (MP m c (e + 1)) k' ⊢ iprop(⌜g (acc m c e ⟨k', hk⟩) (Vx m ⟨k', hk⟩) (Vw m ⟨k', hk⟩) = acc m c (e + 1) ⟨k', hk⟩⌝ -∗ (fam (MP m c e) (MP m c (e + 1)) (k' + 1) -∗ WP c (k ⟨⟩) Q)
      -∗ WP c (.op (.load (Memref.whole cc0_scratch5) (Rect.unit (s := S8x128x1024) o₁ S1x128x1024.size h₁).toLoadRect hl₁) fun a => .op (.load (Memref.whole cc0_scratch1) (Rect.unit (s := S8x128x1024) o₂ S1x128x1024.size h₂).toLoadRect hl₂) fun x => .op (.load (Memref.whole cc0_scratch4) (Rect.unit (s := S8x128x32) o₃ S1x128x32.size h₃).toLoadRect hl₃) fun w => .op (.load (Memref.whole cc0_scratch5) (Rect.unit (s := S8x128x1024) o₄ S1x128x1024.size h₄).toLoadRect hl₄) fun _ =>
          .op (.store (Memref.whole cc0_scratch5) (Rect.unit (s := S8x128x1024) o₅ S1x128x1024.size h₅) (g a x w) Finset.univ hx hm) k) Q) := by
  iintro Hf %hg Hk
  ihave Hf' := (fam_step (MP m c e) (MP m c (e + 1)) k' hk) $$ Hf
  unfold MP XW acS
  icases Hf' with ⟨⟨⟨Hx, Hw⟩, Ha⟩, Hcl⟩
  iapply (ld3 (Memref.whole cc0_scratch5) c ⟨k', hk⟩ (acc m c e ⟨k', hk⟩) (acP_eq c ⟨k', hk⟩ fullShare _) (rd_ac _ ⟨k', hk⟩) ho₁) $$ Ha
  iintro Ha
  iapply (ld3 (Memref.whole cc0_scratch1) c ⟨k', hk⟩ (Vx m ⟨k', hk⟩) (xfP_eq c ⟨k', hk⟩ fullShare (XF m)) (rd_xf (Vx m) ⟨k', hk⟩) ho₂) $$ Hx
  iintro Hx
  iapply (ld3 (Memref.whole cc0_scratch4) c ⟨k', hk⟩ (Vw m ⟨k', hk⟩) (wbP_eq c ⟨k', hk⟩ fullShare (WB m)) (rd_wb (Vw m) ⟨k', hk⟩) ho₃) $$ Hw
  iintro Hw
  iapply (ld3 (Memref.whole cc0_scratch5) c ⟨k', hk⟩ (acc m c e ⟨k', hk⟩) (acP_eq c ⟨k', hk⟩ fullShare _) (rd_ac _ ⟨k', hk⟩) ho₄) $$ Ha
  iintro Ha
  iapply (st3 (Memref.whole cc0_scratch5) c ⟨k', hk⟩ (stack (n := 8) (a := 128) (b := 1024) (acc m c (e + 1))) (acP_eq c ⟨k', hk⟩ fullShare _) (acP_eq c ⟨k', hk⟩ fullShare _)
    ((rd_ac _ ⟨k', hk⟩).trans hg.symm) ho₅) $$ Ha
  iintro Ha
  iapply Hk
  iapply Hcl
  isplitl [Hx Hw]
  · isplitl [Hx] <;> iassumption
  iexact Ha

/-- Before and after the last expert's work on peer `j`. -/
def LP (j : Fin 7) : sProp 𝕄 := iprop(MP m c 2 (peer c j) ∗ (∃ f, abP c (peer c j) fullShare f) ∗ DP c 3 j)
def LQ (j : Fin 7) : sProp 𝕄 := iprop(MP m c 2 (peer c j) ∗ DQ c 3 j)

/-- The last expert's work on peer `j`: the sum is rounded, stored and sent back. -/
theorem last_step (j : ℕ) (hj : j < 7) (n n' : Fin 4 → ℕ) (hn : n 3 = j) (hn' : n' = Function.update n 3 (j + 1))
    {d : Dev nD} (hd : d.val = (c.val + j + 1) % 8)
    {o₁ o₂ o₃ o₄ o₅ o₆ o₇ : Fin 3 → ℕ} (ho₁ : o₁ = ![(c.val + j + 1) % 8, 0, 0]) (ho₂ : o₂ = ![(c.val + j + 1) % 8, 0, 0]) (ho₃ : o₃ = ![(c.val + j + 1) % 8, 0, 0])
    (ho₄ : o₄ = ![(c.val + j + 1) % 8, 0, 0]) (ho₅ : o₅ = ![(c.val + j + 1) % 8, 0, 0]) (ho₆ : o₆ = ![(c.val + j + 1) % 8, 0, 0]) (ho₇ : o₇ = ![c.val, 0, 0])
    {q₁ q₂ : Fin 1 → ℕ} {k₁ : ∀ d, q₁ d + S1.size d ≤ S8.size d} {k₂ : ∀ d, q₂ d + S1.size d ≤ S8.size d} (hq₁ : q₁ = ![(c.val + j + 1) % 8]) (hq₂ : q₂ = ![c.val])
    {h₁ : ∀ d, o₁ d + S1x128x1024.size d ≤ S8x128x1024.size d} {h₂ : ∀ d, o₂ d + S1x128x1024.size d ≤ S8x128x1024.size d} {h₃ : ∀ d, o₃ d + S1x128x32.size d ≤ S8x128x32.size d} {h₄ : ∀ d, o₄ d + S1x128x1024.size d ≤ S8x128x1024.size d} {h₅ : ∀ d, o₅ d + S1x128x1024.size d ≤ S8x128x1024.size d} {h₆ : ∀ d, o₆ d + S1x128x1024.size d ≤ S8x128x1024.size d} {h₇ : ∀ d, o₇ d + S1x128x1024.size d ≤ S8x128x1024.size d}
    {hl₁ : (Memref.whole cc0_scratch5).view.LoadsAt (Rect.unit (s := S8x128x1024) o₁ S1x128x1024.size h₁).toLoadRect} {hl₂ : (Memref.whole cc0_scratch1).view.LoadsAt (Rect.unit (s := S8x128x1024) o₂ S1x128x1024.size h₂).toLoadRect} {hl₃ : (Memref.whole cc0_scratch4).view.LoadsAt (Rect.unit (s := S8x128x32) o₃ S1x128x32.size h₃).toLoadRect} {hl₄ : (Memref.whole cc0_scratch6).view.LoadsAt (Rect.unit (s := S8x128x1024) o₄ S1x128x1024.size h₄).toLoadRect}
    {hx : ((Memref.whole cc0_scratch6).access (Rect.unit (s := S8x128x1024) o₅ S1x128x1024.size h₅)).Stores Finset.univ} {hm : (Finset.univ : Finset (Rect.unit (s := S8x128x1024) o₅ S1x128x1024.size h₅).shape.Idx) = Finset.univ ∨ ∀ d, (Rect.unit (s := S8x128x1024) o₅ S1x128x1024.size h₅).stride d = 1} {hsc hsrc hdst hsem}
    {α : Type} {Q : α → sProp 𝕄} {k : PUnit → Prog (TpuEff nD τ sig (Elt F) Λ₀ .tc) α} {g : Vec F S1x128x1024 .f32 → Vec F S1x128x1024 .bf16 → Vec F S1x128x32 .f32 → Vec F S1x128x1024 .bf16} :
    records m K ⊢ iprop(fam (LP m c) (LQ m c) j -∗ ow c 7 n -∗ ⌜g (acc m c 2 (peer c ⟨j, hj⟩)) (Vx m (peer c ⟨j, hj⟩)) (Vw m (peer c ⟨j, hj⟩)) = ret m c (peer c ⟨j, hj⟩)⌝
      -∗ (fam (LP m c) (LQ m c) (j + 1) -∗ ow c 7 n' -∗ WP c (k ⟨⟩) Q)
      -∗ WP c (.op (.load (Memref.whole cc0_scratch5) (Rect.unit (s := S8x128x1024) o₁ S1x128x1024.size h₁).toLoadRect hl₁) fun a => .op (.load (Memref.whole cc0_scratch1) (Rect.unit (s := S8x128x1024) o₂ S1x128x1024.size h₂).toLoadRect hl₂) fun x => .op (.load (Memref.whole cc0_scratch4) (Rect.unit (s := S8x128x32) o₃ S1x128x32.size h₃).toLoadRect hl₃) fun w => .op (.load (Memref.whole cc0_scratch6) (Rect.unit (s := S8x128x1024) o₄ S1x128x1024.size h₄).toLoadRect hl₄) fun _ =>
          .op (.store (Memref.whole cc0_scratch6) (Rect.unit (s := S8x128x1024) o₅ S1x128x1024.size h₅) (g a x w) Finset.univ hx hm) fun _ =>
          .op (.enqueueDma (((Memref.whole cc0_scratch6).slice (Rect.unit (s := S8x128x1024) o₆ S1x128x1024.size h₆) (fun _ => rfl)).squeeze S128x1024 squeezes_S1x128x1024_S128x1024)
        (.remote (Dev.tc d : Thread nD τ)
        (((Memref.whole cc0_scratch7).slice (Rect.unit (s := S8x128x1024) o₇ S1x128x1024.size h₇) (fun _ => rfl)).squeeze S128x1024 squeezes_S1x128x1024_S128x1024)
          (.dma (((cc0_scratch17 : DmaSems sig S8).slice (Rect.unit (s := S8) q₁ S1.size k₁)).squeeze S_ squeezes_S1_S_).sem) hsc)
          (.dma (((cc0_scratch18 : DmaSems sig S8).slice (Rect.unit (s := S8) q₂ S1.size k₂)).squeeze S_ squeezes_S1_S_).sem) hsrc hdst hsem) k) Q) := by
  iintro #HR Hf Ho %hg Hk
  ihave Hf' := (fam_step (LP m c) (LQ m c) j hj) $$ Hf
  unfold LP LQ MP XW acS
  icases Hf' with ⟨⟨⟨⟨Hx, Hw⟩, Ha⟩, ⟨%f, Hb⟩, Hd⟩, Hcl⟩
  iapply (ld3 (Memref.whole cc0_scratch5) c (peer c ⟨j, hj⟩) (acc m c 2 (peer c ⟨j, hj⟩)) (acP_eq c (peer c ⟨j, hj⟩) fullShare _) (rd_ac _ (peer c ⟨j, hj⟩)) ho₁) $$ Ha
  iintro Ha
  iapply (ld3 (Memref.whole cc0_scratch1) c (peer c ⟨j, hj⟩) (Vx m (peer c ⟨j, hj⟩)) (xfP_eq c (peer c ⟨j, hj⟩) fullShare (XF m)) (rd_xf (Vx m) (peer c ⟨j, hj⟩)) ho₂) $$ Hx
  iintro Hx
  iapply (ld3 (Memref.whole cc0_scratch4) c (peer c ⟨j, hj⟩) (Vw m (peer c ⟨j, hj⟩)) (wbP_eq c (peer c ⟨j, hj⟩) fullShare (WB m)) (rd_wb (Vw m) (peer c ⟨j, hj⟩)) ho₃) $$ Hw
  iintro Hw
  iapply (ld3_any (Memref.whole cc0_scratch6) c (peer c ⟨j, hj⟩) (abP_eq c (peer c ⟨j, hj⟩) fullShare _) ho₄) $$ Hb
  iintro Hb
  iapply (st3 (Memref.whole cc0_scratch6) c (peer c ⟨j, hj⟩) (stack (n := 8) (a := 128) (b := 1024) fun p => ret m c p) (abP_eq c (peer c ⟨j, hj⟩) fullShare _) (abP_eq c (peer c ⟨j, hj⟩) fullShare _)
    ((rd_ab _ (peer c ⟨j, hj⟩)).trans hg.symm) ho₅) $$ Hb
  iintro Hb
  iapply (send_s m K c j hj 7 n n' hd hq₁ hq₂ ho₇ hn hn' ho₆) $$ HR [Hb Hd] Ho
  · unfold TP sendPay
    isplitl [Hb] <;> iassumption
  iintro Hq Ho
  iapply Hk $$ [Hcl Hx Hw Ha Hq] Ho
  iapply Hcl
  isplitr [Hq]
  · isplitl [Hx Hw]
    · isplitl [Hx] <;> iassumption
    iexact Ha
  iexact Hq

/-- Before and after the first expert's work on peer `j`. -/
def FP (j : Fin 7) : sProp 𝕄 := iprop(RP c 0 j ∗ RP c 2 j ∗ ∃ f, acP c (peer c j) fullShare f)
def FQ (j : Fin 7) : sProp 𝕄 := iprop(RQ m c 0 j ∗ RQ m c 2 j ∗ acS m c 0 (peer c j))

/-- The first expert's work on peer `j`: its rows and gates are awaited and read, and the expert's part is stored. -/
theorem first_step (j : ℕ) (hj : j < 7) (n : Fin 4 → ℕ) (hn : n = ![7, 7, 7, 0])
    {o₁ o₂ o₃ o₄ : Fin 3 → ℕ} (ho₁ : o₁ = ![(c.val + j + 1) % 8, 0, 0]) (ho₂ : o₂ = ![(c.val + j + 1) % 8, 0, 0]) (ho₃ : o₃ = ![(c.val + j + 1) % 8, 0, 0]) (ho₄ : o₄ = ![(c.val + j + 1) % 8, 0, 0])
    {q₁ q₂ : Fin 1 → ℕ} {k₁ : ∀ d, q₁ d + S1.size d ≤ S8.size d} {k₂ : ∀ d, q₂ d + S1.size d ≤ S8.size d} (hq₁ : q₁ = ![(c.val + j + 1) % 8]) (hq₂ : q₂ = ![(c.val + j + 1) % 8])
    {sp sp' sq sq' : Space} {s s' t t' : Shape} {ty ty' tz tz' : EltTy} {src : Memref sig .tc sp' s' ty'} {dst : Memref sig .tc sp s ty}
    {src' : Memref sig .tc sq' t' tz'} {dst' : Memref sig .tc sq t tz} {hs hs' hr hr'} (hN : dst.view.dmaCredit = NC 0) (hN' : dst'.view.dmaCredit = NC 2)
    {h₁ : ∀ d, o₁ d + S1x128x1024.size d ≤ S8x128x1024.size d} {h₂ : ∀ d, o₂ d + S1x128x32.size d ≤ S8x128x32.size d} {h₃ : ∀ d, o₃ d + S1x128x1024.size d ≤ S8x128x1024.size d} {h₄ : ∀ d, o₄ d + S1x128x1024.size d ≤ S8x128x1024.size d}
    {hl₁ : (Memref.whole cc0_scratch1).view.LoadsAt (Rect.unit (s := S8x128x1024) o₁ S1x128x1024.size h₁).toLoadRect} {hl₂ : (Memref.whole cc0_scratch4).view.LoadsAt (Rect.unit (s := S8x128x32) o₂ S1x128x32.size h₂).toLoadRect} {hl₃ : (Memref.whole cc0_scratch5).view.LoadsAt (Rect.unit (s := S8x128x1024) o₃ S1x128x1024.size h₃).toLoadRect}
    {hx : ((Memref.whole cc0_scratch5).access (Rect.unit (s := S8x128x1024) o₄ S1x128x1024.size h₄)).Stores Finset.univ} {hm : (Finset.univ : Finset (Rect.unit (s := S8x128x1024) o₄ S1x128x1024.size h₄).shape.Idx) = Finset.univ ∨ ∀ d, (Rect.unit (s := S8x128x1024) o₄ S1x128x1024.size h₄).stride d = 1}
    {α : Type} {Q : α → sProp 𝕄} {k : PUnit → Prog (TpuEff nD τ sig (Elt F) Λ₀ .tc) α} {g : Vec F S1x128x1024 .bf16 → Vec F S1x128x32 .f32 → Vec F S1x128x1024 .f32} :
    records m K ⊢ iprop(fam (FP c) (FQ m c) j -∗ ow c 7 n -∗ ⌜g (Vx m (peer c ⟨j, hj⟩)) (Vw m (peer c ⟨j, hj⟩)) = acc m c 0 (peer c ⟨j, hj⟩)⌝
      -∗ (fam (FP c) (FQ m c) (j + 1) -∗ ow c 7 n -∗ WP c (k ⟨⟩) Q)
      -∗ WP c (.op (.waitDma2 (((cc0_scratch12 : DmaSems sig S8).slice (Rect.unit (s := S8) q₁ S1.size k₁)).squeeze S_ squeezes_S1_S_).sem src dst hs hs') fun _ => .op (.waitDma2 (((cc0_scratch16 : DmaSems sig S8).slice (Rect.unit (s := S8) q₂ S1.size k₂)).squeeze S_ squeezes_S1_S_).sem src' dst' hr hr') fun _ =>
          .op (.load (Memref.whole cc0_scratch1) (Rect.unit (s := S8x128x1024) o₁ S1x128x1024.size h₁).toLoadRect hl₁) fun x => .op (.load (Memref.whole cc0_scratch4) (Rect.unit (s := S8x128x32) o₂ S1x128x32.size h₂).toLoadRect hl₂) fun w => .op (.load (Memref.whole cc0_scratch5) (Rect.unit (s := S8x128x1024) o₃ S1x128x1024.size h₃).toLoadRect hl₃) fun _ =>
          .op (.store (Memref.whole cc0_scratch5) (Rect.unit (s := S8x128x1024) o₄ S1x128x1024.size h₄) (g x w) Finset.univ hx hm) k) Q) := by
  subst hn
  iintro #HR Hf Ho %hg Hk
  ihave Hf' := (fam_step (FP c) (FQ m c) j hj) $$ Hf
  unfold FP FQ
  icases Hf' with ⟨⟨Hx, Hw, ⟨%f, Ha⟩⟩, Hcl⟩
  have hb : ∀ l : ℕ, ∀ j : Fin 7, 7 ≤ j.val → l < 1 := fun l j h => absurd j.isLt (Nat.not_lt.mpr h)
  iapply (wait_recv m K c 0 j hj 7 ![7, 7, 7, 0] rfl hq₁ hN (hb _) (fun x j h => by fin_cases x <;> simp at h ⊢ <;> omega)) $$ HR Hx Ho
  iintro Hx Ho
  iapply (wait_recv m K c 2 j hj 7 ![7, 7, 7, 0] rfl hq₂ hN' (hb _) (fun x j h => by fin_cases x <;> simp at h ⊢ <;> omega)) $$ HR Hw Ho
  iintro Hw Ho
  unfold RQ
  icases Hx with ⟨Hx', Hx⟩
  icases Hw with ⟨Hw', Hw⟩
  ihave Hx := (Entails.of_eq (show recvPay m c 0 (peer c ⟨j, hj⟩) = xfP c (peer c ⟨j, hj⟩) fullShare (XF m) from rfl)) $$ Hx
  ihave Hw := (Entails.of_eq (show recvPay m c 2 (peer c ⟨j, hj⟩) = wbP c (peer c ⟨j, hj⟩) fullShare (WB m) from rfl)) $$ Hw
  iapply (ld3 (Memref.whole cc0_scratch1) c (peer c ⟨j, hj⟩) (Vx m (peer c ⟨j, hj⟩)) (xfP_eq c (peer c ⟨j, hj⟩) fullShare (XF m)) (rd_xf (Vx m) (peer c ⟨j, hj⟩)) ho₁) $$ Hx
  iintro Hx
  iapply (ld3 (Memref.whole cc0_scratch4) c (peer c ⟨j, hj⟩) (Vw m (peer c ⟨j, hj⟩)) (wbP_eq c (peer c ⟨j, hj⟩) fullShare (WB m)) (rd_wb (Vw m) (peer c ⟨j, hj⟩)) ho₂) $$ Hw
  iintro Hw
  iapply (ld3_any (Memref.whole cc0_scratch5) c (peer c ⟨j, hj⟩) (acP_eq c (peer c ⟨j, hj⟩) fullShare _) ho₃) $$ Ha
  iintro Ha
  iapply (st3 (Memref.whole cc0_scratch5) c (peer c ⟨j, hj⟩) (stack (n := 8) (a := 128) (b := 1024) (acc m c 0)) (acP_eq c (peer c ⟨j, hj⟩) fullShare _) (acP_eq c (peer c ⟨j, hj⟩) fullShare _)
    ((rd_ac _ (peer c ⟨j, hj⟩)).trans hg.symm) ho₄) $$ Ha
  iintro Ha
  iapply Hk $$ [Hcl Hx Hx' Hw Hw' Ha] Ho
  iapply Hcl
  isplitl [Hx Hx']
  · isplitl [Hx']
    · iexact Hx'
    iapply (Entails.of_eq (show xfP c (peer c ⟨j, hj⟩) fullShare (XF m) = recvPay m c 0 (peer c ⟨j, hj⟩) from rfl)); iexact Hx
  isplitl [Hw Hw']
  · isplitl [Hw']
    · iexact Hw'
    iapply (Entails.of_eq (show wbP c (peer c ⟨j, hj⟩) fullShare (WB m) = recvPay m c 2 (peer c ⟨j, hj⟩) from rfl)); iexact Hw
  unfold acS; iexact Ha

/-- The wait for the rows peer `j` returns, and their load. -/
theorem ret_step (j : ℕ) (hj : j < 7) (n : Fin 4 → ℕ) (hn : n = ![7, 7, 7, 7])
    {o₁ : Fin 3 → ℕ} (ho₁ : o₁ = ![(c.val + j + 1) % 8, 0, 0])
    {q₁ : Fin 1 → ℕ} {k₁ : ∀ d, q₁ d + S1.size d ≤ S8.size d} (hq₁ : q₁ = ![(c.val + j + 1) % 8])
    {sp sp' : Space} {s s' : Shape} {ty ty' : EltTy} {src : Memref sig .tc sp' s' ty'} {dst : Memref sig .tc sp s ty} {hs hs'} (hN : dst.view.dmaCredit = NC 3)
    {h₁ : ∀ d, o₁ d + S1x128x1024.size d ≤ S8x128x1024.size d} {hl₁ : (Memref.whole cc0_scratch7).view.LoadsAt (Rect.unit (s := S8x128x1024) o₁ S1x128x1024.size h₁).toLoadRect}
    {α : Type} {Q : α → sProp 𝕄} {k : Vec F S1x128x1024 .bf16 → Prog (TpuEff nD τ sig (Elt F) Λ₀ .tc) α} :
    records m K ⊢ iprop(fam (RP c 3) (RQ m c 3) j -∗ ow c 7 n
      -∗ (fam (RP c 3) (RQ m c 3) (j + 1) -∗ ow c 7 n -∗ WP c (k (ret m (peer c ⟨j, hj⟩) c)) Q)
      -∗ WP c (.op (.waitDma2 (((cc0_scratch18 : DmaSems sig S8).slice (Rect.unit (s := S8) q₁ S1.size k₁)).squeeze S_ squeezes_S1_S_).sem src dst hs hs') fun _ => .op (.load (Memref.whole cc0_scratch7) (Rect.unit (s := S8x128x1024) o₁ S1x128x1024.size h₁).toLoadRect hl₁) k) Q) := by
  subst hn
  iintro #HR Hf Ho Hk
  ihave Hf' := (fam_step (RP c 3) (RQ m c 3) j hj) $$ Hf
  icases Hf' with ⟨Hr, Hcl⟩
  have hb : ∀ l : ℕ, ∀ j : Fin 7, 7 ≤ j.val → l < 1 := fun l j h => absurd j.isLt (Nat.not_lt.mpr h)
  iapply (wait_recv m K c 3 j hj 7 ![7, 7, 7, 7] rfl hq₁ hN (hb _) (fun x j h => by fin_cases x <;> simp at h ⊢ <;> omega)) $$ HR Hr Ho
  iintro Hr Ho
  unfold RQ
  icases Hr with ⟨Hr', Hr⟩
  ihave Hr := (Entails.of_eq (show recvPay m c 3 (peer c ⟨j, hj⟩) = rbP c (peer c ⟨j, hj⟩) fullShare (stack (n := 8) (a := 128) (b := 1024) fun p => ret m p c) from rfl)) $$ Hr
  iapply (ld3 (Memref.whole cc0_scratch7) c (peer c ⟨j, hj⟩) (ret m (peer c ⟨j, hj⟩) c) (rbP_eq c (peer c ⟨j, hj⟩) fullShare (stack (n := 8) (a := 128) (b := 1024) fun p => ret m p c)) (rd_rb (fun p => ret m p c) (peer c ⟨j, hj⟩)) ho₁) $$ Hr
  iintro Hr
  iapply Hk $$ [Hcl Hr Hr'] Ho
  iapply Hcl
  isplitl [Hr']
  · iexact Hr'
  iapply (Entails.of_eq (show rbP c (peer c ⟨j, hj⟩) fullShare (stack (n := 8) (a := 128) (b := 1024) fun p => ret m p c) = recvPay m c 3 (peer c ⟨j, hj⟩) from rfl)); iexact Hr

/-- The wait for the device's own transfer towards peer `j` on channel `h`. -/
theorem sent_step (h : Fin 4) (j : ℕ) (hj : j < 7) (n : Fin 4 → ℕ) {A : DmaSems sig S8} (hA : A = semArr h 0) {q₁ : Fin 1 → ℕ} {k₁ : ∀ d, q₁ d + S1.size d ≤ S8.size d} (hq₁ : q₁ = ![(c.val + j + 1) % 8])
    {sp sp' : Space} {s s' : Shape} {ty ty' : EltTy} {src : Memref sig .tc sp' s' ty'} {dst : Memref sig .tc sp s ty} {hs hs'} (hN : dst.view.dmaCredit = NC h)
    {α : Type} {Q : α → sProp 𝕄} {k : PUnit → Prog (TpuEff nD τ sig (Elt F) Λ₀ .tc) α} :
    records m K ⊢ iprop(fam (SP c h) (SQ m c h) j -∗ ow c 7 n -∗ (fam (SP c h) (SQ m c h) (j + 1) -∗ ow c 7 n -∗ WP c (k ⟨⟩) Q)
      -∗ WP c (.op (.waitDma2 ((A.slice (Rect.unit (s := S8) q₁ S1.size k₁)).squeeze S_ squeezes_S1_S_).sem src dst hs hs') k) Q) := by
  exact fam_rule (SP c h) (SQ m c h) j hj (wait_send m K c h j hj 7 n hA hq₁ hN (fun j h => Nat.one_pos) (fun x j _ => by fin_cases x <;> decide))

theorem hz : (![0, 0] : Fin 2 → Nat) = fun _ => 0 := funext fun a => by fin_cases a <;> rfl

/-- The store of the result's rows. -/
theorem out_step {f w v : Buf (Elt F) ((c : Thread nD τ).loc cc0_stg2_0)} {h₁ h₂ : ∀ d, (![0, 0] : Fin 2 → ℕ) d + S128x1024.size d ≤ S128x1024.size d}
    {hl : (Memref.whole cc0_stg2_0).view.LoadsAt (Rect.unit (s := S128x1024) ![0, 0] S128x1024.size h₁).toLoadRect}
    {hx : ((Memref.whole cc0_stg2_0).access (Rect.unit (s := S128x1024) ![0, 0] S128x1024.size h₂)).Stores Finset.univ}
    {hm : (Finset.univ : Finset (Rect.unit (s := S128x1024) ![0, 0] S128x1024.size h₂).shape.Idx) = Finset.univ ∨ ∀ d, (Rect.unit (s := S128x1024) ![0, 0] S128x1024.size h₂).stride d = 1}
    {α : Type} {Q : α → sProp 𝕄} {k : PUnit → Prog (TpuEff nD τ sig (Elt F) Λ₀ .tc) α} :
    ((c : Thread nD τ).loc cc0_stg2_0 ↦{fullShare} f : sProp 𝕄) ⊢ iprop(⌜w = v⌝ -∗ (((c : Thread nD τ).loc cc0_stg2_0 ↦{fullShare} v) -∗ WP c (k ⟨⟩) Q)
      -∗ WP c (.op (.load (Memref.whole cc0_stg2_0) (Rect.unit (s := S128x1024) ![0, 0] S128x1024.size h₁).toLoadRect hl) fun _ =>
        .op (.store (Memref.whole cc0_stg2_0) (Rect.unit (s := S128x1024) ![0, 0] S128x1024.size h₂) w Finset.univ hx hm) k) Q) := by
  iintro Hx %hw Hk
  subst hw
  iapply (wp_load 𝒱₀ (c : Thread nD τ) none Set.univ (m := Memref.whole cc0_stg2_0) (Finset.subset_univ _)) $$ Hx
  iintro Hx
  iapply (wp_store 𝒱₀ (c : Thread nD τ) none Set.univ (m := Memref.whole cc0_stg2_0) (r := Rect.unit (s := S128x1024) ![0, 0] S128x1024.size h₂) (Mk := Finset.univ) (Finset.subset_univ _)) $$ Hx
  iintro Hx
  rw [show ((Memref.whole cc0_stg2_0).access (Rect.unit (s := S128x1024) ![0, 0] S128x1024.size h₂)).write (Elt F) f w Finset.univ = w from
    Memref.write_access_unit_zero_univ (Elt F) cc0_stg2_0 hz _ f w]
  iapply Hk $$ Hx

end

end Cert.KernelIdeal.Moe
-- ==== Proof.Body.lean ====
/- The kernel's body on the launch's buffers, and the conditions and offsets that depend on the grid point. -/
module

public import proofs.«01_k».proof.Proof.Phases

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

/-- The kernel's body at grid coordinate `i` on the buffers the launch passes. -/
abbrev bodyI (i : grid0.Coords) : Prog (TpuEff nD τ sig (Elt F) Λ₀ .tc) PUnit :=
  cc0_body i (Memref.whole cc0_stg0_0) (Memref.isWhole_whole _) (Memref.whole cc0_stg1_0) (Memref.isWhole_whole _) (Memref.whole main_arg2) (Memref.isWhole_whole _)
    (Memref.whole main_arg3) (Memref.isWhole_whole _) (Memref.whole cc0_stg2_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    (Memref.whole cc0_scratch7) (Memref.isWhole_whole _) (Memref.whole cc0_scratch8) (Memref.isWhole_whole _) (Memref.whole cc0_scratch9) (Memref.isWhole_whole _)
    cc0_scratch10 cc0_scratch11 cc0_scratch12 cc0_scratch13 cc0_scratch14 cc0_scratch15 cc0_scratch16 cc0_scratch17 cc0_scratch18

theorem cond1 (i : grid0.Coords) (h : (i 0).val ≠ 0) : ¬ Scalar.cmpi .ne (Scalar.extui (Scalar.cmpi .eq (BitVec.ofNat 32 (i 0).val) 0#32) : BitVec 32) 0#32 = 1#1 := by
  revert i; decide
theorem cond2 (i : grid0.Coords) (h : (i 0).val < 3) : k0_cond2 i = 1#1 := by revert i; decide
theorem cond2' (i : grid0.Coords) (h : (i 0).val = 3) : ¬ k0_cond2 i = 1#1 := by revert i; decide
theorem cond3 (i : grid0.Coords) (h : (i 0).val ≠ 0) : ¬ k0_cond3 i = 1#1 := by revert i; decide
theorem cond3' (i : grid0.Coords) (h : (i 0).val = 0) : k0_cond3 i = 1#1 := by revert i; decide
theorem cond4 (i : grid0.Coords) (h : (i 0).val = 1 ∨ (i 0).val = 2) : k0_cond4 i = 1#1 := by revert i; decide
theorem cond4' (i : grid0.Coords) (h : ¬ ((i 0).val = 1 ∨ (i 0).val = 2)) : ¬ k0_cond4 i = 1#1 := by revert i; decide
theorem cond5 (i : grid0.Coords) (h : (i 0).val = 3) : k0_cond5 i = 1#1 := by revert i; decide
theorem cond5' (i : grid0.Coords) (h : (i 0).val ≠ 3) : ¬ k0_cond5 i = 1#1 := by revert i; decide

theorem off1_eq (i : grid0.Coords) : k0_off1 i = ![((i 0).val + 1) % 2, 0] := by revert i; decide
theorem off4_eq (i : grid0.Coords) : k0_off4 i = ![((i 0).val + 1) % 2, 1] := by revert i; decide
theorem off2_eq (i : grid0.Coords) : k0_off2 i = ![((i 0).val + 1) % 2, 0, 0] := by revert i; decide
theorem off5_eq (i : grid0.Coords) : k0_off5 i = ![((i 0).val + 1) % 2, 0, 0] := by revert i; decide
theorem off3_eq (i : grid0.Coords) (h : (i 0).val < 3) : k0_off3 i = ![((i 0).val + 1) % 4, 0, 0] := by revert i; decide
theorem off6_eq (i : grid0.Coords) (h : (i 0).val < 3) : k0_off6 i = ![((i 0).val + 1) % 4, 0, 0] := by revert i; decide
theorem off22_eq (i : grid0.Coords) : k0_off22 i = ![(i 0).val % 2, 0] := by revert i; decide
theorem off24_eq (i : grid0.Coords) : k0_off24 i = ![(i 0).val % 2, 1] := by revert i; decide
theorem off16_eq (i : grid0.Coords) : k0_off16 i = ![(i 0).val % 2, 0, 0] := by revert i; decide
theorem off17_eq (i : grid0.Coords) : k0_off17 i = ![(i 0).val % 2, 0, 0] := by revert i; decide
theorem off28_eq (i : grid0.Coords) : k0_off28 i = ![(i 0).val % 2, 0, 0] := by revert i; decide
theorem off29_eq (i : grid0.Coords) : k0_off29 i = ![(i 0).val % 2, 0, 0] := by revert i; decide
theorem off26_eq (i : grid0.Coords) : k0_off26 i = ![(i 0).val % 2, 0, 0] := by revert i; decide
theorem off27_eq (i : grid0.Coords) : k0_off27 i = ![(i 0).val % 2, 0, 0] := by revert i; decide

end Cert.KernelIdeal.Moe
-- ==== Proof.First.lean ====
/- Rules and regroupings for the first grid point. -/
module

public import proofs.«01_k».proof.Proof.Body

@[expose] public section

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

/-! ## A buffer loaded or stored whole -/

section Whole
variable {cs : CoreSpace} {s : Shape} {e : EltTy} (c : Dev nD) (mr : Memref sig .tc cs s e)

theorem ldV {r : LoadRect s} {hl : mr.view.LoadsAt r} {q : PosShare TreeShare} {f : Buf (Elt F) (mr.view.loc (c : Thread nD τ))} (w : r.shape.Idx → Elt F e)
    {P : sProp 𝕄} (hP : P = (mr.view.loc (c : Thread nD τ) ↦{q} f)) (hw : mr.view.readAt (Elt F) r f = w)
    {α : Type} {Q : α → sProp 𝕄} {k : (r.shape.Idx → Elt F e) → Prog (TpuEff nD τ sig (Elt F) Λ₀ .tc) α} :
    P ⊢ iprop((P -∗ WP c (k w) Q) -∗ WP c (.op (.load mr r hl) k) Q) := by
  subst hP hw
  exact wp_load 𝒱₀ (c : Thread nD τ) none Set.univ (m := mr) (Finset.subset_univ _)

end Whole

theorem xb_store (c : Dev nD) {f w v : Vec F S128x1024 .bf16} {h₁ h₂ : ∀ d, (![0, 0] : Fin 2 → ℕ) d + S128x1024.size d ≤ S128x1024.size d}
    {hl : (Memref.whole cc0_scratch0).view.LoadsAt (Rect.unit (s := S128x1024) ![0, 0] S128x1024.size h₁).toLoadRect}
    {hx : ((Memref.whole cc0_scratch0).access (Rect.unit (s := S128x1024) ![0, 0] S128x1024.size h₂)).Stores Finset.univ}
    {hm : (Finset.univ : Finset (Rect.unit (s := S128x1024) ![0, 0] S128x1024.size h₂).shape.Idx) = Finset.univ ∨ ∀ d, (Rect.unit (s := S128x1024) ![0, 0] S128x1024.size h₂).stride d = 1}
    {α : Type} {Q : α → sProp 𝕄} {k : PUnit → Prog (TpuEff nD τ sig (Elt F) Λ₀ .tc) α} :
    xbP c fullShare f ⊢ iprop(⌜w = v⌝ -∗ (xbP c fullShare v -∗ WP c (k ⟨⟩) Q)
      -∗ WP c (.op (.load (Memref.whole cc0_scratch0) (Rect.unit (s := S128x1024) ![0, 0] S128x1024.size h₁).toLoadRect hl) fun _ =>
        .op (.store (Memref.whole cc0_scratch0) (Rect.unit (s := S128x1024) ![0, 0] S128x1024.size h₂) w Finset.univ hx hm) k) Q) := by
  unfold xbP
  iintro Hx %hw Hk
  subst hw
  iapply (wp_load 𝒱₀ (c : Thread nD τ) none Set.univ (m := Memref.whole cc0_scratch0) (Finset.subset_univ _)) $$ Hx
  iintro Hx
  iapply (wp_store 𝒱₀ (c : Thread nD τ) none Set.univ (m := Memref.whole cc0_scratch0) (r := Rect.unit (s := S128x1024) ![0, 0] S128x1024.size h₂) (Mk := Finset.univ) (Finset.subset_univ _)) $$ Hx
  iintro Hx
  rw [show ((Memref.whole cc0_scratch0).access (Rect.unit (s := S128x1024) ![0, 0] S128x1024.size h₂)).write (Elt F) f w Finset.univ = w from
    Memref.write_access_unit_zero_univ (Elt F) cc0_scratch0 hz _ f w]
  iapply Hk $$ Hx

theorem rs_store (c : Dev nD) {f w v : Vec F S4x1024 .f32} {h₁ h₂ : ∀ d, (![0, 0] : Fin 2 → ℕ) d + S4x1024.size d ≤ S4x1024.size d}
    {hl : (Memref.whole cc0_scratch3).view.LoadsAt (Rect.unit (s := S4x1024) ![0, 0] S4x1024.size h₁).toLoadRect}
    {hx : ((Memref.whole cc0_scratch3).access (Rect.unit (s := S4x1024) ![0, 0] S4x1024.size h₂)).Stores Finset.univ}
    {hm : (Finset.univ : Finset (Rect.unit (s := S4x1024) ![0, 0] S4x1024.size h₂).shape.Idx) = Finset.univ ∨ ∀ d, (Rect.unit (s := S4x1024) ![0, 0] S4x1024.size h₂).stride d = 1}
    {α : Type} {Q : α → sProp 𝕄} {k : PUnit → Prog (TpuEff nD τ sig (Elt F) Λ₀ .tc) α} :
    rsP c fullShare f ⊢ iprop(⌜w = v⌝ -∗ (rsP c fullShare v -∗ WP c (k ⟨⟩) Q)
      -∗ WP c (.op (.load (Memref.whole cc0_scratch3) (Rect.unit (s := S4x1024) ![0, 0] S4x1024.size h₁).toLoadRect hl) fun _ =>
        .op (.store (Memref.whole cc0_scratch3) (Rect.unit (s := S4x1024) ![0, 0] S4x1024.size h₂) w Finset.univ hx hm) k) Q) := by
  unfold rsP
  iintro Hx %hw Hk
  subst hw
  iapply (wp_load 𝒱₀ (c : Thread nD τ) none Set.univ (m := Memref.whole cc0_scratch3) (Finset.subset_univ _)) $$ Hx
  iintro Hx
  iapply (wp_store 𝒱₀ (c : Thread nD τ) none Set.univ (m := Memref.whole cc0_scratch3) (r := Rect.unit (s := S4x1024) ![0, 0] S4x1024.size h₂) (Mk := Finset.univ) (Finset.subset_univ _)) $$ Hx
  iintro Hx
  rw [show ((Memref.whole cc0_scratch3).access (Rect.unit (s := S4x1024) ![0, 0] S4x1024.size h₂)).write (Elt F) f w Finset.univ = w from
    Memref.write_access_unit_zero_univ (Elt F) cc0_scratch3 hz _ f w]
  iapply Hk $$ Hx

theorem hz3 : (![0, 0, 0] : Fin 3 → Nat) = fun _ => 0 := funext fun a => by fin_cases a <;> rfl

/-! ## Regrouping -/

section Regroup
variable (c : Dev nD)

theorem four (Φ : Fin 4 → sProp 𝕄) : bigSep Finset.univ Φ = iprop(Φ 0 ∗ Φ 1 ∗ Φ 2 ∗ Φ 3) := by
  rw [show (Finset.univ : Finset (Fin 4)) = {0, 1, 2, 3} from rfl]
  rw [bigSep_insert (by decide), bigSep_insert (by decide), bigSep_insert (by decide), bigSep_singleton]; rfl

/-- The duties of the transfer towards peer `j` on channel `h`. -/
def TK (h : Fin 4) (j : Fin 7) : sProp 𝕄 := iprop(dutyTok ER (cell c (kCh h 0 (peer c j))) 0 c ∗ dutyTok ER (cell (peer c j) (kCh h 1 c)) 0 c)

/-- The places other devices write, by channel, are the device's own and what it hands each peer. -/
theorem land_split : bigSep Finset.univ (fun h : Fin 4 => bigSep Finset.univ fun p => landAny (F := F) c h p)
    = iprop((bigSep Finset.univ fun h : Fin 4 => landAny c h c) ∗ bigSep Finset.univ fun j => barPay (peer c j) c) := by
  rw [bigSep_congr (Ψ := fun h : Fin 4 => iprop(landAny (F := F) c h c ∗ bigSep Finset.univ fun j => landAny c h (peer c j))) fun h _ => bigSep_peers c fun p => landAny c h p,
    bigSep_sep', bigSep_univ_comm]
  rfl

/-- The places handed over with the duties of the transfers are what the transfers need. -/
theorem dp_join : iprop(bigSep Finset.univ (fun j => barPay (F := F) c (peer c j)) ∗ bigSep Finset.univ fun h => bigSep Finset.univ (TK c h))
    = bigSep Finset.univ fun h : Fin 4 => bigSep Finset.univ (DP (F := F) c h) := by
  rw [show (bigSep Finset.univ fun j => barPay (F := F) c (peer c j)) = bigSep Finset.univ fun h : Fin 4 => bigSep Finset.univ fun j => landAny (peer c j) h c from
    bigSep_univ_comm _, ← bigSep_sep']
  refine bigSep_congr fun h _ => ?_
  rw [← bigSep_sep']
  rfl

/-- A place at the full share is its eight leaves, the device's own and its peers'. -/
theorem leaves8 {ℓ : Loc nD τ sig} (I : Finset (Idx ℓ)) (f : Buf (Elt F) ℓ) (c : Fin 8) :
    (ℓ ↦[I]{fullShare} f : sProp 𝕄) = iprop((ℓ ↦[I]{leaf 3 fullShare c} f) ∗ bigSep Finset.univ fun j => ℓ ↦[I]{leaf 3 fullShare (peer c j)} f) := by
  rw [← bigSep_peers c fun p : Fin 8 => (ℓ ↦[I]{leaf 3 fullShare p} f : sProp 𝕄)]
  exact ShareLeaves.pointsTo_leaves I f 3 fullShare

theorem xb_leaves (f : Vec F S128x1024 .bf16) : xbP c fullShare f = iprop(xbP c (leaf 3 fullShare c) f ∗ bigSep Finset.univ fun j => xbP c (leaf 3 fullShare (peer c j)) f) := by
  unfold xbP; exact leaves8 (ℓ := (c : Thread nD τ).loc cc0_scratch0) Finset.univ f c
theorem rs_leaves (f : Vec F S4x1024 .f32) : rsP c fullShare f = iprop(rsP c (leaf 3 fullShare c) f ∗ bigSep Finset.univ fun j => rsP c (leaf 3 fullShare (peer c j)) f) := by
  unfold rsP; exact leaves8 (ℓ := (c : Thread nD τ).loc cc0_scratch3) Finset.univ f c
theorem wb_leaves (f : Vec F S8x128x32 .f32) : wbP c c fullShare f = iprop(wbP c c (leaf 3 fullShare c) f ∗ bigSep Finset.univ fun j => wbP c c (leaf 3 fullShare (peer c j)) f) := by
  unfold wbP; exact leaves8 (ℓ := (c : Thread nD τ).loc cc0_scratch4) (slotR 8 128 32 c).set f c

theorem rf_whole (f : Vec F S8x4x1024 .f32) : iprop(rfP c c fullShare f ∗ bigSep Finset.univ fun j => rfP c (peer c j) fullShare f) = ((c : Thread nD τ).loc cc0_scratch2 ↦{fullShare} f) :=
  ((Ring.pointsTo_blocks (ℓ := (c : Thread nD τ).loc cc0_scratch2) (fun p : Fin 8 => (slotR 8 4 1024 p).set) slot_disj slot_cover f).trans (bigSep_peers c fun p => rfP c p fullShare f)).symm
/-- Where the device stands in the round of a channel's cells for peer `j`, sending and receiving. -/
def SA (h : Fin 4) (r : ℕ) (j : Fin 7) : sProp 𝕄 := atPos ER (cell c (kCh h 0 (peer c j))) r ∅ 0
def RA (h : Fin 4) (r : ℕ) (j : Fin 7) : sProp 𝕄 := atPos ER (cell c (kCh h 1 (peer c j))) r ∅ 0

theorem rq_split (h : Fin 4) : bigSep Finset.univ (RQ m c h) = iprop(bigSep Finset.univ (RA (F := F) c h 1) ∗ bigSep Finset.univ fun j => recvPay m c h (peer c j)) := by
  rw [← bigSep_sep']; rfl
theorem sq_split (h : Fin 4) : bigSep Finset.univ (SQ m c h) = iprop(bigSep Finset.univ (SA (F := F) c h 1) ∗ bigSep Finset.univ fun j => sendPay m c h (peer c j)) := by
  rw [← bigSep_sep']; rfl
theorem sp_join (h : Fin 4) : iprop(bigSep Finset.univ (DQ (F := F) c h) ∗ bigSep Finset.univ (SA (F := F) c h 0)) = bigSep Finset.univ (SP (F := F) c h) := by
  rw [← bigSep_sep']; rfl
theorem tp_join (h : Fin 4) : iprop(bigSep Finset.univ (fun j => sendPay m c h (peer c j)) ∗ bigSep Finset.univ (DP (F := F) c h)) = bigSep Finset.univ (TP m c h) := by
  rw [← bigSep_sep']; rfl
theorem bp_join : iprop(bigSep Finset.univ (fun j => (dutyTok ER (cell (peer c j) kBar) 0 c : sProp 𝕄)) ∗ bigSep Finset.univ fun j => barPay (F := F) (peer c j) c) = bigSep Finset.univ (BP (F := F) c) := by
  rw [← bigSep_sep']; rfl
theorem fp_join : iprop(bigSep Finset.univ (RP (F := F) c 0) ∗ bigSep Finset.univ (RP (F := F) c 2) ∗ bigSep Finset.univ fun j => iprop(∃ f, acP (F := F) c (peer c j) fullShare f)) = bigSep Finset.univ (FP (F := F) c) := by
  rw [← bigSep_sep', ← bigSep_sep']; rfl
theorem fq_shuffle (A X B W C : sProp 𝕄) : iprop((A ∗ X) ∗ (B ∗ W) ∗ C) ⊢ iprop(A ∗ B ∗ (X ∗ W) ∗ C) := by
  iintro ⟨⟨H1, H2⟩, ⟨H3, H4⟩, H5⟩
  isplitl [H1]; · iexact H1
  isplitl [H3]; · iexact H3
  isplitl [H2 H4]
  · isplitl [H2] <;> iassumption
  iexact H5
theorem fq_split : bigSep Finset.univ (FQ m c) ⊢ iprop(bigSep Finset.univ (RA (F := F) c 0 1) ∗ bigSep Finset.univ (RA (F := F) c 2 1) ∗ bigSep Finset.univ fun j => MP m c 0 (peer c j)) := by
  rw [← bigSep_sep', ← bigSep_sep']
  refine bigSep_mono fun j _ => ?_
  exact fq_shuffle _ _ _ _ _
end Regroup

/-! ## The first grid point's phases -/

section First
variable (K : Dev nD × Key → ℕ) (c : Dev nD)

section
variable (k : ℕ) (hk : k < 7) (n n' : Fin 4 → ℕ) {d : Dev nD} (hd : d.val = (c.val + k + 1) % 8)
variable {o₁ o₂ : Fin 1 → ℕ} {h₁ : ∀ d, o₁ d + S1.size d ≤ S8.size d} {h₂ : ∀ d, o₂ d + S1.size d ≤ S8.size d}
variable (ho₁ : o₁ = ![(c.val + k + 1) % 8]) (ho₂ : o₂ = ![c.val])
variable {o₃ o₄ : Fin 3 → ℕ} (ho₃ : o₃ = ![c.val, 0, 0])

include hk hd ho₁ ho₂ ho₃

theorem x_step (hn : n 0 = k) (hn' : n' = Function.update n 0 (k + 1)) {h₃ : ∀ d, o₃ d + S1x128x1024.size d ≤ S8x128x1024.size d} {hsc hsrc hdst hsem} {α : Type} {Q : α → sProp 𝕄} {p : PUnit → Prog (TpuEff nD τ sig (Elt F) Λ₀ .tc) α} :
    records m K ⊢ iprop(fam (TP m c 0) (DQ c 0) k -∗ ow c 7 n -∗ (fam (TP m c 0) (DQ c 0) (k + 1) -∗ ow c 7 n' -∗ WP c (p ⟨⟩) Q)
      -∗ WP c (.op (.enqueueDma (Memref.whole cc0_scratch0) (.remote (Dev.tc d : Thread nD τ)
        (((Memref.whole cc0_scratch1).slice (Rect.unit (s := S8x128x1024) o₃ S1x128x1024.size h₃) (fun _ => rfl)).squeeze S128x1024 squeezes_S1x128x1024_S128x1024)
          (.dma (((cc0_scratch11 : DmaSems sig S8).slice (Rect.unit (s := S8) o₁ S1.size h₁)).squeeze S_ squeezes_S1_S_).sem) hsc)
          (.dma (((cc0_scratch12 : DmaSems sig S8).slice (Rect.unit (s := S8) o₂ S1.size h₂)).squeeze S_ squeezes_S1_S_).sem) hsrc hdst hsem) p) Q) := by
  exact fam_rule (TP m c 0) (DQ c 0) k hk (send_x m K c k hk 7 n n' hd ho₁ ho₂ ho₃ hn hn')

theorem r_step (hn : n 1 = k) (hn' : n' = Function.update n 1 (k + 1)) {h₃ : ∀ d, o₃ d + S1x4x1024.size d ≤ S8x4x1024.size d} {hsc hsrc hdst hsem} {α : Type} {Q : α → sProp 𝕄} {p : PUnit → Prog (TpuEff nD τ sig (Elt F) Λ₀ .tc) α} :
    records m K ⊢ iprop(fam (TP m c 1) (DQ c 1) k -∗ ow c 7 n -∗ (fam (TP m c 1) (DQ c 1) (k + 1) -∗ ow c 7 n' -∗ WP c (p ⟨⟩) Q)
      -∗ WP c (.op (.enqueueDma (Memref.whole cc0_scratch3) (.remote (Dev.tc d : Thread nD τ)
        (((Memref.whole cc0_scratch2).slice (Rect.unit (s := S8x4x1024) o₃ S1x4x1024.size h₃) (fun _ => rfl)).squeeze S4x1024 squeezes_S1x4x1024_S4x1024)
          (.dma (((cc0_scratch13 : DmaSems sig S8).slice (Rect.unit (s := S8) o₁ S1.size h₁)).squeeze S_ squeezes_S1_S_).sem) hsc)
          (.dma (((cc0_scratch14 : DmaSems sig S8).slice (Rect.unit (s := S8) o₂ S1.size h₂)).squeeze S_ squeezes_S1_S_).sem) hsrc hdst hsem) p) Q) := by
  exact fam_rule (TP m c 1) (DQ c 1) k hk (send_r m K c k hk 7 n n' hd ho₁ ho₂ ho₃ hn hn')

theorem w_step (hn : n 2 = k) (hn' : n' = Function.update n 2 (k + 1)) (ho₄ : o₄ = ![c.val, 0, 0]) {h₃ : ∀ d, o₃ d + S1x128x32.size d ≤ S8x128x32.size d} {h₄ : ∀ d, o₄ d + S1x128x32.size d ≤ S8x128x32.size d} {hsc hsrc hdst hsem} {α : Type} {Q : α → sProp 𝕄} {p : PUnit → Prog (TpuEff nD τ sig (Elt F) Λ₀ .tc) α} :
    records m K ⊢ iprop(fam (TP m c 2) (DQ c 2) k -∗ ow c 7 n -∗ (fam (TP m c 2) (DQ c 2) (k + 1) -∗ ow c 7 n' -∗ WP c (p ⟨⟩) Q)
      -∗ WP c (.op (.enqueueDma (((Memref.whole cc0_scratch4).slice (Rect.unit (s := S8x128x32) o₄ S1x128x32.size h₄) (fun _ => rfl)).squeeze S128x32 squeezes_S1x128x32_S128x32)
        (.remote (Dev.tc d : Thread nD τ)
        (((Memref.whole cc0_scratch4).slice (Rect.unit (s := S8x128x32) o₃ S1x128x32.size h₃) (fun _ => rfl)).squeeze S128x32 squeezes_S1x128x32_S128x32)
          (.dma (((cc0_scratch15 : DmaSems sig S8).slice (Rect.unit (s := S8) o₁ S1.size h₁)).squeeze S_ squeezes_S1_S_).sem) hsc)
          (.dma (((cc0_scratch16 : DmaSems sig S8).slice (Rect.unit (s := S8) o₂ S1.size h₂)).squeeze S_ squeezes_S1_S_).sem) hsrc hdst hsem) p) Q) := by
  exact fam_rule (TP m c 2) (DQ c 2) k hk (send_w m K c k hk 7 n n' hd ho₁ ho₂ ho₃ hn hn' ho₄)
end

/-- The wait for peer `k`'s router columns. -/
theorem ra_step (k : ℕ) (hk : k < 7) {o : Fin 1 → ℕ} {hin : ∀ d, o d + S1.size d ≤ S8.size d} (ho : o = ![(c.val + k + 1) % 8])
    {sp sp' : Space} {s s' : Shape} {e e' : EltTy} {src : Memref sig .tc sp' s' e'} {dst : Memref sig .tc sp s e} {hsrc : src.view.WordExact} {hdst : dst.view.WordExact} (hN : dst.view.dmaCredit = NC 1)
    {α : Type} {Q : α → sProp 𝕄} {p : PUnit → Prog (TpuEff nD τ sig (Elt F) Λ₀ .tc) α} :
    records m K ⊢ iprop(fam (RP c 1) (RQ m c 1) k -∗ ow c 7 ![7, 7, 0, 0] -∗ (fam (RP c 1) (RQ m c 1) (k + 1) -∗ ow c 7 ![7, 7, 0, 0] -∗ WP c (p ⟨⟩) Q)
      -∗ WP c (.op (.waitDma2 (((cc0_scratch14 : DmaSems sig S8).slice (Rect.unit (s := S8) o S1.size hin)).squeeze S_ squeezes_S1_S_).sem src dst hsrc hdst) p) Q) := by
  exact fam_rule (RP c 1) (RQ m c 1) k hk (wait_recv m K c 1 k hk 7 ![7, 7, 0, 0] rfl ho hN (fun j h => absurd j.isLt (Nat.not_lt.mpr h)) (fun x j h => by fin_cases x <;> simp at h ⊢ <;> omega))

/-- The barrier's signal to peer `k`. -/
theorem bar_step (k : ℕ) (hk : k < 7) {d : Dev nD} (hd : d.val = (c.val + k + 1) % 8) {α : Type} {Q : α → sProp 𝕄} {p : PUnit → Prog (TpuEff nD τ sig (Elt F) Λ₀ .tc) α} :
    records m K ⊢ iprop(fam (BP c) BQ k -∗ ow c k ![0, 0, 0, 0] -∗ (fam (BP c) BQ (k + 1) -∗ ow c (k + 1) ![0, 0, 0, 0] -∗ WP c (p ⟨⟩) Q)
      -∗ WP c (.op (.semSignal (d : Thread nD τ) barS (1#32 : BitVec 32).toInt) p) Q) := by
  exact signal_bar m K c k hk ![0, 0, 0, 0] hd rfl

theorem bar_wait {α : Type} {Q : α → sProp 𝕄} {p : PUnit → Prog (TpuEff nD τ sig (Elt F) Λ₀ .tc) α} :
    records m K ⊢ iprop(cred (tallyAt (cell c kBar) () 7) -∗ atPos ER (cell c kBar) 0 ∅ 0 -∗ ow c 7 ![0, 0, 0, 0]
      -∗ (ow c 7 ![0, 0, 0, 0] -∗ atPos ER (cell c kBar) 1 ∅ 0 -∗ bigSep Finset.univ (fun j => barPay c (peer c j)) -∗ WP c (p ⟨⟩) Q)
      -∗ WP c (.op (.semWait barS (7#32 : BitVec 32).toInt) p) Q) := by
  exact wait_bar m K c ![0, 0, 0, 0] rfl
end First

end Cert.KernelIdeal.Moe
-- ==== Proof.Ghost.lean ====
/- The ghost state of the launch: the duties dealt to the devices that pay them, the cells' invariants, the launch credit, and the closing of the cells. -/
module

public import proofs.«01_k».proof.Proof.First

@[expose] public section

set_option pp.maxSteps 250

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

/-! ## The cells of a device, one by one -/

/-- A family over a device's cells: the barrier's, the weights' by parity and matrix, and by channel the own-index and the peers' cells, sending and receiving. -/
theorem keys_split (c : Dev nD) (Φ : Key → sProp 𝕄) : bigSep Finset.univ Φ
    = iprop(Φ kBar ∗ ((Φ (kW 0 0) ∗ Φ (kW 0 1)) ∗ (Φ (kW 1 0) ∗ Φ (kW 1 1)))
      ∗ bigSep Finset.univ fun h : Fin 4 => iprop((Φ (kCh h 0 c) ∗ bigSep Finset.univ fun j => Φ (kCh h 0 (peer c j)))
          ∗ (Φ (kCh h 1 c) ∗ bigSep Finset.univ fun j => Φ (kCh h 1 (peer c j))))) := by
  rw [bigSep_univ_sum, bigSep_univ_sum, bigSep_univ_prod, bigSep_univ_prod, bigSep_fin_two, bigSep_fin_two, bigSep_fin_two,
    show (Finset.univ : Finset Unit) = {()} from rfl, bigSep_singleton]
  have e : ∀ h : Fin 4, bigSep Finset.univ (fun x : Fin 2 × Dev nD => Φ (.inr (.inr (h, x))))
      = iprop((Φ (kCh h 0 c) ∗ bigSep Finset.univ fun j => Φ (kCh h 0 (peer c j))) ∗ (Φ (kCh h 1 c) ∗ bigSep Finset.univ fun j => Φ (kCh h 1 (peer c j)))) := fun h => by
    rw [bigSep_univ_prod, bigSep_fin_two]
    exact congrArg₂ BI.sep (bigSep_peers c fun p => Φ (kCh h 0 p)) (bigSep_peers c fun p => Φ (kCh h 1 p))
  exact congrArg _ (congrArg _ (bigSep_congr fun h _ => e h))

/-! ## The ghost state at launch -/

/-- The duties a device pays, each counted at the device that pays it: a barrier unit to each peer, its weight copies by round, parity and
    matrix, and on every channel its own sending cell and the peer's receiving cell. -/
abbrev Tok : Type := Fin 7 ⊕ (Fin 2 × Fin 2 × Fin 2) ⊕ (Fin 4 × Fin 7) ⊕ (Fin 4 × Fin 7)

def tokOf : Dev nD × Tok → GSem nD τ sig × ℕ × Dev nD
  | (c, .inl j) => (cell (peer c j) kBar, 0, c)
  | (c, .inr (.inl (r, a, b))) => (cell c (kW a b), r.val, c)
  | (c, .inr (.inr (.inl (h, j)))) => (cell c (kCh h 0 (peer c j)), 0, c)
  | (c, .inr (.inr (.inr (h, j)))) => (cell (peer c j) (kCh h 1 c), 0, c)

theorem tokOf_duty (x : Dev nD × Tok) : (tokOf x).2.2 = x.1 := by
  rcases x with ⟨c, j | ⟨r, a, b⟩ | ⟨h, j⟩ | ⟨h, j⟩⟩ <;> rfl

theorem tokOf_inj : Function.Injective tokOf := by
  rintro ⟨c, t⟩ ⟨c', t'⟩ hh
  obtain rfl : c = c' := by have := congrArg (fun x : GSem nD τ sig × ℕ × Dev nD => x.2.2) hh; simpa only [tokOf_duty] using this
  have h1 := congrArg (fun x : GSem nD τ sig × ℕ × Dev nD => x.1) hh
  have h2 := congrArg (fun x : GSem nD τ sig × ℕ × Dev nD => x.2.1) hh
  rcases t with j | ⟨r, a, b⟩ | ⟨h, j⟩ | ⟨h, j⟩ <;> rcases t' with j' | ⟨r', a', b'⟩ | ⟨h', j'⟩ | ⟨h', j'⟩ <;>
    simp only [tokOf] at h1 h2 <;> obtain ⟨e1, e2⟩ := cell_inj h1 <;>
    simp only [kBar, kW, kCh, Sum.inr.injEq, Sum.inl.injEq, Prod.mk.injEq, reduceCtorEq] at e2
  · rw [peer_inj c e1]
  · obtain ⟨rfl, rfl⟩ := e2; rw [Fin.ext h2]
  · obtain ⟨rfl, -, e⟩ := e2; rw [peer_inj c e]
  · exact absurd e2.2.1 (by decide)
  · exact absurd e2.2.1 (by decide)
  · obtain ⟨rfl, -, -⟩ := e2; rw [peer_inj c e1]

theorem cells_inj : Function.Injective (fun x : Dev nD × Key => cell x.1 x.2) := fun x y h => Prod.ext (cell_inj h).1 (cell_inj h).2

def ringCells : Finset (GSem nD τ sig) := Finset.univ.map ⟨fun x : Dev nD × Key => cell x.1 x.2, cells_inj⟩
def ringToks : Finset (GSem nD τ sig × ℕ × Dev nD) := Finset.univ.map ⟨tokOf, tokOf_inj⟩

def u₀ : UU :=
  (initOf (Pipeline.cells cfgs cellOf_inj) (Pipeline.launchToks cfgs cellOf_inj), initOf ringCells ringToks)

def toks (c : Dev nD) : sProp 𝕄 := bigSep Finset.univ fun t : Tok => dutyTok ER (tokOf (c, t)).1 (tokOf (c, t)).2.1 (tokOf (c, t)).2.2

/-- The duties of a device, by what they pay for. -/
theorem toks_split (c : Dev nD) : toks (F := F) c
    = iprop((bigSep Finset.univ fun j => dutyTok ER (cell (peer c j) kBar) 0 c) ∗ ((wtok c 0 ∗ wtok c 1) ∗ (wtok c 2 ∗ wtok c 3))
      ∗ bigSep Finset.univ fun h => bigSep Finset.univ (TK c h)) := by
  have e : iprop((bigSep Finset.univ fun x : Fin 4 × Fin 7 => dutyTok ER (cell c (kCh x.1 0 (peer c x.2))) 0 c)
      ∗ bigSep Finset.univ fun x : Fin 4 × Fin 7 => dutyTok ER (cell (peer c x.2) (kCh x.1 1 c)) 0 c) = bigSep Finset.univ fun h => bigSep Finset.univ (TK (F := F) c h) := by
    rw [← bigSep_sep', bigSep_univ_prod]; rfl
  have e' (Φ : Fin 2 × Fin 2 × Fin 2 → sProp 𝕄) : bigSep Finset.univ Φ = iprop(((Φ (0, 0, 0) ∗ Φ (0, 0, 1)) ∗ (Φ (0, 1, 0) ∗ Φ (0, 1, 1)))
      ∗ ((Φ (1, 0, 0) ∗ Φ (1, 0, 1)) ∗ (Φ (1, 1, 0) ∗ Φ (1, 1, 1)))) := by
    rw [bigSep_univ_prod, bigSep_fin_two, bigSep_univ_prod, bigSep_univ_prod, bigSep_fin_two, bigSep_fin_two, bigSep_fin_two, bigSep_fin_two, bigSep_fin_two, bigSep_fin_two]; rfl
  unfold toks
  rw [bigSep_univ_sum, bigSep_univ_sum, bigSep_univ_sum, e', ← e]
  rfl

/-- What the launch deals device `c`: its cells' round states, its positions, and the duties it pays. -/
def G (c : Dev nD) : sProp 𝕄 :=
  iprop((bigSep Finset.univ fun k : Key => roundState ER (Rd m) (cell c k) 0)
    ∗ (bigSep Finset.univ fun k : Key => iprop(atPos ER (cell c k) 0 ∅ 0 ∗ reached ER (cell c k) 0)) ∗ toks c)

/-- The records of every device's cells, their levels apart. -/
def recs (K : Dev nD × Key → ℕ) : sProp 𝕄 :=
  bigSep Finset.univ fun x : Dev nD × Key => iprop(cellInv ER (Rd m) (K x) (cell x.1 x.2) ∗ reached ER (cell x.1 x.2) 0)

instance recs_persistent (K : Dev nD × Key → ℕ) : BI.Persistent (recs m K) := by unfold recs; infer_instance

def linear (c : Dev nD) : sProp 𝕄 := iprop((bigSep Finset.univ fun k : Key => atPos ER (cell c k) 0 ∅ 0) ∗ toks c)
def G' (c : Dev nD) : sProp 𝕄 := iprop(∃ K, recs m K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Key => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The semaphores -/

/-- The kernel's own semaphores: the protocol's but the barrier. -/
def osem : ((Fin 2 × Fin 2) ⊕ (Fin 4 × Fin 2 × Dev nD)) → SemLoc sig := fun k => semOf (.inr k)

theorem unscopedSems0_eq (c : Dev nD) : (unscopedSems0 c : sProp 𝕄) = semVal (cell c kBar) 0 := by
  unfold unscopedSems0; rw [bigSep_eq_bigSepL_of_eq [SemLoc.reg barS] (by decide) (by decide)]; rfl

theorem sems_eq (c : Dev nD) :
    iprop(unscopedSems0 c ∗ Pipeline.ownSems0 (Ix := Unit) (Name := ℕ) (U := UU) (Lvl := ℕ) (Val := Elt F) (τ := τ) osem c)
      = (bigSep Finset.univ fun k : Key => semVal (cell c k) 0 : sProp 𝕄) := by
  rw [unscopedSems0_eq, bigSep_univ_sum, show (Finset.univ : Finset Unit) = {()} from rfl, bigSep_singleton]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k : Key => iprop(atPos ER (cell c k) 0 ∅ 0 ∗ reached ER (cell c k) 0)) ∗ toks c) := by
  unfold G
  iintro ⟨Hos, Hus, Hst, Hat, Htok⟩
  ihave Hv := (Entails.of_eq (sems_eq (F := F) c)) $$ [Hos Hus]
  · isplitl [Hus] <;> iassumption
  imod (show iprop((bigSep Finset.univ fun k : Key => semVal (cell c k) 0) ∗ bigSep Finset.univ fun k : Key => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (cell c k)))
          ∗ (bigSep Finset.univ fun k : Key => iprop(atPos ER (cell c k) 0 ∅ 0 ∗ reached ER (cell c k) 0)) ∗ toks c) : sProp 𝕄)
      ⊢ bigSep Finset.univ (G' m) := by
  rw [bigSep_sep', bigSep_sep', ← bigSep_univ_prod (fun x : Dev nD × Key => iprop(∃ κ : ℕ, cellInv ER (Rd m) κ (cell x.1 x.2))),
    bigSep_congr (s := Finset.univ) (fun (c : Dev nD) _ => bigSep_sep' Finset.univ (fun k : Key => (atPos ER (cell c k) 0 ∅ 0 : sProp 𝕄)) (fun k => reached ER (cell c k) 0)),
    bigSep_sep', ← bigSep_univ_prod (fun x : Dev nD × Key => (reached ER (cell x.1 x.2) 0 : sProp 𝕄))]
  iintro ⟨HI, ⟨Hat, #HR⟩, Htok⟩
  ihave HK := (BI.bigSep_exists_pi Finset.univ (fun (x : Dev nD × Key) (κ : ℕ) => (cellInv ER (Rd m) κ (cell x.1 x.2) : sProp 𝕄))) $$ HI
  icases HK with ⟨%K, #HI⟩
  iapply (bigSep_with_persistent (R := recs m K) (Φ := linear) fun c _ => show iprop(recs m K ∗ linear c) ⊢ G' m c from by
    unfold G'; iintro H; iexists K; iexact H)
  isplitr
  · unfold recs; rw [bigSep_sep']; isplitl; · iexact HI
    iexact HR
  · unfold linear; rw [bigSep_sep']
    isplitl [Hat]; · iexact Hat
    iexact Htok

/-- The launch's one step over all devices: every cell's invariant allocated. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

abbrev O₀ (c : Dev nD) : CellTallies nD τ sig Unit := Ow c 0 ![0, 0, 0, 0]

theorem count_bar : ∀ c : Dev nD, (∑ d : Dev nD, ∑ j : Fin 7, if peer d j = c then 1 else 0) = 7 := by decide
theorem count_ch : ∀ (c : Dev nD) (i : Fin 7), (∑ d : Dev nD, ∑ j : Fin 7, if peer d j = c ∧ peer c i = d then 1 else 0) = 1 := by decide

theorem all_from : (Finset.univ.filter fun j : Fin 7 => 0 ≤ j.val) = Finset.univ := by decide

theorem O₀_eq (c : Dev nD) : O₀ c = (∑ j : Fin 7, tallyAt (cell (peer c j) kBar) () 1) + ∑ h : Fin 4, ∑ j : Fin 7, tallyAt (cell (peer c j) (kCh h 1 c)) () (NC h) := by
  have e : ∀ h : Fin 4, (![0, 0, 0, 0] : Fin 4 → ℕ) h = 0 := by decide
  unfold O₀ Ow; simp only [e, all_from]

theorem owed_bar (d c : Dev nD) : O₀ d (cell c kBar) () = ∑ j : Fin 7, if peer d j = c then 1 else 0 := by
  rw [O₀_eq, Pi.add_apply, Finsupp.add_apply, Finset.sum_apply, Finsupp.finset_sum_apply, Finset.sum_apply, Finsupp.finset_sum_apply,
    Finset.sum_eq_zero (s := Finset.univ) (f := fun h : Fin 4 => (∑ j : Fin 7, tallyAt (cell (peer d j) (kCh h 1 d)) () (NC h) : CellTallies nD τ sig Unit) (cell c kBar) ()) fun h _ => by
      rw [Finset.sum_apply, Finsupp.finset_sum_apply]
      exact Finset.sum_eq_zero fun j _ => by rw [tallyAt_apply, if_neg fun hg => by cases (cell_inj hg.1).2]]
  rw [Nat.add_zero]
  refine Finset.sum_congr rfl fun j _ => ?_
  rw [tallyAt_apply]
  exact if_congr ⟨fun h => (cell_inj h.1).1.symm, fun h => ⟨by rw [h], rfl⟩⟩ rfl rfl

theorem owed_ch (d c : Dev nD) (x : Fin 4) (i : Fin 7) :
    O₀ d (cell c (kCh x 1 (peer c i))) () = ∑ j : Fin 7, if peer d j = c ∧ peer c i = d then NC x else 0 := by
  rw [O₀_eq, Pi.add_apply, Finsupp.add_apply, Finset.sum_apply, Finsupp.finset_sum_apply, Finset.sum_apply, Finsupp.finset_sum_apply,
    Finset.sum_eq_zero (s := Finset.univ) (f := fun j : Fin 7 => (tallyAt (cell (peer d j) kBar) () 1 : CellTallies nD τ sig Unit) (cell c (kCh x 1 (peer c i))) ()) fun j _ => by
      rw [tallyAt_apply, if_neg fun hg => by cases (cell_inj hg.1).2],
    Finset.sum_eq_single x (fun h _ hh => by
      rw [Finset.sum_apply, Finsupp.finset_sum_apply]
      refine Finset.sum_eq_zero fun j _ => ?_
      rw [tallyAt_apply, if_neg fun hg => hh ?_]
      have := (cell_inj hg.1).2
      simp only [kCh, Sum.inr.injEq, Prod.mk.injEq] at this
      exact this.1.symm) (fun h => absurd (Finset.mem_univ _) h)]
  rw [Nat.zero_add, Finset.sum_apply, Finsupp.finset_sum_apply]
  refine Finset.sum_congr rfl fun j _ => ?_
  rw [tallyAt_apply]
  refine if_congr ⟨fun h => ?_, fun h => ⟨by rw [h.1, h.2], rfl⟩⟩ rfl rfl
  obtain ⟨e1, e2⟩ := cell_inj h.1
  simp only [kCh, Sum.inr.injEq, Prod.mk.injEq] at e2
  exact ⟨e1.symm, e2.2.2⟩

theorem launch_bar (c : Dev nD) : tallyOn (cell c kBar) (launchCredit (Pipeline.owing O₀) 0 (cell c kBar)) = (tallyAt (cell c kBar) () 7 : CellTallies nD τ sig Unit) := by
  unfold tallyAt; refine congrArg _ (Finsupp.ext fun u => ?_); cases u
  rw [Pipeline.launchCredit_owing, Finsupp.single_eq_same, Finset.sum_congr rfl fun d _ => owed_bar d c]
  exact count_bar c

theorem launch_ch (c : Dev nD) (x : Fin 4) (i : Fin 7) : tallyOn (cell c (kCh x 1 (peer c i))) (launchCredit (Pipeline.owing O₀) 0 (cell c (kCh x 1 (peer c i))))
    = (tallyAt (cell c (kCh x 1 (peer c i))) () (NC x) : CellTallies nD τ sig Unit) := by
  unfold tallyAt; refine congrArg _ (Finsupp.ext fun u => ?_); cases u
  rw [Pipeline.launchCredit_owing, Finsupp.single_eq_same, Finset.sum_congr rfl fun d _ => owed_ch d c x i]
  have h := congrArg (fun n => n * NC x) (count_ch c i)
  simp only [Finset.sum_mul, ite_mul, one_mul, zero_mul] at h
  exact h

theorem sep_snd {A B : sProp 𝕄} : iprop(A ∗ B) ⊢ B := by
  iintro ⟨-, H⟩; iexact H

/-- The credit of a device at launch: its barrier's seven units and each receiving cell's transfer. -/
theorem creds (c : Dev nD) : (Pipeline.launchCred O₀ c : sProp 𝕄)
    ⊢ iprop(cred (tallyAt (cell c kBar) () 7) ∗ bigSep Finset.univ fun h : Fin 4 => bigSep Finset.univ fun j : Fin 7 => cred (tallyAt (cell c (kCh h 1 (peer c j))) () (NC h))) := by
  have h1 : (Pipeline.launchCred O₀ c : sProp 𝕄) ⊢ bigSep Finset.univ fun k : Key => cred (tallyOn (cell c k) (launchCredit (Pipeline.owing O₀) 0 (cell c k))) := by
    unfold Pipeline.launchCred
    have h0 : bigSep (Finset.univ.map ⟨semOf, semOf_inj⟩) (fun sm => (cred (tallyOn ((c : Thread nD τ), sm) (launchCredit (Pipeline.owing O₀) 0 ((c : Thread nD τ), sm))) : sProp 𝕄))
        = bigSep Finset.univ fun k : Key => cred (tallyOn (cell c k) (launchCredit (Pipeline.owing O₀) 0 (cell c k))) := by rw [bigSep_map]; rfl
    rw [← h0]; exact bigSep_subset (Finset.subset_univ _)
  refine h1.trans ?_
  rw [keys_split c, launch_bar]
  refine sep_mono_right ?_
  refine sep_snd.trans (bigSep_mono fun h _ => ?_)
  refine (sep_snd.trans sep_snd).trans (bigSep_mono fun j _ => ?_)
  exact Entails.of_eq (congrArg cred (launch_ch c h j))

/-! ### Closing the cells -/

/-- The round each cell ends in. -/
def kEnd (c : Dev nD) : Key → ℕ
  | .inl _ => 1
  | .inr (.inl _) => 2
  | .inr (.inr (_, _, p)) => if p = c then 0 else 1

theorem kEnd_done (c : Dev nD) (k : Key) (r : ℕ) (h : kEnd c k ≤ r) : (Rd (F := F) m).duties (cell c k) r = ∅ := by
  rw [Rd_duties]
  rcases k with _ | ⟨a, b⟩ | ⟨x, i, p⟩
  · exact if_neg (by simp only [kEnd] at h; omega)
  · exact if_neg (by simp only [kEnd] at h; omega)
  · refine if_neg ?_
    simp only [kEnd] at h
    rintro ⟨rfl, hp⟩
    rw [if_neg hp] at h
    omega

/-- With every cell of the device past its last round, the device's counters are its own again, at zero. -/
theorem close_all (K : Dev nD × Key → ℕ) (c : Dev nD) :
    records m K ⊢ iprop((bigSep Finset.univ fun k : Key => atPos ER (cell c k) (kEnd c k) ∅ 0) -∗ |={Set.univ}=> bigSep Finset.univ fun k : Key => semVal (cell c k) 0) := by
  iintro #HR Hat
  iapply (bigSep_fupd Finset.univ fun k : Key => (semVal (cell c k) 0 : sProp 𝕄))
  iapply (bigSep_with_persistent (R := records m K) (Φ := fun k : Key => atPos ER (cell c k) (kEnd c k) ∅ 0) fun k _ => show _ ⊢ iprop(|={Set.univ}=> semVal (cell c k) 0) from by
    iintro ⟨#HR, Hat⟩
    iapply (Rounds.cell_close ER (Rd m) (κ := K (c, k)) (Set.mem_univ _) (fun h => h) (R := kEnd c k) (fun r hr => kEnd_done m c k r hr))
    isplitr; · iapply (rec_inv m K c k); iexact HR
    iexact Hat)
  isplitr; · iexact HR
  iexact Hat

end Cert.KernelIdeal.Moe
-- ==== Proof.Parts.lean ====
/- Buffers divided into slots and put together again, and a device's positions by cell. -/
module

public import proofs.«01_k».proof.Proof.Ghost

@[expose] public section

set_option pp.maxSteps 250

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

/-! ## Buffers and slots -/

theorem slots_of {n : ℕ} {ℓ : Loc nD τ sig} (I : Fin n → Finset (Idx ℓ)) (hd : ∀ p p', p ≠ p' → Disjoint (I p) (I p')) (hc : Finset.univ.biUnion I = Finset.univ) :
    (iprop(∃ f, ℓ ↦{fullShare} f) : sProp 𝕄) ⊢ bigSep Finset.univ fun p => iprop(∃ f, ℓ ↦[I p]{fullShare} f) := by
  iintro ⟨%f, H⟩
  ihave H := (Entails.of_eq (Ring.pointsTo_blocks I hd hc f)) $$ H
  have e : (bigSep Finset.univ fun p => (ℓ ↦[I p]{fullShare} f : sProp 𝕄)) ⊢ bigSep Finset.univ fun p => iprop(∃ f, ℓ ↦[I p]{fullShare} f) :=
    bigSep_mono fun p _ => show (ℓ ↦[I p]{fullShare} f : sProp 𝕄) ⊢ iprop(∃ f, ℓ ↦[I p]{fullShare} f) from by iintro H; iexists f; iexact H
  iapply e
  iexact H

section Slots
variable (c : Dev nD)

theorem land_intro : iprop((∃ f, (c : Thread nD τ).loc cc0_scratch1 ↦{fullShare} f) ∗ (∃ f, (c : Thread nD τ).loc cc0_scratch2 ↦{fullShare} f)
      ∗ (∃ f, (c : Thread nD τ).loc cc0_scratch4 ↦{fullShare} f) ∗ ∃ f, (c : Thread nD τ).loc cc0_scratch7 ↦{fullShare} f)
    ⊢ bigSep Finset.univ (fun h : Fin 4 => bigSep Finset.univ fun p => landAny (F := F) c h p) := by
  rw [four]
  iintro ⟨H0, H1, H2, H3⟩
  isplitl [H0]; · iapply (slots_of (ℓ := (c : Thread nD τ).loc cc0_scratch1) (fun p : Fin 8 => (slotR 8 128 1024 p).set) slot_disj slot_cover); iexact H0
  isplitl [H1]; · iapply (slots_of (ℓ := (c : Thread nD τ).loc cc0_scratch2) (fun p : Fin 8 => (slotR 8 4 1024 p).set) slot_disj slot_cover); iexact H1
  isplitl [H2]; · iapply (slots_of (ℓ := (c : Thread nD τ).loc cc0_scratch4) (fun p : Fin 8 => (slotR 8 128 32 p).set) slot_disj slot_cover); iexact H2
  iapply (slots_of (ℓ := (c : Thread nD τ).loc cc0_scratch7) (fun p : Fin 8 => (slotR 8 128 1024 p).set) slot_disj slot_cover); iexact H3

theorem ac_intro : iprop(∃ f, (c : Thread nD τ).loc cc0_scratch5 ↦{fullShare} f) ⊢ bigSep Finset.univ fun p => iprop(∃ f, acP (F := F) c p fullShare f) :=
  slots_of (ℓ := (c : Thread nD τ).loc cc0_scratch5) (fun p : Fin 8 => (slotR 8 128 1024 p).set) slot_disj slot_cover
theorem ab_intro : iprop(∃ f, (c : Thread nD τ).loc cc0_scratch6 ↦{fullShare} f) ⊢ bigSep Finset.univ fun p => iprop(∃ f, abP (F := F) c p fullShare f) :=
  slots_of (ℓ := (c : Thread nD τ).loc cc0_scratch6) (fun p : Fin 8 => (slotR 8 128 1024 p).set) slot_disj slot_cover
theorem ab_elim : bigSep Finset.univ (fun p => iprop(∃ f, abP (F := F) c p fullShare f)) ⊢ iprop(∃ f, (c : Thread nD τ).loc cc0_scratch6 ↦{fullShare} f) :=
  Ring.pointsTo_blocks_join_exists (ℓ := (c : Thread nD τ).loc cc0_scratch6) (fun p : Fin 8 => (slotR 8 128 1024 p).set) slot_disj slot_cover (fun _ => FloatOps.ofBits .bf16 0)
theorem rb_elim : bigSep Finset.univ (fun p => iprop(∃ f, rbP (F := F) c p fullShare f)) ⊢ iprop(∃ f, (c : Thread nD τ).loc cc0_scratch7 ↦{fullShare} f) :=
  Ring.pointsTo_blocks_join_exists (ℓ := (c : Thread nD τ).loc cc0_scratch7) (fun p : Fin 8 => (slotR 8 128 1024 p).set) slot_disj slot_cover (fun _ => FloatOps.ofBits .bf16 0)

theorem free_intro : iprop((∃ f, (c : Thread nD τ).loc cc0_scratch8 ↦{fullShare} f) ∗ ∃ f, (c : Thread nD τ).loc cc0_scratch9 ↦{fullShare} f)
    ⊢ iprop(free (F := F) c 0 ∗ free c 1) := by
  iintro ⟨H1, H2⟩
  ihave H1 := (show _ ⊢ iprop((∃ f, b1P (F := F) c 0 f) ∗ ∃ f, b1P c 1 f) from (slots_of (ℓ := (c : Thread nD τ).loc cc0_scratch8) (fun p : Fin 2 => (slotR 2 1024 2048 p).set) slot_disj slot_cover).trans (Entails.of_eq (bigSep_fin_two _))) $$ H1
  ihave H2 := (show _ ⊢ iprop((∃ f, b2P (F := F) c 0 f) ∗ ∃ f, b2P c 1 f) from (slots_of (ℓ := (c : Thread nD τ).loc cc0_scratch9) (fun p : Fin 2 => (slotR 2 2048 1024 p).set) slot_disj slot_cover).trans (Entails.of_eq (bigSep_fin_two _))) $$ H2
  icases H1 with ⟨Ha, Hb⟩
  icases H2 with ⟨Hc, Hd⟩
  unfold free
  isplitl [Ha Hc]
  · isplitl [Ha] <;> iassumption
  isplitl [Hb] <;> iassumption
theorem b1_elim : iprop((∃ f, b1P (F := F) c 0 f) ∗ ∃ f, b1P c 1 f) ⊢ iprop(∃ f, (c : Thread nD τ).loc cc0_scratch8 ↦{fullShare} f) :=
  (Entails.of_eq (bigSep_fin_two fun a : Fin 2 => iprop(∃ f, b1P (F := F) c a f)).symm).trans
    (Ring.pointsTo_blocks_join_exists (ℓ := (c : Thread nD τ).loc cc0_scratch8) (fun p : Fin 2 => (slotR 2 1024 2048 p).set) slot_disj slot_cover (fun _ => FloatOps.ofBits .f32 0))
theorem b2_elim : iprop((∃ f, b2P (F := F) c 0 f) ∗ ∃ f, b2P c 1 f) ⊢ iprop(∃ f, (c : Thread nD τ).loc cc0_scratch9 ↦{fullShare} f) :=
  (Entails.of_eq (bigSep_fin_two fun a : Fin 2 => iprop(∃ f, b2P (F := F) c a f)).symm).trans
    (Ring.pointsTo_blocks_join_exists (ℓ := (c : Thread nD τ).loc cc0_scratch9) (fun p : Fin 2 => (slotR 2 2048 1024 p).set) slot_disj slot_cover (fun _ => FloatOps.ofBits .f32 0))

/-- The two weight arguments are the four experts' slices. -/
theorem args_eq : iprop(((c : Thread nD τ).loc main_arg2 ↦{fullShare} m ((c : Thread nD τ).loc main_arg2)) ∗ ((c : Thread nD τ).loc main_arg3 ↦{fullShare} m ((c : Thread nD τ).loc main_arg3)))
    = iprop(sl m c 0 ∗ sl m c 1 ∗ sl m c 2 ∗ sl m c 3) := by
  rw [Ring.pointsTo_blocks (ℓ := (c : Thread nD τ).loc main_arg2) (fun p : Fin 4 => (slotR 4 1024 2048 p).set) slot_disj slot_cover,
    Ring.pointsTo_blocks (ℓ := (c : Thread nD τ).loc main_arg3) (fun p : Fin 4 => (slotR 4 2048 1024 p).set) slot_disj slot_cover, ← bigSep_sep', four]
  rfl

theorem mp_elim (e : ℕ) : bigSep Finset.univ (MP m c e) ⊢ iprop((∃ f, (c : Thread nD τ).loc cc0_scratch1 ↦{fullShare} f) ∗ (∃ f, (c : Thread nD τ).loc cc0_scratch4 ↦{fullShare} f)
    ∗ ∃ f, (c : Thread nD τ).loc cc0_scratch5 ↦{fullShare} f) := by
  have e1 : bigSep Finset.univ (MP m c e) = iprop(((bigSep Finset.univ fun p => xfP c p fullShare (XF m)) ∗ (bigSep Finset.univ fun p => wbP c p fullShare (WB m)))
      ∗ bigSep Finset.univ fun p => acP c p fullShare (stack (n := 8) (a := 128) (b := 1024) (acc m c e))) := by
    rw [← bigSep_sep', ← bigSep_sep']; rfl
  have hx := Ring.pointsTo_blocks (Ix := Unit) (Name := ℕ) (U := UU) (Lvl := ℕ) (q := fullShare) (ℓ := (c : Thread nD τ).loc cc0_scratch1) (fun p : Fin 8 => (slotR 8 128 1024 p).set) slot_disj slot_cover (XF m)
  have hw := Ring.pointsTo_blocks (Ix := Unit) (Name := ℕ) (U := UU) (Lvl := ℕ) (q := fullShare) (ℓ := (c : Thread nD τ).loc cc0_scratch4) (fun p : Fin 8 => (slotR 8 128 32 p).set) slot_disj slot_cover (WB m)
  have ha := Ring.pointsTo_blocks (Ix := Unit) (Name := ℕ) (U := UU) (Lvl := ℕ) (q := fullShare) (ℓ := (c : Thread nD τ).loc cc0_scratch5) (fun p : Fin 8 => (slotR 8 128 1024 p).set) slot_disj slot_cover
    (stack (n := 8) (a := 128) (b := 1024) (acc m c e))
  rw [e1]
  iintro ⟨⟨H1, H2⟩, H3⟩
  isplitl [H1]; · iexists (XF m); iapply (Entails.of_eq hx.symm); iexact H1
  isplitl [H2]; · iexists (WB m); iapply (Entails.of_eq hw.symm); iexact H2
  iexists (stack (n := 8) (a := 128) (b := 1024) (acc m c e)); iapply (Entails.of_eq ha.symm); iexact H3

/-! ## Positions -/

/-- Where the device stands at the cells that carry its own number, which nobody uses. -/
def ownP (h : Fin 4) : sProp 𝕄 := iprop(atPos ER (cell c (kCh h 0 c)) 0 ∅ 0 ∗ atPos ER (cell c (kCh h 1 c)) 0 ∅ 0)

theorem shuffle4 {A B C D : Fin 4 → sProp 𝕄} : bigSep Finset.univ (fun h => iprop((A h ∗ B h) ∗ (C h ∗ D h)))
    ⊢ iprop((bigSep Finset.univ fun h => iprop(A h ∗ C h)) ∗ (bigSep Finset.univ B) ∗ bigSep Finset.univ D) := by
  simp only [bigSep_sep']
  iintro ⟨⟨HA, HB⟩, HC, HD⟩
  isplitl [HA HC]
  · isplitl [HA] <;> iassumption
  isplitl [HB] <;> iassumption
theorem shuffle4' {A B C D : Fin 4 → sProp 𝕄} : iprop((bigSep Finset.univ fun h => iprop(A h ∗ C h)) ∗ (bigSep Finset.univ B) ∗ bigSep Finset.univ D)
    ⊢ bigSep Finset.univ (fun h => iprop((A h ∗ B h) ∗ (C h ∗ D h))) := by
  simp only [bigSep_sep']
  iintro ⟨⟨HA, HC⟩, HB, HD⟩
  isplitl [HA HB]
  · isplitl [HA] <;> iassumption
  isplitl [HC] <;> iassumption

theorem pos_split : (bigSep Finset.univ fun k : Key => atPos ER (cell c k) 0 ∅ 0 : sProp 𝕄)
    ⊢ iprop(atPos ER (cell c kBar) 0 ∅ 0 ∗ (wpos c 0 0 ∗ wpos c 1 0) ∗ (bigSep Finset.univ (ownP c)) ∗ (bigSep Finset.univ fun h => bigSep Finset.univ (SA c h 0))
      ∗ bigSep Finset.univ fun h => bigSep Finset.univ (RA c h 0)) := by
  rw [keys_split c]
  exact sep_mono_right (sep_mono_right shuffle4)

theorem kEnd_ch (h : Fin 4) (i : Fin 2) (j : Fin 7) : kEnd c (kCh h i (peer c j)) = 1 := if_neg (peer_ne c j)
theorem kEnd_own (h : Fin 4) (i : Fin 2) : kEnd c (kCh h i c) = 0 := if_pos rfl

theorem pos_join : iprop(atPos ER (cell c kBar) 1 ∅ 0 ∗ (wpos c 4 2 ∗ wpos c 3 2) ∗ (bigSep Finset.univ (ownP c)) ∗ (bigSep Finset.univ fun h => bigSep Finset.univ (SA c h 1))
      ∗ bigSep Finset.univ fun h => bigSep Finset.univ (RA c h 1))
    ⊢ (bigSep Finset.univ fun k : Key => atPos ER (cell c k) (kEnd c k) ∅ 0 : sProp 𝕄) := by
  rw [keys_split c]
  simp only [kEnd_ch, kEnd_own]
  exact sep_mono_right (sep_mono_right shuffle4')

theorem rp_all : iprop((bigSep Finset.univ fun h : Fin 4 => bigSep Finset.univ fun j : Fin 7 => cred (tallyAt (cell c (kCh h 1 (peer c j))) () (NC h)))
      ∗ bigSep Finset.univ fun h => bigSep Finset.univ (RA (F := F) c h 0)) = bigSep Finset.univ fun h => bigSep Finset.univ (RP (F := F) c h) := by
  rw [← bigSep_sep']
  exact bigSep_congr fun h _ => by rw [← bigSep_sep']; rfl

end Slots

theorem idle_intro (K : Dev nD × Key → ℕ) (c : Dev nD) (e : ℕ) (he : e / 2 = 0) : records m K ⊢ iprop(wpos c e 0 -∗ free c (par e) -∗ idle c e) := by
  unfold idle
  rw [he]
  unfold wrch
  iintro #HR Hp Hf
  isplitl [Hp]; · iexact Hp
  isplitr [Hf]
  · isplitr
    · iapply (rec_reached m K c (kW (par e) 0)); iexact HR
    · iapply (rec_reached m K c (kW (par e) 1)); iexact HR
  iexact Hf

end Cert.KernelIdeal.Moe
-- ==== Proof.BodyFirst.lean ====
/- The kernel's body at the first grid point. -/
module

public import proofs.«01_k».proof.Proof.First

@[expose] public section

set_option pp.maxSteps 250
noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

variable (K : Dev nD × Key → ℕ) (c : Dev nD)

set_option maxHeartbeats 4000000 in
/-- The body at the first grid point. -/
theorem body_first (i : grid0.Coords) (hi : (i 0).val = 0) (q₁ q₂ : PosShare TreeShare) (Kt : PUnit → sProp 𝕄) :
    records m K ⊢ iprop(idle c 0 -∗ idle c 1 -∗ wtok c 0 -∗ wtok c 1 -∗ sl m c 0 -∗ sl m c 1
      -∗ ((c : Thread nD τ).loc cc0_stg0_0 ↦{q₁} xin m c) -∗ ((c : Thread nD τ).loc cc0_stg1_0 ↦{q₂} rin m c)
      -∗ (∃ f, xbP c fullShare f) -∗ (∃ f, rsP c fullShare f)
      -∗ (bigSep Finset.univ fun h : Fin 4 => bigSep Finset.univ fun p => landAny (F := F) c h p)
      -∗ bigSep Finset.univ (fun p => iprop(∃ f, acP c p fullShare f))
      -∗ bigSep Finset.univ (fun j => (dutyTok ER (cell (peer c j) kBar) 0 c : sProp 𝕄)) -∗ cred (tallyAt (cell c kBar) () 7) -∗ atPos ER (cell c kBar) 0 ∅ 0
      -∗ (bigSep Finset.univ fun h => bigSep Finset.univ (TK c h))
      -∗ bigSep Finset.univ (RP c 0) -∗ bigSep Finset.univ (RP c 1) -∗ bigSep Finset.univ (RP c 2)
      -∗ bigSep Finset.univ (SA c 0 0) -∗ bigSep Finset.univ (SA c 1 0) -∗ bigSep Finset.univ (SA c 2 0)
      -∗ ow c 0 ![0, 0, 0, 0]
      -∗ (flight c 1 -∗ idle c 2 -∗ sl m c 0
        -∗ ((c : Thread nD τ).loc cc0_stg0_0 ↦{q₁} xin m c) -∗ ((c : Thread nD τ).loc cc0_stg1_0 ↦{q₂} rin m c)
        -∗ bigSep Finset.univ (MP m c 0) -∗ (∃ f, xbP c fullShare f) -∗ (∃ f, rsP c fullShare f) -∗ (∃ f, (c : Thread nD τ).loc cc0_scratch2 ↦{fullShare} f)
        -∗ bigSep Finset.univ (DP c 3) -∗ landAny c 3 c -∗ atPos ER (cell c kBar) 1 ∅ 0
        -∗ bigSep Finset.univ (RA c 0 1) -∗ bigSep Finset.univ (RA c 1 1) -∗ bigSep Finset.univ (RA c 2 1)
        -∗ bigSep Finset.univ (SA c 0 1) -∗ bigSep Finset.univ (SA c 1 1) -∗ bigSep Finset.univ (SA c 2 1)
        -∗ ow c 7 ![7, 7, 7, 0] -∗ Kt ⟨⟩) -∗ WP c (bodyI (F := F) i) Kt) := by
  have h2 := cond2 i (by omega)
  have h3 := cond3' i hi
  have h1 : Scalar.cmpi .ne (Scalar.extui (Scalar.cmpi .eq (BitVec.ofNat 32 (i 0).val) 0#32) : BitVec 32) 0#32 = 1#1 := by rw [hi]; decide
  unfold bodyI
  simp only [cc0_body_eq_skeleton]; unfold cc0_body_skel
  simp only [Prog.lift, Prog.bind_op, Prog.bind_ret, Prog.pure_eq_ret, wp_deviceId]
  rw [dif_pos h1, dif_pos h2, dif_pos h3, dif_neg (cond4' i (by omega)), dif_neg (cond5' i (by omega))]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel
  unfold semSignalWord semWaitWord
  simp only [Prog.lift, Prog.bind_op, Prog.bind_ret, Prog.pure_eq_ret]
  iintro #HR Hi0 Hi1 Ht0 Ht1 Hsl0 Hsl1 Hx Hr ⟨%fxb, Hxb⟩ ⟨%frs, Hrs⟩ HL Hac Hbt Hbc Hba HTK Hrp0 Hr1 Hrp2 Hsa0 Hsa1 Hsa2 Ho Hk
  iapply (issue m K c 0 (by omega) rfl rfl rfl rfl rfl rfl) $$ HR Hi0 Ht0 Hsl0
  iintro Hfl
  iapply (issue m K c 1 (by omega) ((off1_eq i).trans (by rw [hi]; rfl)) ((off2_eq i).trans (by rw [hi]; rfl)) ((off3_eq i (by omega)).trans (by rw [hi]; rfl))
    ((off4_eq i).trans (by rw [hi]; rfl)) ((off5_eq i).trans (by rw [hi]; rfl)) ((off6_eq i (by omega)).trans (by rw [hi]; rfl))) $$ HR Hi1 Ht1 Hsl1
  iintro Hfl1
  ihave HL := (Entails.of_eq (land_split c)) $$ HL
  icases HL with ⟨Hown, Hbp⟩
  ihave Hown := (Entails.of_eq (four fun h => landAny c h c)) $$ Hown
  icases Hown with ⟨Hxf, Hrf, Hwb, Hrb⟩
  ihave Hb := (Entails.of_eq ((bp_join c).trans (fam_zero (BP c) BQ).symm)) $$ [Hbt Hbp]
  · isplitl [Hbt] <;> iassumption
  iapply (bar_step m K c 0 (by decide) (by exact k0_dev1_eq c)) $$ HR Hb Ho
  iintro Hb Ho
  iapply (bar_step m K c 1 (by decide) (by exact k0_dev2_eq c)) $$ HR Hb Ho
  iintro Hb Ho
  iapply (bar_step m K c 2 (by decide) (by exact k0_dev3_eq c)) $$ HR Hb Ho
  iintro Hb Ho
  iapply (bar_step m K c 3 (by decide) (by exact k0_dev4_eq c)) $$ HR Hb Ho
  iintro Hb Ho
  iapply (bar_step m K c 4 (by decide) (by exact k0_dev5_eq c)) $$ HR Hb Ho
  iintro Hb Ho
  iapply (bar_step m K c 5 (by decide) (by exact k0_dev6_eq c)) $$ HR Hb Ho
  iintro Hb Ho
  iapply (bar_step m K c 6 (by decide) (by exact k0_dev7_eq c)) $$ HR Hb Ho
  iintro Hb Ho
  iapply (bar_wait m K c) $$ HR Hbc Hba Ho
  iintro Ho Hba Hbp
  ihave HD := (Entails.of_eq (dp_join c)) $$ [Hbp HTK]
  · isplitl [Hbp] <;> iassumption
  ihave HD := (Entails.of_eq (four fun h => bigSep Finset.univ (DP c h))) $$ HD
  icases HD with ⟨HD0, HD1, HD2, HD3⟩
  -- the rows
  iapply (ldV c (Memref.whole cc0_stg0_0) (xin m c) (P := ((c : Thread nD τ).loc cc0_stg0_0 ↦{q₁} xin m c)) rfl (Memref.readAt_unit_zero (Elt F) cc0_stg0_0 hz _ _)) $$ Hx
  iintro Hx
  iapply (xb_store c (v := xbf m c)) $$ Hxb []
  · ipureintro; rfl
  iintro Hxb
  ihave Hxb := (Entails.of_eq (xb_leaves c (xbf m c))) $$ Hxb
  icases Hxb with ⟨Hxb, Hxs⟩
  ihave HT := (Entails.of_eq ((tp_join m c 0).trans (fam_zero (TP m c 0) (DQ c 0)).symm)) $$ [Hxs HD0]
  · isplitl [Hxs]
    · iexact Hxs
    iexact HD0
  iapply (x_step m K c 0 (by decide) ![0, 0, 0, 0] ![1, 0, 0, 0] (by exact k0_dev8_eq c) (k0_off7_eq c 0) (k0_off8_eq c) (k0_off9_eq c) rfl (by decide)) $$ HR HT Ho
  iintro HT Ho
  iapply (x_step m K c 1 (by decide) ![1, 0, 0, 0] ![2, 0, 0, 0] (by exact k0_dev9_eq c) (k0_off7_eq c 1) (k0_off8_eq c) (k0_off9_eq c) rfl (by decide)) $$ HR HT Ho
  iintro HT Ho
  iapply (x_step m K c 2 (by decide) ![2, 0, 0, 0] ![3, 0, 0, 0] (by exact k0_dev10_eq c) (k0_off7_eq c 2) (k0_off8_eq c) (k0_off9_eq c) rfl (by decide)) $$ HR HT Ho
  iintro HT Ho
  iapply (x_step m K c 3 (by decide) ![3, 0, 0, 0] ![4, 0, 0, 0] (by exact k0_dev11_eq c) (k0_off7_eq c 3) (k0_off8_eq c) (k0_off9_eq c) rfl (by decide)) $$ HR HT Ho
  iintro HT Ho
  iapply (x_step m K c 4 (by decide) ![4, 0, 0, 0] ![5, 0, 0, 0] (by exact k0_dev12_eq c) (k0_off7_eq c 4) (k0_off8_eq c) (k0_off9_eq c) rfl (by decide)) $$ HR HT Ho
  iintro HT Ho
  iapply (x_step m K c 5 (by decide) ![5, 0, 0, 0] ![6, 0, 0, 0] (by exact k0_dev13_eq c) (k0_off7_eq c 5) (k0_off8_eq c) (k0_off9_eq c) rfl (by decide)) $$ HR HT Ho
  iintro HT Ho
  iapply (x_step m K c 6 (by decide) ![6, 0, 0, 0] ![7, 0, 0, 0] (by exact k0_dev14_eq c) (k0_off7_eq c 6) (k0_off8_eq c) (k0_off9_eq c) rfl (by decide)) $$ HR HT Ho
  iintro HT Ho
  ihave Hs0 := (Entails.of_eq (fam_all (TP m c 0) (DQ c 0))) $$ HT
  iapply (ldV c (Memref.whole cc0_scratch0) (xbf m c) (P := xbP c (leaf 3 fullShare c) (xbf m c)) rfl (Memref.readAt_unit_zero (Elt F) cc0_scratch0 hz _ _)) $$ Hxb
  iintro Hxb
  ihave Hxf := (Entails.of_eq (show landAny (F := F) c 0 c = iprop(∃ f, xfP c c fullShare f) from rfl)) $$ Hxf
  icases Hxf with ⟨%fxf, Hxf⟩
  iapply (ld3_any (Memref.whole cc0_scratch1) c c (xfP_eq c c fullShare _) (k0_off10_eq c)) $$ Hxf
  iintro Hxf
  iapply (st3 (Memref.whole cc0_scratch1) c c (XF m) (xfP_eq c c fullShare _) (xfP_eq c c fullShare _) (rd_xf (Vx m) c) (k0_off10_eq c)) $$ Hxf
  iintro Hxf
  -- the router columns

  iapply (ldV c (Memref.whole cc0_stg1_0) (rin m c) (P := ((c : Thread nD τ).loc cc0_stg1_0 ↦{q₂} rin m c)) rfl (Memref.readAt_unit_zero (Elt F) cc0_stg1_0 hz _ _)) $$ Hr
  iintro Hr
  iapply (rs_store c (v := rst m c)) $$ Hrs []
  · ipureintro; rfl
  iintro Hrs
  iapply (ldV c (Memref.whole cc0_scratch3) (rst m c) (P := rsP c fullShare (rst m c)) rfl (Memref.readAt_unit_zero (Elt F) cc0_scratch3 hz _ _)) $$ Hrs
  iintro Hrs
  ihave Hrf := (Entails.of_eq (show landAny (F := F) c 1 c = iprop(∃ f, rfP c c fullShare f) from rfl)) $$ Hrf
  icases Hrf with ⟨%frf, Hrf⟩
  iapply (ld3_any (Memref.whole cc0_scratch2) c c (rfP_eq c c fullShare _) (k0_off11_eq c)) $$ Hrf
  iintro Hrf
  iapply (st3 (Memref.whole cc0_scratch2) c c (RF m) (rfP_eq c c fullShare _) (rfP_eq c c fullShare _) (rd_rf (Vr m) c) (k0_off11_eq c)) $$ Hrf
  iintro Hrf
  ihave Hrs := (Entails.of_eq (rs_leaves c (rst m c))) $$ Hrs
  icases Hrs with ⟨Hrs, Hrss⟩
  ihave HT := (Entails.of_eq ((tp_join m c 1).trans (fam_zero (TP m c 1) (DQ c 1)).symm)) $$ [Hrss HD1]
  · isplitl [Hrss]
    · iexact Hrss
    iexact HD1
  iapply (r_step m K c 0 (by decide) ![7, 0, 0, 0] ![7, 1, 0, 0] (by exact k0_dev15_eq c) (k0_off7_eq c 0) (k0_off8_eq c) (k0_off12_eq c) rfl (by decide)) $$ HR HT Ho
  iintro HT Ho
  iapply (r_step m K c 1 (by decide) ![7, 1, 0, 0] ![7, 2, 0, 0] (by exact k0_dev16_eq c) (k0_off7_eq c 1) (k0_off8_eq c) (k0_off12_eq c) rfl (by decide)) $$ HR HT Ho
  iintro HT Ho
  iapply (r_step m K c 2 (by decide) ![7, 2, 0, 0] ![7, 3, 0, 0] (by exact k0_dev17_eq c) (k0_off7_eq c 2) (k0_off8_eq c) (k0_off12_eq c) rfl (by decide)) $$ HR HT Ho
  iintro HT Ho
  iapply (r_step m K c 3 (by decide) ![7, 3, 0, 0] ![7, 4, 0, 0] (by exact k0_dev18_eq c) (k0_off7_eq c 3) (k0_off8_eq c) (k0_off12_eq c) rfl (by decide)) $$ HR HT Ho
  iintro HT Ho
  iapply (r_step m K c 4 (by decide) ![7, 4, 0, 0] ![7, 5, 0, 0] (by exact k0_dev19_eq c) (k0_off7_eq c 4) (k0_off8_eq c) (k0_off12_eq c) rfl (by decide)) $$ HR HT Ho
  iintro HT Ho
  iapply (r_step m K c 5 (by decide) ![7, 5, 0, 0] ![7, 6, 0, 0] (by exact k0_dev20_eq c) (k0_off7_eq c 5) (k0_off8_eq c) (k0_off12_eq c) rfl (by decide)) $$ HR HT Ho
  iintro HT Ho
  iapply (r_step m K c 6 (by decide) ![7, 6, 0, 0] ![7, 7, 0, 0] (by exact k0_dev21_eq c) (k0_off7_eq c 6) (k0_off8_eq c) (k0_off12_eq c) rfl (by decide)) $$ HR HT Ho
  iintro HT Ho
  ihave Hs1 := (Entails.of_eq (fam_all (TP m c 1) (DQ c 1))) $$ HT
  ihave Hr1 := (Entails.of_eq (fam_zero (RP c 1) (RQ m c 1)).symm) $$ Hr1
  iapply (ra_step m K c 0 (by decide) (k0_off7_eq c 0) (by rfl)) $$ HR Hr1 Ho
  iintro Hr1 Ho
  iapply (ra_step m K c 1 (by decide) (k0_off7_eq c 1) (by rfl)) $$ HR Hr1 Ho
  iintro Hr1 Ho
  iapply (ra_step m K c 2 (by decide) (k0_off7_eq c 2) (by rfl)) $$ HR Hr1 Ho
  iintro Hr1 Ho
  iapply (ra_step m K c 3 (by decide) (k0_off7_eq c 3) (by rfl)) $$ HR Hr1 Ho
  iintro Hr1 Ho
  iapply (ra_step m K c 4 (by decide) (k0_off7_eq c 4) (by rfl)) $$ HR Hr1 Ho
  iintro Hr1 Ho
  iapply (ra_step m K c 5 (by decide) (k0_off7_eq c 5) (by rfl)) $$ HR Hr1 Ho
  iintro Hr1 Ho
  iapply (ra_step m K c 6 (by decide) (k0_off7_eq c 6) (by rfl)) $$ HR Hr1 Ho
  iintro Hr1 Ho
  ihave Hr1 := (Entails.of_eq ((fam_all (RP c 1) (RQ m c 1)).trans (rq_split m c 1))) $$ Hr1
  icases Hr1 with ⟨Hra1, Hr1⟩
  ihave Hrf := (Entails.of_eq (rf_whole c (RF m))) $$ [Hrf Hr1]
  · isplitl [Hrf]
    · iexact Hrf
    iexact Hr1
  iapply (ldV c (Memref.whole cc0_scratch2) (RF m) (P := ((c : Thread nD τ).loc cc0_scratch2 ↦{fullShare} RF m)) rfl (Memref.readAt_unit_zero (Elt F) cc0_scratch2 hz3 _ _)) $$ Hrf
  iintro Hrf
  iapply (ldV c (Memref.whole cc0_stg0_0) (xin m c) (P := ((c : Thread nD τ).loc cc0_stg0_0 ↦{q₁} xin m c)) rfl (Memref.readAt_unit_zero (Elt F) cc0_stg0_0 hz _ _)) $$ Hx
  iintro Hx
  -- the gates
  ihave Hwb := (Entails.of_eq (show landAny (F := F) c 2 c = iprop(∃ f, wbP c c fullShare f) from rfl)) $$ Hwb
  icases Hwb with ⟨%fwb, Hwb⟩
  iapply (ld3_any (Memref.whole cc0_scratch4) c c (wbP_eq c c fullShare _) (k0_off14_eq c)) $$ Hwb
  iintro Hwb
  iapply (st3 (Memref.whole cc0_scratch4) c c (WB m) (wbP_eq c c fullShare _) (wbP_eq c c fullShare _) (rd_wb (Vw m) c) (k0_off14_eq c)) $$ Hwb
  iintro Hwb
  ihave Hwb := (Entails.of_eq (wb_leaves c (WB m))) $$ Hwb
  icases Hwb with ⟨Hwb, Hwbs⟩
  ihave HT := (Entails.of_eq ((tp_join m c 2).trans (fam_zero (TP m c 2) (DQ c 2)).symm)) $$ [Hwbs HD2]
  · isplitl [Hwbs]
    · iexact Hwbs
    iexact HD2
  iapply (w_step m K c 0 (by decide) ![7, 7, 0, 0] ![7, 7, 1, 0] (by exact k0_dev22_eq c) (k0_off7_eq c 0) (k0_off8_eq c) (k0_off15_eq c) rfl (by decide) (k0_off15_eq c)) $$ HR HT Ho
  iintro HT Ho
  iapply (w_step m K c 1 (by decide) ![7, 7, 1, 0] ![7, 7, 2, 0] (by exact k0_dev23_eq c) (k0_off7_eq c 1) (k0_off8_eq c) (k0_off15_eq c) rfl (by decide) (k0_off15_eq c)) $$ HR HT Ho
  iintro HT Ho
  iapply (w_step m K c 2 (by decide) ![7, 7, 2, 0] ![7, 7, 3, 0] (by exact k0_dev24_eq c) (k0_off7_eq c 2) (k0_off8_eq c) (k0_off15_eq c) rfl (by decide) (k0_off15_eq c)) $$ HR HT Ho
  iintro HT Ho
  iapply (w_step m K c 3 (by decide) ![7, 7, 3, 0] ![7, 7, 4, 0] (by exact k0_dev25_eq c) (k0_off7_eq c 3) (k0_off8_eq c) (k0_off15_eq c) rfl (by decide) (k0_off15_eq c)) $$ HR HT Ho
  iintro HT Ho
  iapply (w_step m K c 4 (by decide) ![7, 7, 4, 0] ![7, 7, 5, 0] (by exact k0_dev26_eq c) (k0_off7_eq c 4) (k0_off8_eq c) (k0_off15_eq c) rfl (by decide) (k0_off15_eq c)) $$ HR HT Ho
  iintro HT Ho
  iapply (w_step m K c 5 (by decide) ![7, 7, 5, 0] ![7, 7, 6, 0] (by exact k0_dev27_eq c) (k0_off7_eq c 5) (k0_off8_eq c) (k0_off15_eq c) rfl (by decide) (k0_off15_eq c)) $$ HR HT Ho
  iintro HT Ho
  iapply (w_step m K c 6 (by decide) ![7, 7, 6, 0] ![7, 7, 7, 0] (by exact k0_dev28_eq c) (k0_off7_eq c 6) (k0_off8_eq c) (k0_off15_eq c) rfl (by decide) (k0_off15_eq c)) $$ HR HT Ho
  iintro HT Ho
  ihave Hs2 := (Entails.of_eq (fam_all (TP m c 2) (DQ c 2))) $$ HT
  -- the first expert
  iapply (await m K c 0 (by decide) 7 ![7, 7, 7, 0] rfl rfl (by rfl) (by rfl)) $$ HR Hfl Ho
  iintro Ho Hrd
  iapply (loadw m c 0 ((off16_eq i).trans (by rw [hi]; rfl)) ((off17_eq i).trans (by rw [hi]; rfl))) $$ Hrd
  iintro Hrd
  iapply (ld3 (Memref.whole cc0_scratch1) c c (Vx m c) (xfP_eq c c fullShare (XF m)) (rd_xf (Vx m) c) (k0_off10_eq c)) $$ Hxf
  iintro Hxf
  iapply (ld3 (Memref.whole cc0_scratch4) c c (Vw m c) (wbP_eq c c (leaf 3 fullShare c) (WB m)) (rd_wb (Vw m) c) (k0_off14_eq c)) $$ Hwb
  iintro Hwb
  ihave Hac := (Entails.of_eq (bigSep_peers c (fun p => iprop(∃ f, acP c p fullShare f)))) $$ Hac
  icases Hac with ⟨⟨%fac, Hac⟩, Hacs⟩
  iapply (ld3_any (Memref.whole cc0_scratch5) c c (acP_eq c c fullShare _) (k0_off10_eq c)) $$ Hac
  iintro Hac
  iapply (st3 (Memref.whole cc0_scratch5) c c (stack (n := 8) (a := 128) (b := 1024) (acc m c 0)) (acP_eq c c fullShare _) (acP_eq c c fullShare _)
    (by exact (rd_ac _ c).trans (by rw [hi]; rfl)) (k0_off10_eq c)) $$ Hac
  iintro Hac
  ihave HF := (Entails.of_eq ((fp_join c).trans (fam_zero (FP c) (FQ m c)).symm)) $$ [Hrp0 Hrp2 Hacs]
  · isplitl [Hrp0]; · iexact Hrp0
    isplitl [Hrp2] <;> iassumption
  iapply (first_step m K c 0 (by decide) ![7, 7, 7, 0] rfl (k0_off20_eq c 0) (k0_off21_eq c 0) (k0_off20_eq c 0) (k0_off20_eq c 0) (k0_off7_eq c 0) (k0_off7_eq c 0) (by rfl) (by rfl)) $$ HR HF Ho []
  · ipureintro; rw [hi]; rfl
  iintro HF Ho
  iapply (first_step m K c 1 (by decide) ![7, 7, 7, 0] rfl (k0_off20_eq c 1) (k0_off21_eq c 1) (k0_off20_eq c 1) (k0_off20_eq c 1) (k0_off7_eq c 1) (k0_off7_eq c 1) (by rfl) (by rfl)) $$ HR HF Ho []
  · ipureintro; rw [hi]; rfl
  iintro HF Ho
  iapply (first_step m K c 2 (by decide) ![7, 7, 7, 0] rfl (k0_off20_eq c 2) (k0_off21_eq c 2) (k0_off20_eq c 2) (k0_off20_eq c 2) (k0_off7_eq c 2) (k0_off7_eq c 2) (by rfl) (by rfl)) $$ HR HF Ho []
  · ipureintro; rw [hi]; rfl
  iintro HF Ho
  iapply (first_step m K c 3 (by decide) ![7, 7, 7, 0] rfl (k0_off20_eq c 3) (k0_off21_eq c 3) (k0_off20_eq c 3) (k0_off20_eq c 3) (k0_off7_eq c 3) (k0_off7_eq c 3) (by rfl) (by rfl)) $$ HR HF Ho []
  · ipureintro; rw [hi]; rfl
  iintro HF Ho
  iapply (first_step m K c 4 (by decide) ![7, 7, 7, 0] rfl (k0_off20_eq c 4) (k0_off21_eq c 4) (k0_off20_eq c 4) (k0_off20_eq c 4) (k0_off7_eq c 4) (k0_off7_eq c 4) (by rfl) (by rfl)) $$ HR HF Ho []
  · ipureintro; rw [hi]; rfl
  iintro HF Ho
  iapply (first_step m K c 5 (by decide) ![7, 7, 7, 0] rfl (k0_off20_eq c 5) (k0_off21_eq c 5) (k0_off20_eq c 5) (k0_off20_eq c 5) (k0_off7_eq c 5) (k0_off7_eq c 5) (by rfl) (by rfl)) $$ HR HF Ho []
  · ipureintro; rw [hi]; rfl
  iintro HF Ho
  iapply (first_step m K c 6 (by decide) ![7, 7, 7, 0] rfl (k0_off20_eq c 6) (k0_off21_eq c 6) (k0_off20_eq c 6) (k0_off20_eq c 6) (k0_off7_eq c 6) (k0_off7_eq c 6) (by rfl) (by rfl)) $$ HR HF Ho []
  · ipureintro; rw [hi]; rfl
  iintro HF Ho
  ihave HF := (Entails.of_eq (fam_all (FP c) (FQ m c))) $$ HF
  ihave HF := (fq_split m c) $$ HF
  icases HF with ⟨Hra0, Hra2, HM⟩
  -- the transfers have left
  ihave Hs0 := (Entails.of_eq ((sp_join c 0).trans (fam_zero (SP c 0) (SQ m c 0)).symm)) $$ [Hs0 Hsa0]
  · isplitl [Hs0] <;> iassumption
  ihave Hs1 := (Entails.of_eq ((sp_join c 1).trans (fam_zero (SP c 1) (SQ m c 1)).symm)) $$ [Hs1 Hsa1]
  · isplitl [Hs1] <;> iassumption
  ihave Hs2 := (Entails.of_eq ((sp_join c 2).trans (fam_zero (SP c 2) (SQ m c 2)).symm)) $$ [Hs2 Hsa2]
  · isplitl [Hs2] <;> iassumption
  iapply (sent_step m K c 0 0 (by decide) ![7, 7, 7, 0] rfl (k0_off7_eq c 0) (by rfl)) $$ HR Hs0 Ho
  iintro Hs0 Ho
  iapply (sent_step m K c 0 1 (by decide) ![7, 7, 7, 0] rfl (k0_off7_eq c 1) (by rfl)) $$ HR Hs0 Ho
  iintro Hs0 Ho
  iapply (sent_step m K c 0 2 (by decide) ![7, 7, 7, 0] rfl (k0_off7_eq c 2) (by rfl)) $$ HR Hs0 Ho
  iintro Hs0 Ho
  iapply (sent_step m K c 0 3 (by decide) ![7, 7, 7, 0] rfl (k0_off7_eq c 3) (by rfl)) $$ HR Hs0 Ho
  iintro Hs0 Ho
  iapply (sent_step m K c 0 4 (by decide) ![7, 7, 7, 0] rfl (k0_off7_eq c 4) (by rfl)) $$ HR Hs0 Ho
  iintro Hs0 Ho
  iapply (sent_step m K c 0 5 (by decide) ![7, 7, 7, 0] rfl (k0_off7_eq c 5) (by rfl)) $$ HR Hs0 Ho
  iintro Hs0 Ho
  iapply (sent_step m K c 0 6 (by decide) ![7, 7, 7, 0] rfl (k0_off7_eq c 6) (by rfl)) $$ HR Hs0 Ho
  iintro Hs0 Ho
  iapply (sent_step m K c 1 0 (by decide) ![7, 7, 7, 0] rfl (k0_off7_eq c 0) (by rfl)) $$ HR Hs1 Ho
  iintro Hs1 Ho
  iapply (sent_step m K c 1 1 (by decide) ![7, 7, 7, 0] rfl (k0_off7_eq c 1) (by rfl)) $$ HR Hs1 Ho
  iintro Hs1 Ho
  iapply (sent_step m K c 1 2 (by decide) ![7, 7, 7, 0] rfl (k0_off7_eq c 2) (by rfl)) $$ HR Hs1 Ho
  iintro Hs1 Ho
  iapply (sent_step m K c 1 3 (by decide) ![7, 7, 7, 0] rfl (k0_off7_eq c 3) (by rfl)) $$ HR Hs1 Ho
  iintro Hs1 Ho
  iapply (sent_step m K c 1 4 (by decide) ![7, 7, 7, 0] rfl (k0_off7_eq c 4) (by rfl)) $$ HR Hs1 Ho
  iintro Hs1 Ho
  iapply (sent_step m K c 1 5 (by decide) ![7, 7, 7, 0] rfl (k0_off7_eq c 5) (by rfl)) $$ HR Hs1 Ho
  iintro Hs1 Ho
  iapply (sent_step m K c 1 6 (by decide) ![7, 7, 7, 0] rfl (k0_off7_eq c 6) (by rfl)) $$ HR Hs1 Ho
  iintro Hs1 Ho
  iapply (sent_step m K c 2 0 (by decide) ![7, 7, 7, 0] rfl (k0_off7_eq c 0) (by rfl)) $$ HR Hs2 Ho
  iintro Hs2 Ho
  iapply (sent_step m K c 2 1 (by decide) ![7, 7, 7, 0] rfl (k0_off7_eq c 1) (by rfl)) $$ HR Hs2 Ho
  iintro Hs2 Ho
  iapply (sent_step m K c 2 2 (by decide) ![7, 7, 7, 0] rfl (k0_off7_eq c 2) (by rfl)) $$ HR Hs2 Ho
  iintro Hs2 Ho
  iapply (sent_step m K c 2 3 (by decide) ![7, 7, 7, 0] rfl (k0_off7_eq c 3) (by rfl)) $$ HR Hs2 Ho
  iintro Hs2 Ho
  iapply (sent_step m K c 2 4 (by decide) ![7, 7, 7, 0] rfl (k0_off7_eq c 4) (by rfl)) $$ HR Hs2 Ho
  iintro Hs2 Ho
  iapply (sent_step m K c 2 5 (by decide) ![7, 7, 7, 0] rfl (k0_off7_eq c 5) (by rfl)) $$ HR Hs2 Ho
  iintro Hs2 Ho
  iapply (sent_step m K c 2 6 (by decide) ![7, 7, 7, 0] rfl (k0_off7_eq c 6) (by rfl)) $$ HR Hs2 Ho
  iintro Hs2 Ho
  ihave Hs0 := (Entails.of_eq ((fam_all (SP c 0) (SQ m c 0)).trans (sq_split m c 0))) $$ Hs0
  ihave Hs1 := (Entails.of_eq ((fam_all (SP c 1) (SQ m c 1)).trans (sq_split m c 1))) $$ Hs1
  ihave Hs2 := (Entails.of_eq ((fam_all (SP c 2) (SQ m c 2)).trans (sq_split m c 2))) $$ Hs2
  icases Hs0 with ⟨Hsa0, Hs0⟩
  icases Hs1 with ⟨Hsa1, Hs1⟩
  icases Hs2 with ⟨Hsa2, Hs2⟩
  ihave Hrd := (ready_idle m c 0) $$ Hrd
  icases Hrd with ⟨Hi2, Hsl0⟩
  iapply (wp_done c)
  iapply Hk $$ Hfl1 Hi2 Hsl0 Hx Hr [Hxf Hwb Hs2 Hac HM] [Hxb Hs0] [Hrs Hs1] [Hrf] HD3 Hrb Hba Hra0 Hra1 Hra2 Hsa0 Hsa1 Hsa2 Ho
  · iapply (Entails.of_eq (bigSep_peers c (MP m c 0)).symm)
    isplitr [HM]
    · unfold MP XW acS
      isplitr [Hac]
      · isplitl [Hxf]; · iexact Hxf
        iapply (Entails.of_eq (wb_leaves c (WB m)).symm)
        isplitl [Hwb]; · iexact Hwb
        iexact Hs2
      iexact Hac
    iexact HM
  · iexists (xbf m c)
    iapply (Entails.of_eq (xb_leaves c (xbf m c)).symm)
    isplitl [Hxb]; · iexact Hxb
    iexact Hs0
  · iexists (rst m c)
    iapply (Entails.of_eq (rs_leaves c (rst m c)).symm)
    isplitl [Hrs]; · iexact Hrs
    iexact Hs1
  · iexists (RF m); iexact Hrf

end Cert.KernelIdeal.Moe
-- ==== Proof.BodyMid.lean ====
/- The kernel's body at the grid points between the first and the last. -/
module

public import proofs.«01_k».proof.Proof.Body

@[expose] public section

set_option pp.maxSteps 250

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

variable (K : Dev nD × Key → ℕ) (c : Dev nD)

/-- The body at the second and third grid points. -/
theorem body_mid (i : grid0.Coords) (e : ℕ) (hi : (i 0).val = e + 1) (he : e < 2) (Kt : PUnit → sProp 𝕄) :
    records m K ⊢ iprop(flight c (e + 1) -∗ idle c (e + 2) -∗ wtok c (e + 2) -∗ sl m c (e + 2) -∗ bigSep Finset.univ (MP m c e) -∗ ow c 7 ![7, 7, 7, 0]
      -∗ (flight c (e + 2) -∗ idle c (e + 3) -∗ sl m c (e + 1) -∗ bigSep Finset.univ (MP m c (e + 1)) -∗ ow c 7 ![7, 7, 7, 0] -∗ Kt ⟨⟩) -∗ WP c (bodyI (F := F) i) Kt) := by
  have hi' : (i 0).val = 1 ∨ (i 0).val = 2 := by omega
  have h2 : k0_cond2 i = 1#1 := cond2 i (by omega)
  have h4 := cond4 i hi'
  unfold bodyI
  simp only [cc0_body_eq_skeleton]; unfold cc0_body_skel
  simp only [Prog.lift, Prog.bind_op, Prog.bind_ret, Prog.pure_eq_ret, wp_deviceId]
  rw [dif_neg (cond1 i (by omega)), dif_pos h2, dif_neg (cond3 i (by omega)), dif_pos h4, dif_neg (cond5' i (by omega))]
  iintro #HR Hfl Hid Htk Hsl HM Ho Hk
  iapply (issue m K c (e + 2) (by omega) ((off1_eq i).trans (by rw [hi]; rfl)) ((off2_eq i).trans (by rw [hi]; rfl)) ((off3_eq i (by omega)).trans (by rw [hi]; rfl))
    ((off4_eq i).trans (by rw [hi]; rfl)) ((off5_eq i).trans (by rw [hi]; rfl)) ((off6_eq i (by omega)).trans (by rw [hi]; rfl))) $$ HR Hid Htk Hsl
  iintro Hfl2
  simp only [k0_part32_eq_skeleton]; unfold k0_part32_skel
  simp only [k0_part26_eq_skeleton, k0_part27_eq_skeleton, k0_part28_eq_skeleton, k0_part29_eq_skeleton, k0_part30_eq_skeleton, k0_part31_eq_skeleton]
  unfold k0_part26_skel k0_part27_skel k0_part28_skel k0_part29_skel k0_part30_skel k0_part31_skel
  simp only [Prog.lift, Prog.bind_op, Prog.bind_ret, Prog.pure_eq_ret]
  iapply (await m K c (e + 1) (by omega) 7 ![7, 7, 7, 0] ((off22_eq i).trans (by rw [hi]; rfl)) ((off24_eq i).trans (by rw [hi]; rfl)) (by rfl) (by rfl)) $$ HR Hfl Ho
  iintro Ho Hrd
  iapply (loadw m c (e + 1) ((off26_eq i).trans (by rw [hi]; rfl)) ((off27_eq i).trans (by rw [hi]; rfl))) $$ Hrd
  iintro Hrd
  ihave HM := (Entails.of_eq (fam_zero (MP m c e) (MP m c (e + 1))).symm) $$ HM
  iapply (mid_step m c e 0 (by decide) rfl rfl rfl rfl rfl) $$ HM []
  · ipureintro; rw [hi]; rfl
  iintro HM
  iapply (mid_step m c e 1 (by decide) rfl rfl rfl rfl rfl) $$ HM []
  · ipureintro; rw [hi]; rfl
  iintro HM
  iapply (mid_step m c e 2 (by decide) rfl rfl rfl rfl rfl) $$ HM []
  · ipureintro; rw [hi]; rfl
  iintro HM
  iapply (mid_step m c e 3 (by decide) rfl rfl rfl rfl rfl) $$ HM []
  · ipureintro; rw [hi]; rfl
  iintro HM
  iapply (mid_step m c e 4 (by decide) rfl rfl rfl rfl rfl) $$ HM []
  · ipureintro; rw [hi]; rfl
  iintro HM
  iapply (mid_step m c e 5 (by decide) rfl rfl rfl rfl rfl) $$ HM []
  · ipureintro; rw [hi]; rfl
  iintro HM
  iapply (mid_step m c e 6 (by decide) rfl rfl rfl rfl rfl) $$ HM []
  · ipureintro; rw [hi]; rfl
  iintro HM
  iapply (mid_step m c e 7 (by decide) rfl rfl rfl rfl rfl) $$ HM []
  · ipureintro; rw [hi]; rfl
  iintro HM
  ihave HM := (Entails.of_eq (fam_all (MP m c e) (MP m c (e + 1)))) $$ HM
  ihave Hrd' := (ready_idle m c (e + 1)) $$ Hrd
  icases Hrd' with ⟨Hid, Hsl⟩
  iapply (wp_done c)
  iapply Hk $$ Hfl2 Hid Hsl HM Ho

end Cert.KernelIdeal.Moe
-- ==== Proof.BodyLast.lean ====
/- The kernel's body at the last grid point. -/
module

public import proofs.«01_k».proof.Proof.Body

@[expose] public section

set_option pp.maxSteps 250
set_option pp.maxSteps 250

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ)

variable (K : Dev nD × Key → ℕ) (c : Dev nD)

/-- The rows of the result on device `c`: its own accumulated rows with its last expert's part, and the seven returned ones. -/
def outv : Vec F S128x1024 .f32 :=
  k0_pay76 (k0_pay75 (k0_pay74 (k0_pay72 (k0_pay47 (w2 m c 3)) (k0_pay69 (acc m c 2 c)) (k0_pay70 lanes (ge c 3) (Vw m c)) (k0_pay71 (k0_pay46 (w1 m c 3)) (Vx m c)) (ret m (peer c 0) c))
    (k0_pay73 (ret m (peer c 1) c)) (ret m (peer c 2) c) (ret m (peer c 3) c)) (ret m (peer c 4) c) (ret m (peer c 5) c)) (ret m (peer c 6) c)

/-- The body at the last grid point. -/
theorem body_last (i : grid0.Coords) (hi : (i 0).val = 3) (f : Buf (Elt F) ((c : Thread nD τ).loc cc0_stg2_0)) (Kt : PUnit → sProp 𝕄) :
    records m K ⊢ iprop(flight c 3 -∗ bigSep Finset.univ (MP m c 2) -∗ bigSep Finset.univ (fun j => iprop(∃ f, abP c (peer c j) fullShare f))
      -∗ bigSep Finset.univ (DP c 3) -∗ bigSep Finset.univ (RP c 3) -∗ bigSep Finset.univ (fun j => atPos ER (cell c (kCh 3 0 (peer c j))) 0 ∅ 0)
      -∗ ((c : Thread nD τ).loc cc0_stg2_0 ↦{fullShare} f) -∗ ow c 7 ![7, 7, 7, 0]
      -∗ (ready m c 3 -∗ bigSep Finset.univ (MP m c 2) -∗ bigSep Finset.univ (RQ m c 3) -∗ bigSep Finset.univ (SQ m c 3)
        -∗ ((c : Thread nD τ).loc cc0_stg2_0 ↦{fullShare} outv m c) -∗ ow c 7 ![7, 7, 7, 7] -∗ Kt ⟨⟩) -∗ WP c (bodyI (F := F) i) Kt) := by
  have h5 := cond5 i hi
  unfold bodyI
  simp only [cc0_body_eq_skeleton]; unfold cc0_body_skel
  simp only [Prog.lift, Prog.bind_op, Prog.bind_ret, Prog.pure_eq_ret, wp_deviceId]
  rw [dif_neg (cond1 i (by omega)), dif_neg (cond2' i hi), dif_neg (cond3 i (by omega)), dif_neg (cond4' i (by omega)), dif_pos h5]
  simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
  unfold k0_part33_skel k0_part34_skel k0_part35_skel k0_part36_skel k0_part37_skel k0_part38_skel k0_part39_skel k0_part40_skel k0_part41_skel k0_part42_skel k0_part43_skel k0_part44_skel k0_part45_skel
  simp only [Prog.lift, Prog.bind_op, Prog.bind_ret, Prog.pure_eq_ret]
  iintro #HR Hfl HM Hab HD Hr Hat Hout Ho Hk
  ihave HM := (Entails.of_eq (bigSep_peers c (MP m c 2))) $$ HM
  icases HM with ⟨Hown, HM⟩
  ihave HL := (Entails.of_eq (show iprop(bigSep Finset.univ (fun j => MP m c 2 (peer c j)) ∗ bigSep Finset.univ (fun j => iprop(∃ f, abP c (peer c j) fullShare f)) ∗ bigSep Finset.univ (DP c 3)) = fam (LP m c) (LQ m c) 0 by
    rw [fam_zero, ← bigSep_sep', ← bigSep_sep']; rfl)) $$ [HM Hab HD]
  · isplitl [HM]; · iexact HM
    isplitl [Hab] <;> iassumption
  iapply (await m K c 3 (by decide) 7 ![7, 7, 7, 0] rfl rfl (by rfl) (by rfl)) $$ HR Hfl Ho
  iintro Ho Hrd
  iapply (loadw m c 3 ((off28_eq i).trans (by rw [hi]; rfl)) ((off29_eq i).trans (by rw [hi]; rfl))) $$ Hrd
  iintro Hrd
  iapply (last_step m K c 0 (by decide) ![7, 7, 7, 0] ![7, 7, 7, 1] rfl (by decide) (by exact k0_dev29_eq c)
    (k0_off30_eq c 0) (k0_off30_eq c 0) (k0_off31_eq c 0) (k0_off30_eq c 0) (k0_off30_eq c 0) (k0_off35_eq c 0) (k0_off34_eq c) (k0_off32_eq c 0) (k0_off33_eq c)) $$ HR HL Ho []
  · ipureintro; rw [hi]; rfl
  iintro HL Ho
  iapply (last_step m K c 1 (by decide) ![7, 7, 7, 1] ![7, 7, 7, 2] rfl (by decide) (by exact k0_dev30_eq c)
    (k0_off30_eq c 1) (k0_off30_eq c 1) (k0_off31_eq c 1) (k0_off30_eq c 1) (k0_off30_eq c 1) (k0_off35_eq c 1) (k0_off34_eq c) (k0_off32_eq c 1) (k0_off33_eq c)) $$ HR HL Ho []
  · ipureintro; rw [hi]; rfl
  iintro HL Ho
  iapply (last_step m K c 2 (by decide) ![7, 7, 7, 2] ![7, 7, 7, 3] rfl (by decide) (by exact k0_dev31_eq c)
    (k0_off30_eq c 2) (k0_off30_eq c 2) (k0_off31_eq c 2) (k0_off30_eq c 2) (k0_off30_eq c 2) (k0_off35_eq c 2) (k0_off34_eq c) (k0_off32_eq c 2) (k0_off33_eq c)) $$ HR HL Ho []
  · ipureintro; rw [hi]; rfl
  iintro HL Ho
  iapply (last_step m K c 3 (by decide) ![7, 7, 7, 3] ![7, 7, 7, 4] rfl (by decide) (by exact k0_dev32_eq c)
    (k0_off30_eq c 3) (k0_off30_eq c 3) (k0_off31_eq c 3) (k0_off30_eq c 3) (k0_off30_eq c 3) (k0_off35_eq c 3) (k0_off34_eq c) (k0_off32_eq c 3) (k0_off33_eq c)) $$ HR HL Ho []
  · ipureintro; rw [hi]; rfl
  iintro HL Ho
  iapply (last_step m K c 4 (by decide) ![7, 7, 7, 4] ![7, 7, 7, 5] rfl (by decide) (by exact k0_dev33_eq c)
    (k0_off30_eq c 4) (k0_off30_eq c 4) (k0_off31_eq c 4) (k0_off30_eq c 4) (k0_off30_eq c 4) (k0_off35_eq c 4) (k0_off34_eq c) (k0_off32_eq c 4) (k0_off33_eq c)) $$ HR HL Ho []
  · ipureintro; rw [hi]; rfl
  iintro HL Ho
  iapply (last_step m K c 5 (by decide) ![7, 7, 7, 5] ![7, 7, 7, 6] rfl (by decide) (by exact k0_dev34_eq c)
    (k0_off30_eq c 5) (k0_off30_eq c 5) (k0_off31_eq c 5) (k0_off30_eq c 5) (k0_off30_eq c 5) (k0_off35_eq c 5) (k0_off34_eq c) (k0_off32_eq c 5) (k0_off33_eq c)) $$ HR HL Ho []
  · ipureintro; rw [hi]; rfl
  iintro HL Ho
  iapply (last_step m K c 6 (by decide) ![7, 7, 7, 6] ![7, 7, 7, 7] rfl (by decide) (by exact k0_dev35_eq c)
    (k0_off30_eq c 6) (k0_off30_eq c 6) (k0_off31_eq c 6) (k0_off30_eq c 6) (k0_off30_eq c 6) (k0_off35_eq c 6) (k0_off34_eq c) (k0_off32_eq c 6) (k0_off33_eq c)) $$ HR HL Ho []
  · ipureintro; rw [hi]; rfl
  iintro HL Ho
  ihave HL := (Entails.of_eq (show fam (LP m c) (LQ m c) 7 = iprop(bigSep Finset.univ (fun j => MP m c 2 (peer c j)) ∗ bigSep Finset.univ (DQ c 3)) by
    rw [fam_all, ← bigSep_sep']; rfl)) $$ HL
  icases HL with ⟨HM, Hs⟩
  unfold MP XW acS
  icases Hown with ⟨⟨Hx, Hw⟩, Ha⟩
  iapply (ld3 (Memref.whole cc0_scratch5) c c (acc m c 2 c) (acP_eq c c fullShare _) (rd_ac _ c) (k0_off36_eq c)) $$ Ha
  iintro Ha
  iapply (ld3 (Memref.whole cc0_scratch1) c c (Vx m c) (xfP_eq c c fullShare (XF m)) (rd_xf (Vx m) c) (k0_off36_eq c)) $$ Hx
  iintro Hx
  iapply (ld3 (Memref.whole cc0_scratch4) c c (Vw m c) (wbP_eq c c fullShare (WB m)) (rd_wb (Vw m) c) (k0_off37_eq c)) $$ Hw
  iintro Hw
  ihave Hr := (Entails.of_eq (fam_zero (RP c 3) (RQ m c 3)).symm) $$ Hr
  iapply (ret_step m K c 0 (by decide) ![7, 7, 7, 7] rfl (k0_off30_eq c 0) (k0_off32_eq c 0) (by rfl)) $$ HR Hr Ho
  iintro Hr Ho
  iapply (ret_step m K c 1 (by decide) ![7, 7, 7, 7] rfl (k0_off30_eq c 1) (k0_off32_eq c 1) (by rfl)) $$ HR Hr Ho
  iintro Hr Ho
  iapply (ret_step m K c 2 (by decide) ![7, 7, 7, 7] rfl (k0_off30_eq c 2) (k0_off32_eq c 2) (by rfl)) $$ HR Hr Ho
  iintro Hr Ho
  iapply (ret_step m K c 3 (by decide) ![7, 7, 7, 7] rfl (k0_off30_eq c 3) (k0_off32_eq c 3) (by rfl)) $$ HR Hr Ho
  iintro Hr Ho
  iapply (ret_step m K c 4 (by decide) ![7, 7, 7, 7] rfl (k0_off30_eq c 4) (k0_off32_eq c 4) (by rfl)) $$ HR Hr Ho
  iintro Hr Ho
  iapply (ret_step m K c 5 (by decide) ![7, 7, 7, 7] rfl (k0_off30_eq c 5) (k0_off32_eq c 5) (by rfl)) $$ HR Hr Ho
  iintro Hr Ho
  iapply (ret_step m K c 6 (by decide) ![7, 7, 7, 7] rfl (k0_off30_eq c 6) (k0_off32_eq c 6) (by rfl)) $$ HR Hr Ho
  iintro Hr Ho
  iapply (out_step c (v := outv m c)) $$ Hout []
  · ipureintro; rw [hi]; rfl
  iintro Hout
  ihave Hs := (Entails.of_eq (show iprop(bigSep Finset.univ (DQ c 3) ∗ bigSep Finset.univ (fun j => atPos ER (cell c (kCh 3 0 (peer c j))) 0 ∅ 0)) = fam (SP c 3) (SQ m c 3) 0 by
    rw [fam_zero, ← bigSep_sep']; rfl)) $$ [Hs Hat]
  · isplitl [Hs] <;> iassumption
  iapply (sent_step m K c 3 0 (by decide) ![7, 7, 7, 7] rfl (k0_off32_eq c 0) (by rfl)) $$ HR Hs Ho
  iintro Hs Ho
  iapply (sent_step m K c 3 1 (by decide) ![7, 7, 7, 7] rfl (k0_off32_eq c 1) (by rfl)) $$ HR Hs Ho
  iintro Hs Ho
  iapply (sent_step m K c 3 2 (by decide) ![7, 7, 7, 7] rfl (k0_off32_eq c 2) (by rfl)) $$ HR Hs Ho
  iintro Hs Ho
  iapply (sent_step m K c 3 3 (by decide) ![7, 7, 7, 7] rfl (k0_off32_eq c 3) (by rfl)) $$ HR Hs Ho
  iintro Hs Ho
  iapply (sent_step m K c 3 4 (by decide) ![7, 7, 7, 7] rfl (k0_off32_eq c 4) (by rfl)) $$ HR Hs Ho
  iintro Hs Ho
  iapply (sent_step m K c 3 5 (by decide) ![7, 7, 7, 7] rfl (k0_off32_eq c 5) (by rfl)) $$ HR Hs Ho
  iintro Hs Ho
  iapply (sent_step m K c 3 6 (by decide) ![7, 7, 7, 7] rfl (k0_off32_eq c 6) (by rfl)) $$ HR Hs Ho
  iintro Hs Ho
  ihave Hr := (Entails.of_eq (fam_all (RP c 3) (RQ m c 3))) $$ Hr
  ihave Hs := (Entails.of_eq (fam_all (SP c 3) (SQ m c 3))) $$ Hs
  iapply (wp_done c)
  iapply Hk $$ Hrd [Hx Hw Ha HM] Hr Hs Hout Ho
  iapply (Entails.of_eq (bigSep_peers c (fun p => iprop((xfP c p fullShare (XF m) ∗ wbP c p fullShare (WB m)) ∗ acP c p fullShare (stack (n := 8) (a := 128) (b := 1024) (acc m c 2))))).symm)
  isplitr [HM]
  · isplitl [Hx Hw]
    · isplitl [Hx] <;> iassumption
    iexact Ha
  iexact HM

end Cert.KernelIdeal.Moe
-- ==== Proof.Launch.lean ====
/- The four grid points on one device, and the launch on all of them. -/
module

public import proofs.«01_k».proof.Proof.Parts
public import proofs.«01_k».proof.Proof.BodyFirst
public import proofs.«01_k».proof.Proof.BodyMid
public import proofs.«01_k».proof.Proof.BodyLast
public import Idealize.ShloMosaic.Lib.Pipeline.FrameBody
public import Idealize.ShloMosaic.Lib.Pipeline.CollectiveSegs
public import Idealize.ShloMosaic.Lib.Pipeline.Value

@[expose] public section

set_option pp.maxSteps 250

noncomputable section

namespace Cert.KernelIdeal.Moe

open Cert.KernelIdeal Cert.KernelIdeal.Gen Cert.Moe
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds between grid points -/

/-- What the first grid point leaves for the last, untouched in between. -/
def keep (c : Dev nD) : sProp 𝕄 :=
  iprop((∃ f, xbP c fullShare f) ∗ (∃ f, rsP c fullShare f) ∗ (∃ f, (c : Thread nD τ).loc cc0_scratch2 ↦{fullShare} f)
    ∗ bigSep Finset.univ (DP c 3) ∗ landAny c 3 c ∗ atPos ER (cell c kBar) 1 ∅ 0
    ∗ (bigSep Finset.univ (RA c 0 1) ∗ bigSep Finset.univ (RA c 1 1) ∗ bigSep Finset.univ (RA c 2 1))
    ∗ (bigSep Finset.univ (SA c 0 1) ∗ bigSep Finset.univ (SA c 1 1) ∗ bigSep Finset.univ (SA c 2 1))
    ∗ (bigSep Finset.univ fun p => iprop(∃ f, abP c p fullShare f)) ∗ bigSep Finset.univ (RP c 3) ∗ bigSep Finset.univ (SA c 3 0) ∗ bigSep Finset.univ (ownP c))

/-- What a device starts from: the records, its positions and duties, its credits, its two weight arguments. -/
def start (c : Dev nD) : sProp 𝕄 :=
  iprop(∃ K, records m K ∗ linear c
    ∗ (cred (tallyAt (cell c kBar) () 7) ∗ bigSep Finset.univ fun h : Fin 4 => bigSep Finset.univ fun j : Fin 7 => cred (tallyAt (cell c (kCh h 1 (peer c j))) () (NC h)))
    ∗ ((c : Thread nD τ).loc main_arg2 ↦{fullShare} m ((c : Thread nD τ).loc main_arg2)) ∗ ((c : Thread nD τ).loc main_arg3 ↦{fullShare} m ((c : Thread nD τ).loc main_arg3)))

def Φ₀ (c : Dev nD) : sProp 𝕄 := iprop(start m c ∗ Pipeline.scopedRest (Ix := Unit) (Name := ℕ) (U := UU) (Lvl := ℕ) (Val := Elt F) spec0 c)
def Φ₁ (c : Dev nD) : sProp 𝕄 :=
  iprop(∃ K, records m K ∗ flight c 1 ∗ idle c 2 ∗ (wtok c 2 ∗ wtok c 3) ∗ (sl m c 0 ∗ sl m c 2 ∗ sl m c 3) ∗ bigSep Finset.univ (MP m c 0) ∗ keep c)
def Φ₂ (c : Dev nD) : sProp 𝕄 :=
  iprop(∃ K, records m K ∗ flight c 2 ∗ idle c 3 ∗ wtok c 3 ∗ (sl m c 0 ∗ sl m c 1 ∗ sl m c 3) ∗ bigSep Finset.univ (MP m c 1) ∗ keep c)
def Φ₃ (c : Dev nD) : sProp 𝕄 :=
  iprop(∃ K, records m K ∗ flight c 3 ∗ idle c 4 ∗ (sl m c 0 ∗ sl m c 1 ∗ sl m c 2) ∗ bigSep Finset.univ (MP m c 2) ∗ keep c)
def Φ₄ (c : Dev nD) : sProp 𝕄 :=
  iprop((bigSep Finset.univ fun k : Key => semVal (cell c k) 0) ∗ Pipeline.scopedRest (Ix := Unit) (Name := ℕ) (U := UU) (Lvl := ℕ) (Val := Elt F) spec0 c
    ∗ ((c : Thread nD τ).loc main_arg2 ↦{fullShare} m ((c : Thread nD τ).loc main_arg2)) ∗ ((c : Thread nD τ).loc main_arg3 ↦{fullShare} m ((c : Thread nD τ).loc main_arg3)))

def dats (_ : Fin 1) (c : Dev nD) : Dat τ (Elt F) Unit ℕ UU ℕ cfg0 c where
  A w := m ((cfg0.win w).arr.view.loc (c : Thread nD τ))
  after w _ := match w with
    | ⟨0, _⟩ => xin m c
    | ⟨1, _⟩ => rin m c
    | ⟨2, _⟩ => outv m c
  Φ t := match t with
    | ⟨0, _⟩ => Φ₀ m c
    | ⟨1, _⟩ => Φ₁ m c
    | ⟨2, _⟩ => Φ₂ m c
    | ⟨3, _⟩ => Φ₃ m c
    | ⟨_ + 4, _⟩ => Φ₄ m c
  q _ := fullShare
  owed t := match t with
    | ⟨0, _⟩ => Ow c 0 ![0, 0, 0, 0]
    | ⟨1, _⟩ => Ow c 7 ![7, 7, 7, 0]
    | ⟨2, _⟩ => Ow c 7 ![7, 7, 7, 0]
    | ⟨3, _⟩ => Ow c 7 ![7, 7, 7, 0]
    | ⟨_ + 4, _⟩ => 0

/-! ## The grid points -/

section Points
variable (c : Dev nD)

theorem before0 (t : Fin cfg0.N) (d) : (dats m 0 c).before 0 t d = xin m c := by
  refine ((dats m 0 c).before_in_eq_fetched 0 rfl (fun _ => rfl) (fun _ _ _ => rfl) (fun t => ?_) t d).trans ?_
  · rcases fin_N0 t with rfl | rfl | rfl | rfl <;> rfl
  · rcases fin_N0 t with rfl | rfl | rfl | rfl <;> rfl
theorem before1 (t : Fin cfg0.N) (d) : (dats m 0 c).before 1 t d = rin m c := by
  refine ((dats m 0 c).before_in_eq_fetched 1 rfl (fun _ => rfl) (fun _ _ _ => rfl) (fun t => ?_) t d).trans ?_
  · rcases fin_N0 t with rfl | rfl | rfl | rfl <;> rfl
  · rcases fin_N0 t with rfl | rfl | rfl | rfl <;> rfl

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the loop hands the body at a point: the two staged inputs, and the output's staging buffer at some contents. -/
abbrev pre (P : sProp 𝕄) (t : Fin (cfg0.N + 1)) (t' : Fin cfg0.N) : sProp 𝕄 :=
  iprop(P ∗ (dats m 0 c).owesAt () t ∗ (∃ d, stg c cc0_stg0_0 ((dats m 0 c).before 0 t' d)) ∗ (∃ d, stg c cc0_stg1_0 ((dats m 0 c).before 1 t' d)) ∗ (∃ d, stg c cc0_stg2_0 ((dats m 0 c).before 2 t' d)))

theorem before2_0 (d) : (dats m 0 c).before 2 t0_0 d = d := rfl

theorem ob0 : pre m c (Φ₀ m c) t0_0.castSucc t0_0 ⊢ WP c (bodyI (F := F) (grid0.coords t0_0)) fun _ =>
    iprop(Φ₁ m c ∗ (dats m 0 c).owesAt () t0_0.succ ∗ stg c cc0_stg0_0 (xin m c) ∗ stg c cc0_stg1_0 (rin m c) ∗ (∃ d, stg c cc0_stg2_0 ((dats m 0 c).before 2 t0_0 d))) := by
  unfold pre Φ₀ start linear
  rw [scopedRest0_eq, toks_split]
  unfold Dat.owesAt Pipeline.owesWithin
  iintro ⟨⟨⟨%K, #HR, ⟨Hpos, Htb, ⟨⟨Hw0, Hw1⟩, Hw2, Hw3⟩, Htk⟩, ⟨Hcb, Hcr⟩, Ha2, Ha3⟩, Hs0, Hs1, Hs2, Hs3, Hs4, Hs5, Hs6, Hs7, Hs8, Hs9⟩, ⟨%W, %hW, Ho⟩, ⟨%d0, %f0, %h0, H0⟩, ⟨%d1, %f1, %h1, H1⟩, H2⟩
  rw [before0] at h0
  rw [before1] at h1
  subst h0 h1
  ihave Hsl := (Entails.of_eq (args_eq m c)) $$ [Ha2 Ha3]
  · isplitl [Ha2] <;> iassumption
  icases Hsl with ⟨Hl0, Hl1, Hl2, Hl3⟩
  ihave Hp := (pos_split (F := F) c) $$ Hpos
  icases Hp with ⟨Hpb, ⟨Hp0, Hp1⟩, Hown, HSA, HRA⟩
  ihave HRP := (Entails.of_eq ((rp_all (F := F) c).trans (four _))) $$ [Hcr HRA]
  · isplitl [Hcr] <;> iassumption
  ihave HSA := (Entails.of_eq (four fun h => bigSep Finset.univ (SA (F := F) c h 0))) $$ HSA
  icases HRP with ⟨HP0, HP1, HP2, HP3⟩
  icases HSA with ⟨HA0, HA1, HA2, HA3⟩
  ihave Hland := (land_intro (F := F) c) $$ [Hs1 Hs2 Hs4 Hs7]
  · isplitl [Hs1]; · iexact Hs1
    isplitl [Hs2]; · iexact Hs2
    isplitl [Hs4]; · iexact Hs4
    iexact Hs7
  ihave Hac := (ac_intro (F := F) c) $$ Hs5
  ihave Hab := (ab_intro (F := F) c) $$ Hs6
  ihave Hfr := (free_intro (F := F) c) $$ [Hs8 Hs9]
  · isplitl [Hs8] <;> iassumption
  icases Hfr with ⟨Hf0, Hf1⟩
  ihave Hi0 := (idle_intro m K c 0 rfl) $$ HR Hp0 Hf0
  ihave Hi1 := (idle_intro m K c 1 rfl) $$ HR Hp1 Hf1
  iapply (body_first m K c (grid0.coords t0_0) rfl fullShare fullShare _) $$ HR Hi0 Hi1 Hw0 Hw1 Hl0 Hl1 H0 H1 [Hs0] [Hs3] Hland Hac Htb Hcb Hpb Htk HP0 HP1 HP2 HA0 HA1 HA2 [Ho]
  · unfold xbP; iexact Hs0
  · unfold rsP; iexact Hs3
  · unfold ow; iexists W; iexact Ho
  iintro Hfl Hi2 Hl0 H0 H1 HM Hxb Hrs Hs2 HD Hl3c Hpb HR0 HR1 HR2 HS0 HS1 HS2 Ho
  unfold ow
  icases Ho with ⟨%W', Ho⟩
  isplitr [Ho H0 H1 H2]
  · unfold Φ₁ keep
    iexists K
    isplitr; · iexact HR
    isplitl [Hfl]; · iexact Hfl
    isplitl [Hi2]; · iexact Hi2
    isplitl [Hw2 Hw3]
    · isplitl [Hw2] <;> iassumption
    isplitl [Hl0 Hl2 Hl3]
    · isplitl [Hl0]; · iexact Hl0
      isplitl [Hl2] <;> iassumption
    isplitl [HM]; · iexact HM
    isplitl [Hxb]; · iexact Hxb
    isplitl [Hrs]; · iexact Hrs
    isplitl [Hs2]; · iexact Hs2
    isplitl [HD]; · iexact HD
    isplitl [Hl3c]; · iexact Hl3c
    isplitl [Hpb]; · iexact Hpb
    isplitl [HR0 HR1 HR2]
    · isplitl [HR0]; · iexact HR0
      isplitl [HR1] <;> iassumption
    isplitl [HS0 HS1 HS2]
    · isplitl [HS0]; · iexact HS0
      isplitl [HS1] <;> iassumption
    isplitl [Hab]; · iexact Hab
    isplitl [HP3]; · iexact HP3
    isplitl [HA3]; · iexact HA3
    iexact Hown
  isplitl [Ho]
  · iexists W'
    isplitr; · ipureintro; exact fun _ _ => Or.inl trivial
    iexact Ho
  isplitl [H0]
  · iexists _; isplitr; · (ipureintro; rfl)
    iexact H0
  isplitl [H1]
  · iexists _; isplitr; · (ipureintro; rfl)
    iexact H1
  iexact H2

/-- The second and third grid points. -/
theorem ob_mid (i : grid0.Coords) (e : ℕ) (hi : (i 0).val = e + 1) (he : e < 2) (W : Waits sig Unit) (B : Set (SemLoc sig × Unit)) (hB : ∀ p, p ∈ B) (K : Dev nD × Key → ℕ) {P Q₀ Q₁ Q₂ Q : sProp 𝕄}
    (hQ : iprop((∃ K, records m K ∗ flight c (e + 2) ∗ idle c (e + 3) ∗ sl m c (e + 1) ∗ bigSep Finset.univ (MP m c (e + 1)) ∗ P)) ⊢ Q) :
    iprop((records m K ∗ flight c (e + 1) ∗ idle c (e + 2) ∗ wtok c (e + 2) ∗ sl m c (e + 2) ∗ bigSep Finset.univ (MP m c e) ∗ P)
      ∗ owes (c : Thread nD τ) (Ow c 7 ![7, 7, 7, 0]) W ∗ Q₀ ∗ Q₁ ∗ Q₂)
    ⊢ WP c (bodyI (F := F) i) fun _ => iprop(Q ∗ Pipeline.owesWithin c (Ow c 7 ![7, 7, 7, 0]) B ∗ Q₀ ∗ Q₁ ∗ Q₂) := by
  unfold Pipeline.owesWithin
  iintro ⟨⟨#HR, Hfl, Hi, Hw, Hs, HM, HP⟩, Ho, H0, H1, H2⟩
  iapply (body_mid m K c i e hi he _) $$ HR Hfl Hi Hw Hs HM [Ho]
  · unfold ow; iexists W; iexact Ho
  iintro Hfl Hi Hs HM Ho
  unfold ow
  icases Ho with ⟨%W', Ho⟩
  isplitl [Hfl Hi Hs HM HP]
  · iapply hQ
    iexists K
    isplitr; · iexact HR
    isplitl [Hfl]; · iexact Hfl
    isplitl [Hi]; · iexact Hi
    isplitl [Hs]; · iexact Hs
    isplitl [HM]; · iexact HM
    iexact HP
  isplitl [Ho]
  · iexists W'
    isplitr; · ipureintro; exact fun p _ => hB p
    iexact Ho
  isplitl [H0]; · iexact H0
  isplitl [H1] <;> iassumption

theorem end_w : iprop(ready m c 3 ∗ idle c 4) ⊢ iprop((wpos c 4 2 ∗ wpos c 3 2) ∗ (free c 0 ∗ free c 1) ∗ sl m c 3) := by
  unfold ready idle
  iintro ⟨⟨⟨Hp, -⟩, ⟨H1, H2⟩, Hs⟩, Hq, -, Hf⟩
  isplitl [Hp Hq]
  · isplitl [Hq]; · iexact Hq
    iexact Hp
  isplitr [Hs]
  · isplitl [Hf]; · iexact Hf
    unfold free
    isplitl [H1]; · iexists _; iexact H1
    iexists _; iexact H2
  iexact Hs

theorem free_elim : iprop(free (F := F) c 0 ∗ free c 1) ⊢ iprop((∃ f, (c : Thread nD τ).loc cc0_scratch8 ↦{fullShare} f) ∗ ∃ f, (c : Thread nD τ).loc cc0_scratch9 ↦{fullShare} f) := by
  unfold free
  iintro ⟨⟨H1, H2⟩, H3, H4⟩
  isplitl [H1 H3]
  · iapply (b1_elim (F := F) c)
    isplitl [H1] <;> iassumption
  iapply (b2_elim (F := F) c)
  isplitl [H2] <;> iassumption

theorem rb_end : iprop(landAny c 3 c ∗ bigSep Finset.univ fun j => recvPay m c 3 (peer c j)) ⊢ iprop(∃ f, (c : Thread nD τ).loc cc0_scratch7 ↦{fullShare} f) := by
  refine (sep_mono_right (bigSep_mono fun j _ => show recvPay m c 3 (peer c j) ⊢ iprop(∃ f, rbP (F := F) c (peer c j) fullShare f) from ?_)).trans
    ((Entails.of_eq (bigSep_peers c fun p => iprop(∃ f, rbP (F := F) c p fullShare f)).symm).trans (rb_elim c))
  show rbP c (peer c j) fullShare _ ⊢ _
  iintro H; iexists _; iexact H
theorem ab_end : iprop((∃ f, abP c c fullShare f) ∗ bigSep Finset.univ fun j => sendPay m c 3 (peer c j)) ⊢ iprop(∃ f, (c : Thread nD τ).loc cc0_scratch6 ↦{fullShare} f) := by
  refine (sep_mono_right (bigSep_mono fun j _ => show sendPay m c 3 (peer c j) ⊢ iprop(∃ f, abP (F := F) c (peer c j) fullShare f) from ?_)).trans
    ((Entails.of_eq (bigSep_peers c fun p => iprop(∃ f, abP (F := F) c p fullShare f)).symm).trans (ab_elim c))
  show abP c (peer c j) fullShare _ ⊢ _
  iintro H; iexists _; iexact H

theorem four_in (Φ : Fin 4 → sProp 𝕄) : iprop((Φ 0 ∗ Φ 1 ∗ Φ 2) ∗ Φ 3) ⊢ bigSep Finset.univ Φ := by
  rw [four]
  iintro ⟨⟨H0, H1, H2⟩, H3⟩
  isplitl [H0]; · iexact H0
  isplitl [H1]; · iexact H1
  isplitl [H2] <;> iassumption

/-- The last grid point. -/
theorem ob_last (i : grid0.Coords) (hi : (i 0).val = 3) (W : Waits sig Unit) (B : Set (SemLoc sig × Unit)) (hB : ∀ p, p ∈ B) (f : Buf (Elt F) ((c : Thread nD τ).loc cc0_stg2_0)) {Q₀ Q₁ : sProp 𝕄} :
    iprop(Φ₃ m c ∗ owes (c : Thread nD τ) (Ow c 7 ![7, 7, 7, 0]) W ∗ Q₀ ∗ Q₁ ∗ ((c : Thread nD τ).loc cc0_stg2_0 ↦{fullShare} f))
    ⊢ WP c (bodyI (F := F) i) fun _ => iprop(|={Set.univ}=> (Φ₄ m c ∗ Pipeline.owesWithin c 0 B ∗ Q₀ ∗ Q₁ ∗ stg c cc0_stg2_0 (outv m c))) := by
  unfold Φ₃ keep Φ₄ Pipeline.owesWithin
  rw [scopedRest0_eq]
  iintro ⟨⟨%K, #HR, Hfl, Hi4, ⟨Hl0, Hl1, Hl2⟩, HM, Hxb, Hrs, Hs2, HD, Hl3c, Hpb, HRA, HSA, Hab, HP3, HA3, Hown⟩, Ho, H0, H1, H2⟩
  ihave Hab := (Entails.of_eq (bigSep_peers c fun p => iprop(∃ f, abP (F := F) c p fullShare f))) $$ Hab
  icases Hab with ⟨Habo, Hab⟩
  ihave HA3 := (Entails.of_eq (show bigSep Finset.univ (SA (F := F) c 3 0) = bigSep Finset.univ fun j => atPos ER (cell c (kCh 3 0 (peer c j))) 0 ∅ 0 from rfl)) $$ HA3
  iapply (body_last m K c i hi f _) $$ HR Hfl HM Hab HD HP3 HA3 H2 [Ho]
  · unfold ow; iexists W; iexact Ho
  iintro Hrd HM HRQ HSQ H2 Ho
  unfold ow
  icases Ho with ⟨%W', Ho⟩
  ihave HRQ := (Entails.of_eq (rq_split m c 3)) $$ HRQ
  icases HRQ with ⟨HR3, Hrp⟩
  ihave HSQ := (Entails.of_eq (sq_split m c 3)) $$ HSQ
  icases HSQ with ⟨HS3, Hsp⟩
  ihave He := (end_w m c) $$ [Hrd Hi4]
  · isplitl [Hrd] <;> iassumption
  icases He with ⟨Hw, Hf, Hl3⟩
  ihave Hpos := (pos_join (F := F) c) $$ [Hpb Hw Hown HSA HS3 HRA HR3]
  · isplitl [Hpb]; · iexact Hpb
    isplitl [Hw]; · iexact Hw
    isplitl [Hown]; · iexact Hown
    isplitl [HSA HS3]
    · iapply (four_in fun h => bigSep Finset.univ (SA (F := F) c h 1))
      isplitl [HSA] <;> iassumption
    iapply (four_in fun h => bigSep Finset.univ (RA (F := F) c h 1))
    isplitl [HRA] <;> iassumption
  imod (close_all m K c) $$ HR Hpos with Hz
  ihave Hm := (mp_elim m c 2) $$ HM
  icases Hm with ⟨Hb1, Hb4, Hb5⟩
  ihave Hb7 := (rb_end m c) $$ [Hl3c Hrp]
  · isplitl [Hl3c] <;> iassumption
  ihave Hb6 := (ab_end m c) $$ [Habo Hsp]
  · isplitl [Habo] <;> iassumption
  ihave Hb8 := (free_elim (F := F) c) $$ Hf
  icases Hb8 with ⟨Hb8, Hb9⟩
  ihave Ha := (Entails.of_eq (args_eq m c).symm) $$ [Hl0 Hl1 Hl2 Hl3]
  · isplitl [Hl0]; · iexact Hl0
    isplitl [Hl1]; · iexact Hl1
    isplitl [Hl2] <;> iassumption
  imodintro
  isplitr [Ho H0 H1 H2]
  · isplitl [Hz]; · iexact Hz
    isplitr [Ha]
    · isplitl [Hxb]; · iexact Hxb
      isplitl [Hb1]; · iexact Hb1
      isplitl [Hs2]; · iexact Hs2
      isplitl [Hrs]; · iexact Hrs
      isplitl [Hb4]; · iexact Hb4
      isplitl [Hb5]; · iexact Hb5
      isplitl [Hb6]; · iexact Hb6
      isplitl [Hb7]; · iexact Hb7
      isplitl [Hb8]; · iexact Hb8
      iexact Hb9
    iexact Ha
  isplitl [Ho]
  · iexists W'
    isplitr; · ipureintro; exact fun p _ => hB p
    iapply (Entails.of_eq (congrArg (fun O => (owes (c : Thread nD τ) O W' : sProp 𝕄)) (show Ow c 7 ![7, 7, 7, 7] = 0 from by
      rw [show (![7, 7, 7, 7] : Fin 4 → ℕ) = fun _ => 7 from by funext x; fin_cases x <;> rfl]; exact Ow_done c)))
    iexact Ho
  isplitl [H0]; · iexact H0
  isplitl [H1]; · iexact H1
  iexists _; isplitr; · (ipureintro; rfl)
  iexact H2

theorem bigSep_W (Φ : Fin cfg0.W → sProp 𝕄) : bigSep Finset.univ Φ = iprop(Φ (0 : Fin 3) ∗ Φ (1 : Fin 3) ∗ Φ (2 : Fin 3)) := bigSep_W0 Φ

theorem in_bound (t : Fin (cfg0.N + 1)) (p : SemLoc sig × Unit) : p ∈ (dats m 0 c).bound () t := Or.inl trivial

/-- What the loop expects back from the body at the last point. -/
abbrev post (P : sProp 𝕄) (t : Fin (cfg0.N + 1)) (R : sProp 𝕄) : sProp 𝕄 :=
  iprop(P ∗ (dats m 0 c).owesAt () t ∗ stg c cc0_stg0_0 (xin m c) ∗ stg c cc0_stg1_0 (rin m c) ∗ R)

theorem stg_in0 (t : Fin cfg0.N) : iprop(∃ d, stg c cc0_stg0_0 ((dats m 0 c).before 0 t d)) ⊢ stg c cc0_stg0_0 (xin m c) := by
  iintro ⟨%d, H⟩
  iapply (Entails.of_eq (congrArg (stg c cc0_stg0_0) (before0 m c t d))); iexact H
theorem stg_in1 (t : Fin cfg0.N) : iprop(∃ d, stg c cc0_stg1_0 ((dats m 0 c).before 1 t d)) ⊢ stg c cc0_stg1_0 (rin m c) := by
  iintro ⟨%d, H⟩
  iapply (Entails.of_eq (congrArg (stg c cc0_stg1_0) (before1 m c t d))); iexact H

theorem ob1 : pre m c (Φ₁ m c) t0_1.castSucc t0_1 ⊢ WP c (bodyI (F := F) (grid0.coords t0_1)) fun _ =>
    post m c (Φ₂ m c) t0_1.succ iprop(∃ d, stg c cc0_stg2_0 ((dats m 0 c).before 2 t0_1 d)) := by
  unfold pre post Φ₁ Dat.owesAt Pipeline.owesWithin
  iintro ⟨⟨%K, #HR, Hfl, Hi, ⟨Hw2, Hw3⟩, ⟨Hs0, Hs2, Hs3⟩, HM, Hk⟩, ⟨%W, %hW, Ho⟩, H0, H1, H2⟩
  iapply (ob_mid m c (grid0.coords t0_1) 0 rfl (by decide) W _ (in_bound m c t0_1.succ) K (P := iprop(wtok c 3 ∗ (sl m c 0 ∗ sl m c 3) ∗ keep c)) (by
    unfold Φ₂
    iintro ⟨%K, #HR, Hfl, Hi, Hs1, HM, Hw, ⟨Hs0, Hs3⟩, Hk⟩
    iexists K
    isplitr; · iexact HR
    isplitl [Hfl]; · iexact Hfl
    isplitl [Hi]; · iexact Hi
    isplitl [Hw]; · iexact Hw
    isplitl [Hs0 Hs1 Hs3]
    · isplitl [Hs0]; · iexact Hs0
      isplitl [Hs1] <;> iassumption
    isplitl [HM] <;> iassumption))
  isplitr [Ho H0 H1 H2]
  · isplitr; · iexact HR
    isplitl [Hfl]; · iexact Hfl
    isplitl [Hi]; · iexact Hi
    isplitl [Hw2]; · iexact Hw2
    isplitl [Hs2]; · iexact Hs2
    isplitl [HM]; · iexact HM
    isplitl [Hw3]; · iexact Hw3
    isplitl [Hs0 Hs3]
    · isplitl [Hs0] <;> iassumption
    iexact Hk
  isplitl [Ho]; · iexact Ho
  isplitl [H0]; · iapply (stg_in0 m c t0_1); iexact H0
  isplitl [H1]; · iapply (stg_in1 m c t0_1); iexact H1
  iexact H2

theorem ob2 : pre m c (Φ₂ m c) t0_2.castSucc t0_2 ⊢ WP c (bodyI (F := F) (grid0.coords t0_2)) fun _ =>
    post m c (Φ₃ m c) t0_2.succ iprop(∃ d, stg c cc0_stg2_0 ((dats m 0 c).before 2 t0_2 d)) := by
  unfold pre post Φ₂ Dat.owesAt Pipeline.owesWithin
  iintro ⟨⟨%K, #HR, Hfl, Hi, Hw3, ⟨Hs0, Hs1, Hs3⟩, HM, Hk⟩, ⟨%W, %hW, Ho⟩, H0, H1, H2⟩
  iapply (ob_mid m c (grid0.coords t0_2) 1 rfl (by decide) W _ (in_bound m c t0_2.succ) K (P := iprop((sl m c 0 ∗ sl m c 1) ∗ keep c)) (by
    unfold Φ₃
    iintro ⟨%K, #HR, Hfl, Hi, Hs2, HM, ⟨Hs0, Hs1⟩, Hk⟩
    iexists K
    isplitr; · iexact HR
    isplitl [Hfl]; · iexact Hfl
    isplitl [Hi]; · iexact Hi
    isplitl [Hs0 Hs1 Hs2]
    · isplitl [Hs0]; · iexact Hs0
      isplitl [Hs1] <;> iassumption
    isplitl [HM] <;> iassumption))
  isplitr [Ho H0 H1 H2]
  · isplitr; · iexact HR
    isplitl [Hfl]; · iexact Hfl
    isplitl [Hi]; · iexact Hi
    isplitl [Hw3]; · iexact Hw3
    isplitl [Hs3]; · iexact Hs3
    isplitl [HM]; · iexact HM
    isplitl [Hs0 Hs1]
    · isplitl [Hs0] <;> iassumption
    iexact Hk
  isplitl [Ho]; · iexact Ho
  isplitl [H0]; · iapply (stg_in0 m c t0_2); iexact H0
  isplitl [H1]; · iapply (stg_in1 m c t0_2); iexact H1
  iexact H2

theorem ob3 : pre m c (Φ₃ m c) t0_3.castSucc t0_3 ⊢ WP c (bodyI (F := F) (grid0.coords t0_3)) fun _ =>
    post m c (Φ₄ m c) t0_3.succ (stg c cc0_stg2_0 (outv m c)) := by
  have h : pre m c (Φ₃ m c) t0_3.castSucc t0_3 ⊢ WP c (bodyI (F := F) (grid0.coords t0_3)) fun _ =>
      iprop(|={Set.univ}=> post m c (Φ₄ m c) t0_3.succ (stg c cc0_stg2_0 (outv m c))) := by
    unfold pre post Dat.owesAt
    unfold Pipeline.owesWithin
    iintro ⟨HΦ, ⟨%W, %hW, Ho⟩, H0, H1, ⟨%d, %f, %hf, H2⟩⟩
    iapply (ob_last m c (grid0.coords t0_3) rfl W _ (in_bound m c t0_3.succ) f)
    isplitl [HΦ]; · iexact HΦ
    isplitl [Ho]; · iexact Ho
    isplitl [H0]; · iapply (stg_in0 m c t0_3); iexact H0
    isplitl [H1]; · iapply (stg_in1 m c t0_3); iexact H1
    iexact H2
  exact h.trans (wp_fupd _ _ _ _ _)

theorem stage_0 (s) : stage0_0 s = Memref.whole cc0_stg0_0 := by
  obtain ⟨s, hs⟩ := s; obtain rfl : s = 0 := by omega
  rfl
theorem stage_1 (s) : stage0_1 s = Memref.whole cc0_stg1_0 := by
  obtain ⟨s, hs⟩ := s; obtain rfl : s = 0 := by omega
  rfl
theorem stage_2 (s) : stage0_2 s = Memref.whole cc0_stg2_0 := by
  obtain ⟨s, hs⟩ := s; obtain rfl : s = 0 := by omega
  rfl

theorem body_eq (t : Fin cfg0.N) (s : (w : Fin cfg0.W) → Fin (cfg0.win w).nbuf) : defs₀ (F := F) Proc.tc 0 (t, s) = bodyI (grid0.coords t) := by
  have h0 : s 0 = (0 : Fin 1) := Subsingleton.elim (α := Fin 1) _ _
  have h1 : s 1 = (0 : Fin 1) := Subsingleton.elim (α := Fin 1) _ _
  have h2 : s 2 = (0 : Fin 1) := Subsingleton.elim (α := Fin 1) _ _
  have hs : s = fun w => match w with | ⟨0, _⟩ => (0 : Fin 1) | ⟨1, _⟩ => (0 : Fin 1) | ⟨2, _⟩ => (0 : Fin 1) := by
    funext w
    match w with
    | ⟨0, _⟩ => exact h0
    | ⟨1, _⟩ => exact h1
    | ⟨2, _⟩ => exact h2
  subst hs
  rfl

/-- The output window is idle at every grid point but the last, and written back there. -/
theorem idle_0 : idle0 2 (grid0.coords t0_0) = true := by decide
theorem idle_1 : idle0 2 (grid0.coords t0_1) = true := by decide
theorem idle_2 : idle0 2 (grid0.coords t0_2) = true := by decide
theorem idle_3 : idle0 2 (grid0.coords t0_3) = false := by decide
theorem flush_0 : (win0 2).flush t0_0 = false := by decide
theorem flush_1 : (win0 2).flush t0_1 = false := by decide
theorem flush_2 : (win0 2).flush t0_2 = false := by decide

set_option maxRecDepth 20000 in
/-- The body's obligation on device `c`, at every grid point. -/
theorem body_obligation : BodyObligation (dats m 0 c) (defs₀ (F := F)) 𝒱₀ () Set.univ := fun t => by
  rw [bigSep_W, bigSep_W]
  rcases fin_N0 t with rfl | rfl | rfl | rfl
  · simp only [stage_0, stage_1, stage_2, owns_whole_eq, idle_0, flush_0]
    rw [body_eq]
    exact ob0 m c
  · simp only [stage_0, stage_1, stage_2, owns_whole_eq, idle_1, flush_1]
    rw [body_eq]
    exact ob1 m c
  · simp only [stage_0, stage_1, stage_2, owns_whole_eq, idle_2, flush_2]
    rw [body_eq]
    exact ob2 m c
  · simp only [stage_0, stage_1, stage_2, owns_whole_eq, idle_3]
    rw [body_eq]
    exact ob3 m c

end Points

/-! ## The launch -/

theorem ownSemFacts : Pipeline.OwnSemFacts cfg0.spec osem where
  isScoped := by decide +kernel
  inj := fun _ _ h => Sum.inr.inj (semOf_inj h)
  disj := by decide +kernel

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start
  iintro ⟨Hr, #Hlev, Hcr, -, ⟨%K, #HI, Hlin⟩⟩
  ihave Hc := (creds (F := F) c) $$ Hcr
  ihave Hr := (Entails.of_eq (show Pipeline.unscopedRestP (Ix := Unit) (Name := ℕ) (U := UU) (Lvl := ℕ) Pipeline.Prefetch.none cfg0.spec c (fun b => m ((c : Thread nD τ).loc b)) = _ from
    (Pipeline.unscopedRestP_none _ _ _).trans (unscopedRest0_eq c fun b => m ((c : Thread nD τ).loc b)))) $$ Hr
  imodintro
  isplitl
  · iexists K
    isplitr
    · unfold records; isplitl
      · unfold recs; iexact HI
      iexact Hlev
    isplitl [Hlin]; · iexact Hlin
    isplitl [Hc]; · iexact Hc
    iexact Hr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ Φ₀ m c
  unfold Φ₀
  iintro ⟨Hs, -, Hr⟩
  isplitl [Hs] <;> iassumption

/-- What a device keeps for the reading of the final memory: the barrier's counter and the two weight arguments. -/
def fin (c : Dev nD) : sProp 𝕄 :=
  iprop(unscopedSems0 c ∗ ((c : Thread nD τ).loc main_arg2 ↦{fullShare} m ((c : Thread nD τ).loc main_arg2)) ∗ ((c : Thread nD τ).loc main_arg3 ↦{fullShare} m ((c : Thread nD τ).loc main_arg3)))

theorem phi4_exit (c : Dev nD) :
    (dats m 0 c).Φ (Fin.last cfg0.N) ⊢ iprop(fin m c ∗ Pipeline.ownSems0 osem c ∗ Pipeline.scopedRest cfg0.spec c) := by
  show Φ₄ m c ⊢ _
  unfold Φ₄ fin
  iintro ⟨Hz, Hr, Ha⟩
  ihave Hz := (Entails.of_eq (sems_eq (F := F) c).symm) $$ Hz
  icases Hz with ⟨Hu, Ho⟩
  isplitl [Hu Ha]
  · isplitl [Hu]; · iexact Hu
    iexact Ha
  isplitl [Ho]; · iexact Ho
  iexact Hr

theorem lv_other (c : Dev nD) (sm : SemLoc sig) (h : ∀ k, semOf k ≠ sm) : lv ((c : Thread nD τ), sm) () ≤ 0 := by
  unfold lv keyOf
  rw [dif_neg fun hh => h _ hh.2.choose_spec]
  exact le_rfl

theorem stage_other (w : Fin cfg0.W) (s : Fin (cfg0.win w).nbuf) (k : Key) : semOf k ≠ .dma ((cfg0.win w).sem s) := by
  rcases k with _ | k
  · intro h; cases h
  · exact ownSemFacts.disj k w s

theorem waits (c : Dev nD) : (levAts L lv : sProp 𝕄) ⊢ Pipeline.cellsWaits cfgs (dats m) () 0 c :=
  Pipeline.cellsWaits_intro cfgs (dats m) () 0 c fun w s t => by
    have h0 := lv_other c _ (stage_other w s)
    have hx : ∀ (x : Fin 4), 0 < (![2, 2, 3, 4] : Fin 4 → ℕ) x := by decide
    rcases t with ⟨_ | _ | _ | _ | _, ht⟩
    · exact mayWait c _ 0 ![0, 0, 0, 0] 0 h0 (fun _ _ => Nat.zero_lt_one) (fun x _ _ => hx x)
    · exact mayWait c _ 7 ![7, 7, 7, 0] 0 h0 (fun _ _ => Nat.zero_lt_one) (fun x _ _ => hx x)
    · exact mayWait c _ 7 ![7, 7, 7, 0] 0 h0 (fun _ _ => Nat.zero_lt_one) (fun x _ _ => hx x)
    · exact mayWait c _ 7 ![7, 7, 7, 0] 0 h0 (fun _ _ => Nat.zero_lt_one) (fun x _ _ => hx x)
    · show _ ⊢ MayWait _ _ () 0
      rw [MayWait_zero]; iintro -; iempintro

theorem howedN (c : Dev nD) : (dats m 0 c).owed (Fin.last _) = 0 := rfl

/-- The contents read off the final memory: the barrier's counter at zero and the two weight arguments as they were. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

theorem read_end (c : Dev nD) (s' : Phys nD τ sig (Elt F)) : iprop(fin m c ∗ emp ∗ SI s') ⊢ (|={Set.univ}=> iprop(⌜QY m c s'.mem⌝ ∗ SI s') : sProp 𝕄) := by
  unfold fin
  iintro ⟨⟨Hu, Ha, Hb⟩, -, HSI⟩
  ihave HA := (persistent_entails_right (SI_pointsTo_agree (st := s') (ℓ := (c : Thread nD τ).loc main_arg2) (I := Finset.univ) (q := fullShare) (f := m ((c : Thread nD τ).loc main_arg2)))) $$ [HSI Ha]
  · isplitl [HSI] <;> iassumption
  icases HA with ⟨%hA, HSI, Ha⟩
  ihave HB := (persistent_entails_right (SI_pointsTo_agree (st := s') (ℓ := (c : Thread nD τ).loc main_arg3) (I := Finset.univ) (q := fullShare) (f := m ((c : Thread nD τ).loc main_arg3)))) $$ [HSI Hb]
  · isplitl [HSI] <;> iassumption
  icases HB with ⟨%hB, HSI, Hb⟩
  imod (Pipeline.unscopedSems0_read (X := unscopedSems0 c) (c := c) fupd_intro s') $$ [Hu HSI] with ⟨%hu, HSI⟩
  · isplitl [Hu] <;> iassumption
  imodintro
  isplitr
  · ipureintro
    exact ⟨hu, funext fun i => hA i (Finset.mem_univ i), funext fun i => hB i (Finset.mem_univ i)⟩
  iexact HSI

/-- What every run ends in: each device's result `outv`, its four arguments as they were, every counter at zero. -/
def Post (r : PUnit × MemSt nD τ sig (Elt F)) : Prop :=
  (∀ c : Dev nD, r.2.mem ((c : Thread nD τ).loc main_v1) = outv m c ∧ r.2.mem ((c : Thread nD τ).loc main_arg0) = m ((c : Thread nD τ).loc main_arg0)
    ∧ r.2.mem ((c : Thread nD τ).loc main_arg1) = m ((c : Thread nD τ).loc main_arg1) ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0

/-- The result array after the last point: the body's rows. -/
theorem arr_out (c : Dev nD) : (dats m 0 c).arrAt 2 cfg0.N = outv m c := by
  have hid : ∀ i : S128x1024.Idx, (((cfg0.win 2).blk t0_3).view.emb i : S128x1024.Idx) = i := fun i => by
    funext a; apply Fin.ext; fin_cases a <;> (show 0 + 1 * _ = _; rw [Nat.zero_add, Nat.one_mul])
  have hG : ∀ t, (cfg0.win 2).flush t = true → (dats m 0 c).flushed 2 t = ((cfg0.win 2).blk t).view.read (Elt F) (outv m c) := fun t ht => by
    have h3 := (flush0_2 t).mp ht
    rcases fin_N0 t with rfl | rfl | rfl | rfl
    · exact absurd h3 (by decide)
    · exact absurd h3 (by decide)
    · exact absurd h3 (by decide)
    · funext i
      exact (congrArg (outv m c) (hid i)).symm
  funext i
  refine (dats m 0 c).arrAt_apply_of_mem 2 (outv m c) hG cfg0.N t0_3 i (by decide) ((flush0_2 _).mpr (by decide)) ?_
  exact Finset.mem_map.mpr ⟨i, Finset.mem_univ _, hid i⟩

set_option maxRecDepth 8000 in
/-- From any memory with zero counters, every weakly fair execution of the eight devices terminates, and ends in `Post`. -/
theorem run_main : θ_run defs (onTc (τ := τ) (main (F := F))) ⟨m, fun _ => 0, ρ⟩ (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := howedN m)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m) (hout := phi4_exit m)
    (QY := QY m)
    (hY := read_end m)
    (hQ := fun s h hs => ⟨fun c => ⟨((h c).1 2).trans (arr_out m c), ((h c).1 0).trans ((dats m 0 c).arrAt_in 0 rfl _), ((h c).1 1).trans ((dats m 0 c).arrAt_in 1 rfl _),
      (h c).2.2.2.1, (h c).2.2.2.2⟩, sem_eq_zero hs fun c => (h c).2.2.1⟩)

end Cert.KernelIdeal.Moe
-- ==== Proof.Route.lean ====
module

public import Idealize.ShloMosaic.PureOps.Ideal.Laws
public import proofs.«01_k».proof.Proof.Slots

@[expose] public section
noncomputable section
namespace Cert.Moe
open Idealize.ShloMosaic

/-- The float pattern of minus infinity, as an extended real: where both programs start a maximum. -/
def NI : EReal := Ideal.ofBits .f32 0xFF800000#32

/-- The greatest of a row's gates. -/
def top (g : Fin 32 → EReal) : EReal := Finset.fold max NI g Finset.univ

/-- The greatest of a row's gates other than the greatest. -/
def sec (g : Fin 32 → EReal) : EReal := Finset.fold max NI (fun x => if g x = top g then NI else g x) Finset.univ

/-- The weight a row of gates gives expert `e`: the softmax over the two greatest gates, and nought elsewhere. -/
def wgt (g : Fin 32 → EReal) (e : Fin 32) : EReal :=
  if g e = top g then Ideal.div 1 (1 + Ideal.exp (sec g - top g))
  else if g e = sec g then Ideal.div (Ideal.exp (sec g - top g)) (1 + Ideal.exp (sec g - top g)) else 0

/-- One entry of one expert's two layers on one row. -/
def ffn (x : Fin 1024 → EReal) (a : Fin 1024 → Fin 2048 → EReal) (b : Fin 2048 → Fin 1024 → EReal) (k : Fin 1024) : EReal :=
  ∑ f : Fin 2048, max (∑ d : Fin 1024, x d * a d f) 0 * b f k

/-- No gate exceeds the greatest. -/
theorem le_top (g : Fin 32 → EReal) (e : Fin 32) : g e ≤ top g := Finset.le_fold_max _ |>.2 (.inr ⟨e, Finset.mem_univ _, le_rfl⟩)

/-- A gate is at least the greatest just when it is the greatest. -/
theorem top_le (g : Fin 32 → EReal) (e : Fin 32) : top g ≤ g e ↔ g e = top g := ⟨fun h => le_antisymm (le_top g e) h, fun h => h.ge⟩

/-- A gate other than the greatest does not exceed the second. -/
theorem le_sec (g : Fin 32 → EReal) (e : Fin 32) (h : g e ≠ top g) : g e ≤ sec g :=
  Finset.le_fold_max _ |>.2 (.inr ⟨e, Finset.mem_univ _, by rw [if_neg h]⟩)

/-- The second greatest, masking by order instead of by equality. -/
theorem sec_mask (g : Fin 32 → EReal) : Finset.fold max NI (fun x => if top g ≤ g x then NI else g x) Finset.univ = sec g := by
  unfold sec; congr 1; funext x; simp only [top_le]

/-- The kernel's weight, a sum of two masked terms, is the weight. -/
theorem wgt_sum (g : Fin 32 → EReal) (e : Fin 32) (z : EReal) (hz : z = 0) :
    (if top g ≤ g e then Ideal.div 1 (1 + Ideal.exp (sec g - top g)) else z)
      + Scalar.select (IntOp.andi (BitVec.ofBool (decide (sec g ≤ g e))) (BitVec.ofBool (decide (g e < top g))))
          (Ideal.div (Ideal.exp (sec g - top g)) (1 + Ideal.exp (sec g - top g))) z = wgt g e := by
  subst hz
  unfold wgt
  by_cases h : g e = top g
  · have h2 : ¬ g e < top g := by rw [h]; exact lt_irrefl _
    rw [if_pos ((top_le g e).2 h), if_pos h, decide_eq_false h2]
    cases hd : decide (sec g ≤ g e) <;> exact add_zero _
  · have h2 : g e < top g := lt_of_le_of_ne (le_top g e) h
    rw [if_neg (fun h' => h ((top_le g e).1 h')), if_neg h, decide_eq_true h2, zero_add]
    by_cases h3 : g e = sec g
    · rw [if_pos h3, decide_eq_true h3.ge]; rfl
    · rw [if_neg h3, decide_eq_false (fun h' => h3 (le_antisymm (le_sec g e h) h'))]; rfl

/-- Row `i` of device `c`'s block of rows. -/
def row (c : Fin 8) (i : Fin 128) : Fin 1024 := ⟨c.val * 128 + i.val, by omega⟩
/-- Expert `e` of device `c`'s experts. -/
def col (c : Fin 8) (e : Fin 4) : Fin 32 := ⟨c.val * 4 + e.val, by omega⟩

/-- An expert is the one of its place on its device. -/
theorem col_div (e : Fin 32) (h1 : e.val / 4 < 8) (h2 : e.val % 4 < 4) : col ⟨e.val / 4, h1⟩ ⟨e.val % 4, h2⟩ = e :=
  Fin.ext (by show e.val / 4 * 4 + e.val % 4 = e.val; omega)

/-- A sum over all experts, device by device. -/
theorem sum_col (f : Fin 32 → EReal) : ∑ e, f e = ∑ d : Fin 8, ∑ e : Fin 4, f (col d e) := by
  rw [← Equiv.sum_comp (finProdFinEquiv : Fin 8 × Fin 4 ≃ Fin (8 * 4)) f, Fintype.sum_prod_type]
  refine Finset.sum_congr rfl fun d _ => Finset.sum_congr rfl fun e _ => congrArg f (Fin.ext ?_)
  show e.val + 4 * d.val = d.val * 4 + e.val
  omega

/-- A sum over all devices: one device's term and its peers'. -/
theorem sum_peers (c : Fin 8) (f : Fin 8 → EReal) : ∑ d, f d = f c + ∑ j : Fin 7, f (peer c j) := by
  rw [← Finset.add_sum_erase Finset.univ f (Finset.mem_univ c), erase_eq_peers, Finset.sum_map]; rfl

/-- Two lane numbers are equal as words just when they are the same lane. -/
theorem lane_eq : ∀ x y : Fin 32, IntOp.cmpi .eq (BitVec.ofNat 32 x.val) (BitVec.ofNat 32 y.val) = BitVec.ofBool (decide (x = y)) := by
  decide +kernel

/-- A sum over the lanes that keeps one lane is that lane's entry. -/
theorem sum_lane (v : Fin 32 → EReal) (y : Fin 32) (z : EReal) (hz : z = 0) :
    (∑ x : Fin 32, Scalar.select (IntOp.cmpi .eq (BitVec.ofNat 32 x.val) (BitVec.ofNat 32 y.val)) (v x) z) = v y := by
  subst hz
  rw [Finset.sum_eq_single y]
  · rw [lane_eq, decide_eq_true rfl]; rfl
  · intro x _ hx; rw [lane_eq, decide_eq_false hx]; rfl
  · exact fun h => absurd (Finset.mem_univ y) h

end Cert.Moe
end
-- ==== Proof.Rows.lean ====
/- What the kernel's values are over the extended reals, entry by entry. -/
module

public import proofs.«01_k».proof.Proof.Sched
public import proofs.«01_k».proof.Proof.Route
public import Idealize.ShloMosaic.Lib.Pointwise
public import Idealize.ShloMosaic.Lib.Pointwise.IndexBridge
public import Idealize.ShloMosaic.PureOps.Ideal.Laws

@[expose] public section
set_option pp.maxSteps 600
set_option maxRecDepth 16384
noncomputable section
namespace Cert.KernelIdeal.Moe
open Cert.KernelIdeal Cert.KernelIdeal.Gen Cert.Moe
open Idealize.ShloMosaic

/-! ## The gates -/

theorem pay5_apply (R : Vec Ideal S8x4x1024 .f32) (x : Vec Ideal S128x1024 .f32) (i : Fin 128) (e : Fin 32) :
    k0_pay5 R x (ix2 i e) = ∑ k : Fin 1024, x (ix2 i k) * R (ix3 ⟨e.val / 4, by omega⟩ ⟨e.val % 4, by omega⟩ k) := by
  pointwise [k0_pay5]

theorem pay6_apply (R : Vec Ideal S8x4x1024 .f32) (x : Vec Ideal S128x1024 .f32) (i : Fin 128) (e : Fin 1) :
    k0_pay6 R x (ix2 i e) = top fun j => k0_pay5 R x (ix2 i j) := by
  unfold k0_pay6; generalize k0_pay5 R x = g
  pointwise []; rfl

theorem pay7_apply (R : Vec Ideal S8x4x1024 .f32) (x : Vec Ideal S128x1024 .f32) (i : Fin 128) (e : Fin 1) :
    k0_pay7 R x (ix2 i e) = sec fun j => k0_pay5 R x (ix2 i j) := by
  rw [← sec_mask, ← pay6_apply R x i 0]
  unfold k0_pay7; generalize k0_pay6 R x = t; generalize k0_pay5 R x = g
  pointwise []; rfl

theorem pay8_apply (R : Vec Ideal S8x4x1024 .f32) (x : Vec Ideal S128x1024 .f32) (i : Fin 128) (e : Fin 1) :
    k0_pay8 R x (ix2 i e) = Ideal.exp (sec (fun j => k0_pay5 R x (ix2 i j)) - top (fun j => k0_pay5 R x (ix2 i j))) := by
  rw [← pay6_apply R x i 0, ← pay7_apply R x i 0, Subsingleton.elim e 0]
  unfold k0_pay8; generalize k0_pay6 R x = t; generalize k0_pay7 R x = g
  pointwise []

theorem pay9_apply (R : Vec Ideal S8x4x1024 .f32) (x : Vec Ideal S128x1024 .f32) (i : Fin 128) (e : Fin 32) :
    k0_pay9 (k0_pay5 R x) (k0_pay6 R x) (k0_pay7 R x) (k0_pay8 R x) (Scalar.ofBits .f32 0x3F800000#32) (ix3 0 i e)
      = wgt (fun j => k0_pay5 R x (ix2 i j)) e := by
  rw [← wgt_sum _ _ _ rfl, ← pay8_apply R x i 0, ← pay6_apply R x i 0, ← pay7_apply R x i 0]
  generalize k0_pay6 R x = t; generalize k0_pay7 R x = s; generalize k0_pay8 R x = d; generalize k0_pay5 R x = g
  pointwise [k0_pay9]

/-! ## The experts -/

theorem pay13_apply (w : BitVec 32) (v : Vec Ideal S1x128x32 .f32) (y : Fin 32) (hw : w = BitVec.ofNat 32 y.val) (i : Fin 128) :
    k0_pay13 lanes w v (ix1 i) = v (ix3 0 i y) := by
  rw [← sum_lane (fun x => v (ix3 0 i x)) y 0 rfl, ← hw]
  pointwise [k0_pay13, lanes]

theorem pay14_apply (w1 : Vec Ideal S1x1024x2048 .f32) (w2 : Vec Ideal S1x2048x1024 .f32) (x : Vec Ideal S1x128x1024 .bf16)
    (g : FVec Ideal S128 .f32) (i : Fin 128) (k : Fin 1024) :
    k0_pay14 (k0_pay10 w1) (k0_pay11 w2) (k0_pay12 x) g (ix3 0 i k)
      = ffn (fun d => x (ix3 0 i d)) (fun d f => w1 (ix3 0 d f)) (fun f k => w2 (ix3 0 f k)) k * g (ix1 i) := by
  unfold ffn; pointwise [k0_pay14, k0_pay10, k0_pay11, k0_pay12]

theorem pay29_apply (w : BitVec 32) (w1 : Vec Ideal S1x1024x2048 .f32) (w2 : Vec Ideal S1x2048x1024 .f32) (a : Vec Ideal S1x128x1024 .f32)
    (x : Vec Ideal S1x128x1024 .bf16) (v : Vec Ideal S1x128x32 .f32) (y : Fin 32) (hw : w = BitVec.ofNat 32 y.val) (i : Fin 128) (k : Fin 1024) :
    k0_pay29 (k0_pay28 lanes w w1 w2 a x v) (ix3 0 i k)
      = a (ix3 0 i k) + ffn (fun d => x (ix3 0 i d)) (fun d f => w1 (ix3 0 d f)) (fun f k => w2 (ix3 0 f k)) k * v (ix3 0 i y) := by
  rw [← sum_lane (fun x => v (ix3 0 i x)) y 0 rfl, ← hw]
  unfold ffn; pointwise [k0_pay29, k0_pay28, k0_pay26, k0_pay27, lanes]

theorem pay48_apply (w : BitVec 32) (w1 : Vec Ideal S1x1024x2048 .f32) (w2 : Vec Ideal S1x2048x1024 .f32) (a : Vec Ideal S1x128x1024 .f32)
    (x : Vec Ideal S1x128x1024 .bf16) (v : Vec Ideal S1x128x32 .f32) (y : Fin 32) (hw : w = BitVec.ofNat 32 y.val) (i : Fin 128) (k : Fin 1024) :
    k0_pay48 lanes w (k0_pay46 w1) w2 a x v (ix3 0 i k)
      = a (ix3 0 i k) + ffn (fun d => x (ix3 0 i d)) (fun d f => w1 (ix3 0 d f)) (fun f k => w2 (ix3 0 f k)) k * v (ix3 0 i y) := by
  rw [← sum_lane (fun x => v (ix3 0 i x)) y 0 rfl, ← hw]
  unfold ffn; pointwise [k0_pay48, k0_pay46, k0_pay47, lanes]

theorem pay72_apply (w : BitVec 32) (w1 : Vec Ideal S1x1024x2048 .f32) (w2 : Vec Ideal S1x2048x1024 .f32) (a : Vec Ideal S1x128x1024 .f32)
    (x r : Vec Ideal S1x128x1024 .bf16) (v : Vec Ideal S1x128x32 .f32) (y : Fin 32) (hw : w = BitVec.ofNat 32 y.val) (i : Fin 128) (k : Fin 1024) :
    k0_pay72 (k0_pay47 w2) (k0_pay69 a) (k0_pay70 lanes w v) (k0_pay71 (k0_pay46 w1) x) r (ix2 i k)
      = a (ix3 0 i k) + ffn (fun d => x (ix3 0 i d)) (fun d f => w1 (ix3 0 d f)) (fun f k => w2 (ix3 0 f k)) k * v (ix3 0 i y) + r (ix3 0 i k) := by
  rw [← sum_lane (fun x => v (ix3 0 i x)) y 0 rfl, ← hw]
  unfold ffn; pointwise [k0_pay72, k0_pay47, k0_pay69, k0_pay70, k0_pay71, k0_pay46, lanes]

theorem pay76_apply (t : FVec Ideal S128x1024 .f32) (a b c d e f : Vec Ideal S1x128x1024 .bf16) (i : Fin 128) (k : Fin 1024) :
    k0_pay76 (k0_pay75 (k0_pay74 t (k0_pay73 a) b c) d e) f (ix2 i k)
      = t (ix2 i k) + a (ix3 0 i k) + b (ix3 0 i k) + c (ix3 0 i k) + d (ix3 0 i k) + e (ix3 0 i k) + f (ix3 0 i k) := by
  pointwise [k0_pay76, k0_pay75, k0_pay74, k0_pay73]

theorem Vx_apply (m : (ℓ : Loc nD τ sig) → Buf (Elt Ideal) ℓ) (c : Dev nD) (i : Fin 128) (k : Fin 1024) : Vx m c (ix3 0 i k) = xin m c (ix2 i k) := by
  pointwise [Vx, xbf, k0_pay2, k0_pay1]

theorem Vr_apply (m : (ℓ : Loc nD τ sig) → Buf (Elt Ideal) ℓ) (c : Dev nD) (e : Fin 4) (k : Fin 1024) : Vr m c (ix3 0 e k) = rin m c (ix2 k e) := by
  pointwise [Vr, rst, k0_pay4, k0_pay3]

theorem RF_apply (m : (ℓ : Loc nD τ sig) → Buf (Elt Ideal) ℓ) (c : Dev nD) (e : Fin 4) (k : Fin 1024) : RF m (ix3 c e k) = rin m c (ix2 k e) := by
  rw [← Vr_apply]
  show Vr m c (ValueIdx.ix3 0 e k) = _
  rw [← ix3_eq_valueIdx]

/-- The number of a device's expert, as the kernel computes it. -/
theorem ge_eq : ∀ (c : Dev nD) (e : Fin 4), ge c e.val = BitVec.ofNat 32 (col c e).val := by decide +kernel

end Cert.KernelIdeal.Moe
end
-- ==== Proof.RefValue.lean ====
/- What the reference computes, entry by entry. -/
module

public import proofs.«01_k».proof.Proof.Gen.ReferenceIdeal.Run
public import proofs.«01_k».proof.Proof.Route
public import Idealize.ShloMosaic.Lib.Pointwise
public import Idealize.ShloMosaic.PureOps.Ideal.Laws

@[expose] public section
set_option pp.maxSteps 600
set_option maxRecDepth 16384
noncomputable section
namespace Cert.ReferenceIdeal.Moe
open Cert.ReferenceIdeal Cert.ReferenceIdeal.Gen Cert.Moe
open Idealize.ShloMosaic Idealize.ShloMosaic.StableHlo

/-- The gates. -/
def gates (x : FVec Ideal S1024x1024 .f32) (r : FVec Ideal S1024x32 .f32) : FVec Ideal S1024x32 .f32 :=
  Host.dotGeneral dot_S1024x1024_S1024x32_S1024x32_1_0_0_1_n_n (some .fp32) x r

/-- Each row's greatest entry. -/
def M1 (g : FVec Ideal S1024x32 .f32) : FVec Ideal S1024x1 .f32 :=
  broadcastInDim S1024x1 ![0] bcast_S1024_S1024x1_0 (Host.reduce FloatOps.maximumf g (constant S_ .f32 0xFF800000#32) reducesTo_S1024x32_S1024_d1 h_S_)

/-- The entries with each row's greatest masked out. -/
def masked (g : FVec Ideal S1024x32 .f32) : FVec Ideal S1024x32 .f32 :=
  select (cmpf .oeq g (broadcastInDim S1024x32 ![0, 1] bcast_S1024x1_S1024x32_0_1 (M1 g))) (broadcastInDim S1024x32 ![] bcast_S_S1024x32 (id (constant S_ .f32 0xFF800000#32))) g

/-- Each row's greatest entry but one. -/
def M2 (g : FVec Ideal S1024x32 .f32) : FVec Ideal S1024x1 .f32 := M1 (masked g)

/-- Each row's normalizer. -/
def Z (g : FVec Ideal S1024x32 .f32) : FVec Ideal S1024x1 .f32 :=
  addf (broadcastInDim S1024x1 ![] bcast_S_S1024x1 (constant S_ .f32 0x3F800000#32)) (Host.exp (subf (M2 g) (M1 g)))

/-- The weights. -/
def W (g : FVec Ideal S1024x32 .f32) : FVec Ideal S1024x32 .f32 :=
  select (cmpf .oeq g (broadcastInDim S1024x32 ![0, 1] bcast_S1024x1_S1024x32_0_1 (M1 g)))
    (broadcastInDim S1024x32 ![0, 1] bcast_S1024x1_S1024x32_0_1 (Host.divf (broadcastInDim S1024x1 ![] bcast_S_S1024x1 (constant S_ .f32 0x3F800000#32)) (Z g)))
    (select (cmpf .oeq g (broadcastInDim S1024x32 ![0, 1] bcast_S1024x1_S1024x32_0_1 (M2 g)))
      (broadcastInDim S1024x32 ![0, 1] bcast_S1024x1_S1024x32_0_1 (Host.divf (Host.exp (subf (M2 g) (M1 g))) (Z g)))
      (broadcastInDim S1024x32 ![] bcast_S_S1024x32 (id (constant S_ .f32 0x00000000#32))))

/-- Every expert's layers on every row. -/
def Y (x : FVec Ideal S1024x1024 .f32) (w1 : FVec Ideal S32x1024x2048 .f32) (w2 : FVec Ideal S32x2048x1024 .f32) : FVec Ideal S32x1024x1024 .f32 :=
  Host.dotGeneral dot_S32x1024x2048_S32x2048x1024_S32x1024x1024_2_1_1_2_0_0 none (maximumf (transpose S32x1024x2048 [0, 2, 1] (Host.dotGeneral dot_S32x1024x2048_S1024x1024_S32x2048x1024_1_1_02_0_n_n none w1 x) transposes_S32x2048x1024_S32x1024x2048_0_2_1) (broadcastInDim S32x1024x2048 ![] bcast_S_S32x1024x2048 (constant S_ .f32 0x00000000#32))) w2

/-- The result. -/
def out (x : FVec Ideal S1024x1024 .f32) (r : FVec Ideal S1024x32 .f32) (w1 : FVec Ideal S32x1024x2048 .f32) (w2 : FVec Ideal S32x2048x1024 .f32) : FVec Ideal S1024x1024 .f32 :=
  Host.reduceAdd (mulf (Y x w1 w2) (broadcastInDim S32x1024x1024 ![0, 1, 2] bcast_S32x1024x1_S32x1024x1024_0_1_2 (broadcastInDim S32x1024x1 ![0, 1] bcast_S32x1024_S32x1024x1_0_1 (transpose S32x1024 [1, 0] (W (gates x r)) transposes_S1024x32_S32x1024_1_0)))) (constant S_ .f32 0x00000000#32) reducesTo_S32x1024x1024_S1024x1024_d0 h_S_

/-- The reference's result is `out` of its arguments. -/
theorem res_eq (m : (ℓ : Loc nD τ sig) → Buf (Elt Ideal) ℓ) (c : Dev nD) :
    Value.res_out0 m c = out (m ((c.tc : Thread nD τ).loc main_arg0)) (m ((c.tc : Thread nD τ).loc main_arg1)) (m ((c.tc : Thread nD τ).loc main_arg2)) (m ((c.tc : Thread nD τ).loc main_arg3)) := by
  unfold Value.res_out0 Value.res_main_v32; rfl

theorem gates_apply (x r) (i : Fin 1024) (e : Fin 32) : gates x r (ix2 i e) = ∑ k : Fin 1024, x (ix2 i k) * r (ix2 k e) := by pointwise [gates]

theorem M1_apply (g) (i : Fin 1024) (e : Fin 1) : M1 g (ix2 i e) = top fun x => g (ix2 i x) := by
  pointwise [M1]; rfl

theorem masked_apply (g) (i : Fin 1024) (e : Fin 32) :
    masked g (ix2 i e) = if g (ix2 i e) = top (fun x => g (ix2 i x)) then NI else g (ix2 i e) := by
  rw [← M1_apply g i 0]
  unfold masked; generalize M1 g = a
  pointwise []; rfl

theorem M2_apply (g) (i : Fin 1024) (e : Fin 1) : M2 g (ix2 i e) = sec fun x => g (ix2 i x) := by
  unfold M2; rw [M1_apply]; unfold top sec; simp only [masked_apply]

theorem W_apply (g) (i : Fin 1024) (e : Fin 32) : W g (ix2 i e) = wgt (fun x => g (ix2 i x)) e := by
  unfold wgt
  rw [← M1_apply g i 0, ← M2_apply g i 0]
  unfold W Z; generalize M1 g = a; generalize M2 g = b
  pointwise []
  have h0 : (id (constant (F := Ideal) S_ .f32 0#32)) ix0 = (0 : EReal) := Ideal.ofBits_zero_f32
  rw [h0]

theorem Y_apply (x w1 w2) (i : Fin 1024) (e : Fin 32) (k : Fin 1024) :
    Y x w1 w2 (ix3 e i k) = ffn (fun d => x (ix2 i d)) (fun d f => w1 (ix3 e d f)) (fun f k => w2 (ix3 e f k)) k := by
  unfold ffn; pointwise [Y]
  refine Finset.sum_congr rfl fun f _ => ?_
  rw [Finset.sum_congr rfl fun d _ => mul_comm (w1 (ix3 e d f)) (x (ix2 i d))]

/-- One entry of the result: over the experts, the expert's entry times the row's weight for it. -/
theorem out_apply (x r w1 w2) (i : Fin 1024) (k : Fin 1024) : out x r w1 w2 (ix2 i k) =
    ∑ e : Fin 32, ffn (fun d => x (ix2 i d)) (fun d f => w1 (ix3 e d f)) (fun f k => w2 (ix3 e f k)) k
      * wgt (fun e' => ∑ k : Fin 1024, x (ix2 i k) * r (ix2 k e')) e := by
  simp only [← Y_apply, ← gates_apply, ← W_apply]
  generalize hy : Y x w1 w2 = y
  generalize hw : W (gates x r) = w
  unfold out; rw [hy, hw]; clear hy hw
  pointwise []

end Cert.ReferenceIdeal.Moe
end
-- ==== Proof.Value.lean ====
/- The kernel's result over the extended reals: each device's rows are its rows of the mixture over all experts. -/
module

public import proofs.«01_k».proof.Proof.Rows
public import proofs.«01_k».proof.Proof.BodyLast
public import proofs.«01_k».proof.Proof.RefValue
public import Idealize.ShloMosaic.Lib.Layout

@[expose] public section
set_option pp.maxSteps 600
set_option maxRecDepth 16384
noncomputable section
namespace Cert.KernelIdeal.Moe
open Cert.KernelIdeal Cert.KernelIdeal.Gen Cert.Moe
open Idealize.ShloMosaic
open Idealize.ShloMosaic.TcCoe

variable (m : (ℓ : Loc nD τ sig) → Buf (Elt Ideal) ℓ)
variable (X : (⟨2, ![1024, 1024]⟩ : Shape).Idx → EReal) (R : (⟨2, ![1024, 32]⟩ : Shape).Idx → EReal)
variable (A : (⟨3, ![32, 1024, 2048]⟩ : Shape).Idx → EReal) (B : (⟨3, ![32, 2048, 1024]⟩ : Shape).Idx → EReal)

/-- Each device's arguments are its blocks of the whole arrays, entry by entry. -/
structure Blocks : Prop where
  x : ∀ c i k, xin m c (ix2 i k) = X (ix2 (row c i) k)
  r : ∀ c k e, rin m c (ix2 k e) = R (ix2 k (col c e))
  a : ∀ c e d f, w1 m c e (ix3 0 d f) = A (ix3 (col c e) d f)
  b : ∀ c e f k, w2 m c e (ix3 0 f k) = B (ix3 (col c e) f k)

/-- The gates of one row of the whole array. -/
def gate (t : Fin 1024) (e : Fin 32) : EReal := ∑ k : Fin 1024, X (ix2 t k) * R (ix2 k e)

/-- Expert `e`'s part of an entry of the mixture. -/
def part (t : Fin 1024) (k : Fin 1024) (e : Fin 32) : EReal :=
  ffn (fun d => X (ix2 t d)) (fun d f => A (ix3 e d f)) (fun f k => B (ix3 e f k)) k * wgt (gate X R t) e

variable {m X R A B} (H : Blocks m X R A B)
include H

/-- A device's gates are those of its rows. -/
theorem Vw_apply (c : Dev nD) (i : Fin 128) (e : Fin 32) : Vw m c (ix3 0 i e) = wgt (gate X R (row c i)) e := by
  unfold Vw; rw [pay9_apply]; congr 1; funext j
  rw [pay5_apply]; unfold gate
  refine Finset.sum_congr rfl fun k _ => ?_
  rw [RF_apply, H.x, H.r, col_div]

/-- One expert's part, as device `c` computes it of the rows of device `p`. -/
theorem part_eq (c p : Dev nD) (e : Fin 4) (i : Fin 128) (k : Fin 1024) :
    ffn (fun d => Vx m p (ix3 0 i d)) (fun d f => w1 m c e (ix3 0 d f)) (fun f k => w2 m c e (ix3 0 f k)) k * Vw m p (ix3 0 i (col c e))
      = part X R A B (row p i) k (col c e) := by
  unfold part
  simp only [Vx_apply, H.x, H.a, H.b, Vw_apply H]

theorem acc_zero (c p : Dev nD) (i : Fin 128) (k : Fin 1024) : acc m c 0 p (ix3 0 i k) = part X R A B (row p i) k (col c 0) := by
  unfold acc; rw [pay14_apply, pay13_apply _ _ _ (show ge c 0 = _ from ge_eq c 0), part_eq H]

theorem acc_one (c p : Dev nD) (i : Fin 128) (k : Fin 1024) :
    acc m c 1 p (ix3 0 i k) = part X R A B (row p i) k (col c 0) + part X R A B (row p i) k (col c 1) := by
  rw [acc]; show k0_pay29 (k0_pay28 lanes (ge c (1 : Fin 4).val) (w1 m c 1) (w2 m c 1) _ _ _) _ = _
  rw [pay29_apply _ _ _ _ _ _ _ (ge_eq c 1), acc_zero H, part_eq H]

theorem acc_two (c p : Dev nD) (i : Fin 128) (k : Fin 1024) :
    acc m c 2 p (ix3 0 i k) = part X R A B (row p i) k (col c 0) + part X R A B (row p i) k (col c 1) + part X R A B (row p i) k (col c 2) := by
  rw [acc]; show k0_pay29 (k0_pay28 lanes (ge c (2 : Fin 4).val) (w1 m c 2) (w2 m c 2) _ _ _) _ = _
  rw [pay29_apply _ _ _ _ _ _ _ (ge_eq c 2), acc_one H, part_eq H]

/-- What device `c` returns to device `p`: its experts' parts of that device's rows. -/
theorem ret_apply (c p : Dev nD) (i : Fin 128) (k : Fin 1024) : ret m c p (ix3 0 i k) = ∑ e : Fin 4, part X R A B (row p i) k (col c e) := by
  unfold ret
  rw [pay48_apply _ _ _ _ _ _ _ (show ge c 3 = _ from ge_eq c 3), acc_two H, part_eq H, Fin.sum_univ_four]

/-- A device's result: the mixture over all the experts, of its rows. -/
theorem outv_apply (c : Dev nD) (i : Fin 128) (k : Fin 1024) : outv m c (ix2 i k) = ∑ e : Fin 32, part X R A B (row c i) k e := by
  rw [sum_col, sum_peers c, Fin.sum_univ_seven]
  unfold outv
  rw [pay76_apply, pay72_apply _ _ _ _ _ _ _ _ (show ge c 3 = _ from ge_eq c 3), acc_two H, part_eq H]
  simp only [ret_apply H]
  rw [Fin.sum_univ_four (fun e => part X R A B (row c i) k (col c e))]
  ac_rfl

omit H

/-- The block hypotheses give the entries. -/
theorem blocks (hx : ∀ c : Dev nD, m ((c : Thread nD τ).loc main_arg0) = Layout.block ⟨2, ![128, 1024]⟩ ⟨2, ![1024, 1024]⟩ 0 8 c X)
    (hr : ∀ c : Dev nD, m ((c : Thread nD τ).loc main_arg1) = Layout.block ⟨2, ![1024, 4]⟩ ⟨2, ![1024, 32]⟩ 1 8 c R)
    (ha : ∀ c : Dev nD, m ((c : Thread nD τ).loc main_arg2) = Layout.block ⟨3, ![4, 1024, 2048]⟩ ⟨3, ![32, 1024, 2048]⟩ 0 8 c A)
    (hb : ∀ c : Dev nD, m ((c : Thread nD τ).loc main_arg3) = Layout.block ⟨3, ![4, 2048, 1024]⟩ ⟨3, ![32, 2048, 1024]⟩ 0 8 c B) :
    Blocks m X R A B where
  x c i k := by
    show (m ((c : Thread nD τ).loc main_arg0) : S128x1024.Idx → EReal) ((win0_0.blk (0 : Fin 4)).view.emb (ix2 i k)) = _
    rw [hx c, Layout.block_apply]
    refine congrArg X (funext fun a => Fin.ext ?_)
    rw [Layout.Tiles.idx_val]
    fin_cases a
    · show c.val * 128 + (0 + 1 * i.val) = c.val * 128 + i.val; omega
    · show 0 + 1 * k.val = k.val; omega
  r c k e := by
    show (m ((c : Thread nD τ).loc main_arg1) : S1024x4.Idx → EReal) ((win0_1.blk (0 : Fin 4)).view.emb (ix2 k e)) = _
    rw [hr c, Layout.block_apply]
    refine congrArg R (funext fun a => Fin.ext ?_)
    rw [Layout.Tiles.idx_val]
    fin_cases a
    · show 0 + 1 * k.val = k.val; omega
    · show c.val * 4 + (0 + 1 * e.val) = c.val * 4 + e.val; omega
  a c e d f := by
    unfold w1; rw [ha c, Layout.block_apply]
    refine congrArg A (funext fun a => Fin.ext ?_)
    rw [Layout.Tiles.idx_val]
    fin_cases a
    · show c.val * 4 + (e.val + 1 * 0) = c.val * 4 + e.val; omega
    · show 0 + 1 * d.val = d.val; omega
    · show 0 + 1 * f.val = f.val; omega
  b c e f k := by
    unfold w2; rw [hb c, Layout.block_apply]
    refine congrArg B (funext fun a => Fin.ext ?_)
    rw [Layout.Tiles.idx_val]
    fin_cases a
    · show c.val * 4 + (e.val + 1 * 0) = c.val * 4 + e.val; omega
    · show 0 + 1 * f.val = f.val; omega
    · show 0 + 1 * k.val = k.val; omega

include H

/-- A device's result is its block of the reference's. -/
theorem outv_eq (c : Dev nD) : outv m c = Layout.block ⟨2, ![128, 1024]⟩ ⟨2, ![1024, 1024]⟩ 0 8 c (Cert.ReferenceIdeal.Moe.out X R A B) := by
  have h : ∀ (i : Fin 128) (k : Fin 1024) (h : Layout.Tiles ⟨2, ![128, 1024]⟩ ⟨2, ![1024, 1024]⟩ 0 8),
      outv m c (ix2 i k) = Cert.ReferenceIdeal.Moe.out X R A B (h.idx c (ix2 i k)) := fun i k h => by
    have hi : h.idx c (ix2 i k) = ix2 (row c i) k := by
      funext a; apply Fin.ext; rw [Layout.Tiles.idx_val]; fin_cases a <;> rfl
    rw [outv_apply H, hi, Cert.ReferenceIdeal.Moe.out_apply]; rfl
  funext j
  obtain ⟨i, k, rfl⟩ : ∃ (i : Fin 128) (k : Fin 1024), j = ix2 i k := ⟨j 0, j 1, by funext a; fin_cases a <;> rfl⟩
  exact h i k _

end Cert.KernelIdeal.Moe
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Bits.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel at machine floats: it terminates, faults nowhere, changes no argument and leaves every counter at zero. -/
theorem frame_Kernel : quiescent_Kernel (hKernel := Cert.Kernel.Gen.facts) := fun m g _ =>
  (θ_run Cert.Kernel.defs _ _).mono (fun _ h => ⟨fun c => (h.1 c).2, h.2⟩) (Cert.Kernel.Moe.run_main (F := Bits) m g)

/-- The kernel over the extended reals, likewise. -/
theorem frame_KernelIdeal : quiescent_KernelIdeal (hKernelIdeal := Cert.KernelIdeal.Gen.facts) := fun m g _ =>
  (θ_run Cert.KernelIdeal.defs _ _).mono (fun _ h => ⟨fun c => (h.1 c).2, h.2⟩) (Cert.KernelIdeal.Moe.run_main (F := Ideal) m g)

/-- The reference, likewise. -/
theorem frame_ReferenceIdeal : quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals each device's result is its block of rows of the reference's result on the whole arrays. -/
theorem kernel_is_reference : algebraic_KernelIdeal_ReferenceIdeal (hKernelIdeal := Cert.KernelIdeal.Gen.facts) (hReferenceIdeal := Cert.ReferenceIdeal.Gen.facts) := by
  intro m g m' g' _ h
  have H := Cert.KernelIdeal.Moe.blocks (fun c => (h c).1) (fun c => (h c).2.1) (fun c => (h c).2.2.1) (fun c => (h c).2.2.2)
  refine ⟨Cert.ReferenceIdeal.Value.res_out0 m' 0, ?_, ?_⟩
  · refine (θ_run Cert.KernelIdeal.defs _ _).mono (fun r h' c => ⟨?_, (h'.1 c).2⟩) (Cert.KernelIdeal.Moe.run_main (F := Ideal) m g)
    rw [(h'.1 c).1, Cert.KernelIdeal.Moe.outv_eq H c, Cert.ReferenceIdeal.Moe.res_eq]
  · exact (θ_run Cert.ReferenceIdeal.defs _ _).mono (fun r h' => h' 0) (Cert.ReferenceIdeal.Value.run (F := Ideal) m' g')

theorem claim : Cert.Claim := ⟨Cert.Kernel.Gen.facts, Cert.KernelIdeal.Gen.facts, Cert.ReferenceIdeal.Gen.facts,
  frame_Kernel, frame_KernelIdeal, frame_ReferenceIdeal, trivial, kernel_is_reference⟩

end Cert.Proof

end
